-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite [hPre_finite : Cert.Pre_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).1 = (fun _ => 1#1)
    ∧ (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.1 = (fun _ => 1#1)
    ∧ (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.1 = (fun _ => 1#1)
    ∧ (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite [hPre_finite : Cert.Pre_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).1 = (fun _ => 1#1)
    ∧ (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.1 = (fun _ => 1#1)
    ∧ (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.1 = (fun _ => 1#1)
    ∧ (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_ctx [hPre_finite_ctx : Cert.Pre_finite_ctx.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_ctx.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).1 = (fun _ => 1#1)
    ∧ (Cert.Pre_finite_ctx.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.1 = (fun _ => 1#1)
    ∧ (Cert.Pre_finite_ctx.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.1 = (fun _ => 1#1)
    ∧ (Cert.Pre_finite_ctx.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_ctx [hPre_finite_ctx : Cert.Pre_finite_ctx.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_ctx.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).1 = (fun _ => 1#1)
    ∧ (Cert.Pre_finite_ctx.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.1 = (fun _ => 1#1)
    ∧ (Cert.Pre_finite_ctx.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.1 = (fun _ => 1#1)
    ∧ (Cert.Pre_finite_ctx.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite [hKernel3Ideal : Cert.Kernel3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite [hReference3Ideal : Cert.Reference3Ideal.Facts] [hPre_finite : Cert.Pre_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite_ctx [hKernel4Ideal : Cert.Kernel4Ideal.Facts] [hPre_finite_ctx : Cert.Pre_finite_ctx.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_ctx m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite_ctx [hReference4Ideal : Cert.Reference4Ideal.Facts] [hPre_finite_ctx : Cert.Pre_finite_ctx.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_ctx m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)) (v2 : (c : Dev Cert.Kernel2Ideal.nD) → Buf (Elt Ideal) ((c.tc : Thread Cert.Kernel2Ideal.nD Cert.Kernel2Ideal.τ).loc Cert.Kernel2Ideal.main_v8_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_v8_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v48) = v0 c
          ∧ r.2.mem ((c.tc : Thread Cert.Reference2Ideal.nD Cert.Reference2Ideal.τ).loc Cert.Reference2Ideal.main_v50) = v1 c
          ∧ r.2.mem ((c.tc : Thread Cert.Reference2Ideal.nD Cert.Reference2Ideal.τ).loc Cert.Reference2Ideal.main_v52) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal_pre_finite [hKernel3Ideal : Cert.Kernel3Ideal.Facts] [hReference3Ideal : Cert.Reference3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v24_0)) (v1 : (c : Dev Cert.Kernel3Ideal.nD) → Buf (Elt Ideal) ((c.tc : Thread Cert.Kernel3Ideal.nD Cert.Kernel3Ideal.τ).loc Cert.Kernel3Ideal.main_v24_1)) (v2 : (c : Dev Cert.Kernel3Ideal.nD) → Buf (Elt Ideal) ((c.tc : Thread Cert.Kernel3Ideal.nD Cert.Kernel3Ideal.τ).loc Cert.Kernel3Ideal.main_v24_2)) (v3 : (c : Dev Cert.Kernel3Ideal.nD) → Buf (Elt Ideal) ((c.tc : Thread Cert.Kernel3Ideal.nD Cert.Kernel3Ideal.τ).loc Cert.Kernel3Ideal.main_v24_3)) (v4 : (c : Dev Cert.Kernel3Ideal.nD) → Buf (Elt Ideal) ((c.tc : Thread Cert.Kernel3Ideal.nD Cert.Kernel3Ideal.τ).loc Cert.Kernel3Ideal.main_v24_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v24_0) = v0 c
          ∧ r.2.mem ((c.tc : Thread Cert.Kernel3Ideal.nD Cert.Kernel3Ideal.τ).loc Cert.Kernel3Ideal.main_v24_1) = v1 c
          ∧ r.2.mem ((c.tc : Thread Cert.Kernel3Ideal.nD Cert.Kernel3Ideal.τ).loc Cert.Kernel3Ideal.main_v24_2) = v2 c
          ∧ r.2.mem ((c.tc : Thread Cert.Kernel3Ideal.nD Cert.Kernel3Ideal.τ).loc Cert.Kernel3Ideal.main_v24_3) = v3 c
          ∧ r.2.mem ((c.tc : Thread Cert.Kernel3Ideal.nD Cert.Kernel3Ideal.τ).loc Cert.Kernel3Ideal.main_v24_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v69) = v0 c
          ∧ r.2.mem ((c.tc : Thread Cert.Reference3Ideal.nD Cert.Reference3Ideal.τ).loc Cert.Reference3Ideal.main_v71) = v1 c
          ∧ r.2.mem ((c.tc : Thread Cert.Reference3Ideal.nD Cert.Reference3Ideal.τ).loc Cert.Reference3Ideal.main_v86) = v2 c
          ∧ r.2.mem ((c.tc : Thread Cert.Reference3Ideal.nD Cert.Reference3Ideal.τ).loc Cert.Reference3Ideal.main_v94) = v3 c
          ∧ r.2.mem ((c.tc : Thread Cert.Reference3Ideal.nD Cert.Reference3Ideal.τ).loc Cert.Reference3Ideal.main_v102) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal_pre_finite_ctx [hKernel4Ideal : Cert.Kernel4Ideal.Facts] [hReference4Ideal : Cert.Reference4Ideal.Facts] [hPre_finite_ctx : Cert.Pre_finite_ctx.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_ctx m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v18_0)) (v1 : (c : Dev Cert.Kernel4Ideal.nD) → Buf (Elt Ideal) ((c.tc : Thread Cert.Kernel4Ideal.nD Cert.Kernel4Ideal.τ).loc Cert.Kernel4Ideal.main_v18_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v18_0) = v0 c
          ∧ r.2.mem ((c.tc : Thread Cert.Kernel4Ideal.nD Cert.Kernel4Ideal.τ).loc Cert.Kernel4Ideal.main_v18_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v45) = v0 c
          ∧ r.2.mem ((c.tc : Thread Cert.Reference4Ideal.nD Cert.Reference4Ideal.τ).loc Cert.Reference4Ideal.main_v46) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite_ctx : Cert.Pre_finite_ctx.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite (hKernel3Ideal := hKernel3Ideal) (hPre_finite := hPre_finite)
    ∧ quiescent_Reference3Ideal (hReference3Ideal := hReference3Ideal)
    ∧ quiescent_Reference3Ideal_pre_finite (hReference3Ideal := hReference3Ideal) (hPre_finite := hPre_finite)
    ∧ quiescent_Kernel4 (hKernel4 := hKernel4)
    ∧ quiescent_Kernel4Ideal (hKernel4Ideal := hKernel4Ideal)
    ∧ quiescent_Kernel4Ideal_pre_finite_ctx (hKernel4Ideal := hKernel4Ideal) (hPre_finite_ctx := hPre_finite_ctx)
    ∧ quiescent_Reference4Ideal (hReference4Ideal := hReference4Ideal)
    ∧ quiescent_Reference4Ideal_pre_finite_ctx (hReference4Ideal := hReference4Ideal) (hPre_finite_ctx := hPre_finite_ctx)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite (hKernel3Ideal := hKernel3Ideal) (hReference3Ideal := hReference3Ideal) (hPre_finite := hPre_finite)
    ∧ preserves_Kernel4_Kernel4Ideal
    ∧ algebraic_Kernel4Ideal_Reference4Ideal_pre_finite_ctx (hKernel4Ideal := hKernel4Ideal) (hReference4Ideal := hReference4Ideal) (hPre_finite_ctx := hPre_finite_ctx)
-- ==== Pre_finite.lean ====
abbrev S16384x1024 : Shape := ⟨2, ![16384, 1024]⟩
abbrev S8x6144 : Shape := ⟨2, ![8, 6144]⟩
abbrev S1024 : Shape := ⟨1, ![1024]⟩
abbrev S1024x5632 : Shape := ⟨2, ![1024, 5632]⟩
abbrev S64 : Shape := ⟨1, ![64]⟩
abbrev S_ : Shape := ⟨0, ![]⟩
abbrev S4x2048 : Shape := ⟨2, ![4, 2048]⟩
abbrev S1024x1024 : Shape := ⟨2, ![1024, 1024]⟩

class Facts : Prop where
  bcast_S_S16384x1024 : S_.BroadcastsInDim S16384x1024 (![] : Fin 0 → Fin S16384x1024.rank)
  slices_S8x6144_S4x2048_0_0 : S8x6144.Slices ![0, 0] S4x2048
  bcast_S_S4x2048 : S_.BroadcastsInDim S4x2048 (![] : Fin 0 → Fin S4x2048.rank)
  bcast_S_S1024 : S_.BroadcastsInDim S1024 (![] : Fin 0 → Fin S1024.rank)
  slices_S1024x5632_S1024x1024_0_0 : S1024x5632.Slices ![0, 0] S1024x1024
  bcast_S_S1024x1024 : S_.BroadcastsInDim S1024x1024 (![] : Fin 0 → Fin S1024x1024.rank)

variable [Facts]

def fn {F : FTy → Type} [FloatOps F] (main_arg0 : FVec F S16384x1024 .f32) (main_arg1 : FVec F S8x6144 .f32) (main_arg2 : FVec F S1024 .f32) (main_arg3 : FVec F S1024x5632 .f32) (main_arg4 : FVec F S64 .f32) (main_arg5 : FVec F S64 .f32) : IVec S16384x1024 1 × IVec S4x2048 1 × IVec S1024 1 × IVec S1024x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S4x2048 .f32 := (extractStridedSlice S4x2048 ![0, 0] · slices_S8x6144_S4x2048_0_0) main_arg1
  let main_v4 : FVec F S4x2048 .f32 := Host.absf main_v3
  let main_cst_0 : FVec F S_ .f32 := constant S_ .f32 0x7F800000#32
  let main_v5 : FVec F S4x2048 .f32 := broadcastInDim S4x2048 ![] bcast_S_S4x2048 main_cst_0
  let main_v6 : IVec S4x2048 1 := cmpf .olt main_v4 main_v5
  let main_v7 : FVec F S1024 .f32 := Host.absf main_arg2
  let main_cst_1 : FVec F S_ .f32 := constant S_ .f32 0x7F800000#32
  let main_v8 : FVec F S1024 .f32 := broadcastInDim S1024 ![] bcast_S_S1024 main_cst_1
  let main_v9 : IVec S1024 1 := cmpf .olt main_v7 main_v8
  let main_v10 : FVec F S1024x1024 .f32 := (extractStridedSlice S1024x1024 ![0, 0] · slices_S1024x5632_S1024x1024_0_0) main_arg3
  let main_v11 : FVec F S1024x1024 .f32 := Host.absf main_v10
  let main_cst_2 : FVec F S_ .f32 := constant S_ .f32 0x7F800000#32
  let main_v12 : FVec F S1024x1024 .f32 := broadcastInDim S1024x1024 ![] bcast_S_S1024x1024 main_cst_2
  let main_v13 : IVec S1024x1024 1 := cmpf .olt main_v11 main_v12
  (main_v2, main_v6, main_v9, main_v13)
-- ==== Pre_finite_ctx.lean ====
abbrev S1024x1024 : Shape := ⟨2, ![1024, 1024]⟩
abbrev S8x6144 : Shape := ⟨2, ![8, 6144]⟩
abbrev S1024 : Shape := ⟨1, ![1024]⟩
abbrev S1024x5632 : Shape := ⟨2, ![1024, 5632]⟩
abbrev S64 : Shape := ⟨1, ![64]⟩
abbrev S_ : Shape := ⟨0, ![]⟩
abbrev S1x2048 : Shape := ⟨2, ![1, 2048]⟩
abbrev S2048 : Shape := ⟨1, ![2048]⟩
abbrev S1024x512 : Shape := ⟨2, ![1024, 512]⟩

class Facts : Prop where
  bcast_S_S1024x1024 : S_.BroadcastsInDim S1024x1024 (![] : Fin 0 → Fin S1024x1024.rank)
  slices_S8x6144_S1x2048_4_0 : S8x6144.Slices ![4, 0] S1x2048
  shapeCasts_S1x2048_S2048 : S1x2048.ShapeCasts S2048
  bcast_S_S2048 : S_.BroadcastsInDim S2048 (![] : Fin 0 → Fin S2048.rank)
  bcast_S_S1024 : S_.BroadcastsInDim S1024 (![] : Fin 0 → Fin S1024.rank)
  slices_S1024x5632_S1024x512_0_512 : S1024x5632.Slices ![0, 512] S1024x512
  bcast_S_S1024x512 : S_.BroadcastsInDim S1024x512 (![] : Fin 0 → Fin S1024x512.rank)

variable [Facts]

def fn {F : FTy → Type} [FloatOps F] (main_arg0 : FVec F S1024x1024 .f32) (main_arg1 : FVec F S8x6144 .f32) (main_arg2 : FVec F S1024 .f32) (main_arg3 : FVec F S1024x5632 .f32) (main_arg4 : FVec F S64 .f32) : IVec S1024x1024 1 × IVec S2048 1 × IVec S1024 1 × IVec S1024x512 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_v3 : FVec F S1x2048 .f32 := (extractStridedSlice S1x2048 ![4, 0] · slices_S8x6144_S1x2048_4_0) main_arg1
  let main_v4 : FVec F S2048 .f32 := shapeCast S2048 main_v3 shapeCasts_S1x2048_S2048
  let main_v5 : FVec F S2048 .f32 := Host.absf main_v4
  let main_cst_0 : FVec F S_ .f32 := constant S_ .f32 0x7F800000#32
  let main_v6 : FVec F S2048 .f32 := broadcastInDim S2048 ![] bcast_S_S2048 main_cst_0
  let main_v7 : IVec S2048 1 := cmpf .olt main_v5 main_v6
  let main_v8 : FVec F S1024 .f32 := Host.absf main_arg2
  let main_cst_1 : FVec F S_ .f32 := constant S_ .f32 0x7F800000#32
  let main_v9 : FVec F S1024 .f32 := broadcastInDim S1024 ![] bcast_S_S1024 main_cst_1
  let main_v10 : IVec S1024 1 := cmpf .olt main_v8 main_v9
  let main_v11 : FVec F S1024x512 .f32 := (extractStridedSlice S1024x512 ![0, 512] · slices_S1024x5632_S1024x512_0_512) main_arg3
  let main_v12 : FVec F S1024x512 .f32 := Host.absf main_v11
  let main_cst_2 : FVec F S_ .f32 := constant S_ .f32 0x7F800000#32
  let main_v13 : FVec F S1024x512 .f32 := broadcastInDim S1024x512 ![] bcast_S_S1024x512 main_cst_2
  let main_v14 : IVec S1024x512 1 := cmpf .olt main_v12 main_v13
  (main_v2, main_v7, main_v10, main_v14)
-- ==== Kernel.lean ====
abbrev S16384x1024 : Shape := ⟨2, ![16384, 1024]⟩
abbrev S1024x1024 : Shape := ⟨2, ![1024, 1024]⟩
abbrev S2x8x128x128 : Shape := ⟨4, ![2, 8, 128, 128]⟩
abbrev S2x1024 : Shape := ⟨2, ![2, 1024]⟩
abbrev S1x8x128x128 : Shape := ⟨4, ![1, 8, 128, 128]⟩
abbrev S8x128x128 : Shape := ⟨3, ![8, 128, 128]⟩
abbrev S8x128x256 : Shape := ⟨3, ![8, 128, 256]⟩
abbrev S1x1024 : Shape := ⟨2, ![1, 1024]⟩
abbrev S1024 : Shape := ⟨1, ![1024]⟩
abbrev S256x1024 : Shape := ⟨2, ![256, 1024]⟩
abbrev S256x128 : Shape := ⟨2, ![256, 128]⟩
abbrev S1x128x256 : Shape := ⟨3, ![1, 128, 256]⟩
abbrev S128x256 : Shape := ⟨2, ![128, 256]⟩
abbrev S256x256 : Shape := ⟨2, ![256, 256]⟩
abbrev S1x128 : Shape := ⟨2, ![1, 128]⟩
abbrev S32x8x1024 : Shape := ⟨3, ![32, 8, 1024]⟩
abbrev S1x8x1 : Shape := ⟨3, ![1, 8, 1]⟩
abbrev S8x1024 : Shape := ⟨2, ![8, 1024]⟩

abbrev nBuf : Space → Nat
  | .hbm => 26
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S2x8x128x128, .f32⟩
  | .hbm, ⟨3, _⟩ => ⟨S2x1024, .f32⟩
  | .hbm, ⟨4, _⟩ => ⟨S2x8x128x128, .f32⟩
  | .hbm, ⟨5, _⟩ => ⟨S2x1024, .f32⟩
  | .hbm, ⟨6, _⟩ => ⟨S2x1024, .f32⟩
  | .hbm, ⟨7, _⟩ => ⟨S16384x1024, .f32⟩
  | .hbm, ⟨8, _⟩ => ⟨S16384x1024, .f32⟩
  | .hbm, ⟨9, _⟩ => ⟨S1x8x128x128, .f32⟩
  | .hbm, ⟨10, _⟩ => ⟨S8x128x128, .f32⟩
  | .hbm, ⟨11, _⟩ => ⟨S1x8x128x128, .f32⟩
  | .hbm, ⟨12, _⟩ => ⟨S8x128x128, .f32⟩
  | .hbm, ⟨13, _⟩ => ⟨S8x128x256, .f32⟩
  | .hbm, ⟨14, _⟩ => ⟨S8x128x256, .bf16⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S1x1024, .f32⟩
  | .hbm, ⟨21, _⟩ => ⟨S2x1024, .f32⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S8x128x256, .bf16⟩
  | .local _ .vmem, ⟨5, _⟩ => ⟨S2x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![4, 17], ![false, false]⟩

def k0_mult1 : BitVec 32 :=
  let c0_i32_123 : BitVec 32 := 0#32
  let c8_i32 : BitVec 32 := 8#32
  let v354 : BitVec 32 := Scalar.muli c0_i32_123 c8_i32
  v354
def k0_off1 (c0_i32_123 : BitVec 32) : Fin 2 → Nat :=
  let c8_i32 : BitVec 32 := 8#32
  let v354 : BitVec 32 := Scalar.muli c0_i32_123 c8_i32
  let v355 : BitVec 32 := v354
  let v356 : Index := Scalar.indexCast v355
  let c0_124 : Index := 0#32
  ![v356.toNat, 0]
def k0_mult2 : BitVec 32 :=
  let c1_i32_129 : BitVec 32 := 1#32
  let c8_i32_130 : BitVec 32 := 8#32
  let v372 : BitVec 32 := Scalar.muli c1_i32_129 c8_i32_130
  v372
def k0_mult3 : BitVec 32 :=
  let c2_i32_136 : BitVec 32 := 2#32
  let c8_i32_137 : BitVec 32 := 8#32
  let v390 : BitVec 32 := Scalar.muli c2_i32_136 c8_i32_137
  v390
def k0_mult4 : BitVec 32 :=
  let c3_i32 : BitVec 32 := 3#32
  let c8_i32_143 : BitVec 32 := 8#32
  let v408 : BitVec 32 := Scalar.muli c3_i32 c8_i32_143
  v408
def k0_mult5 : BitVec 32 :=
  let c4_i32_149 : BitVec 32 := 4#32
  let c8_i32_150 : BitVec 32 := 8#32
  let v426 : BitVec 32 := Scalar.muli c4_i32_149 c8_i32_150
  v426
def k0_mult6 : BitVec 32 :=
  let c5_i32 : BitVec 32 := 5#32
  let c8_i32_156 : BitVec 32 := 8#32
  let v444 : BitVec 32 := Scalar.muli c5_i32 c8_i32_156
  v444
def k0_mult7 : BitVec 32 :=
  let c6_i32 : BitVec 32 := 6#32
  let c8_i32_162 : BitVec 32 := 8#32
  let v462 : BitVec 32 := Scalar.muli c6_i32 c8_i32_162
  v462
def k0_mult8 : BitVec 32 :=
  let c7_i32 : BitVec 32 := 7#32
  let c8_i32_168 : BitVec 32 := 8#32
  let v480 : BitVec 32 := Scalar.muli c7_i32 c8_i32_168
  v480
def k0_mult9 : BitVec 32 :=
  let c8_i32_174 : BitVec 32 := 8#32
  let c8_i32_175 : BitVec 32 := 8#32
  let v498 : BitVec 32 := Scalar.muli c8_i32_174 c8_i32_175
  v498
def k0_mult10 : BitVec 32 :=
  let c9_i32 : BitVec 32 := 9#32
  let c8_i32_181 : BitVec 32 := 8#32
  let v516 : BitVec 32 := Scalar.muli c9_i32 c8_i32_181
  v516
def k0_mult11 : BitVec 32 :=
  let c10_i32 : BitVec 32 := 10#32
  let c8_i32_187 : BitVec 32 := 8#32
  let v534 : BitVec 32 := Scalar.muli c10_i32 c8_i32_187
  v534
def k0_mult12 : BitVec 32 :=
  let c11_i32 : BitVec 32 := 11#32
  let c8_i32_193 : BitVec 32 := 8#32
  let v552 : BitVec 32 := Scalar.muli c11_i32 c8_i32_193
  v552
def k0_mult13 : BitVec 32 :=
  let c12_i32 : BitVec 32 := 12#32
  let c8_i32_199 : BitVec 32 := 8#32
  let v570 : BitVec 32 := Scalar.muli c12_i32 c8_i32_199
  v570
def k0_mult14 : BitVec 32 :=
  let c13_i32 : BitVec 32 := 13#32
  let c8_i32_205 : BitVec 32 := 8#32
  let v588 : BitVec 32 := Scalar.muli c13_i32 c8_i32_205
  v588
def k0_mult15 : BitVec 32 :=
  let c14_i32 : BitVec 32 := 14#32
  let c8_i32_211 : BitVec 32 := 8#32
  let v606 : BitVec 32 := Scalar.muli c14_i32 c8_i32_211
  v606
def k0_mult16 : BitVec 32 :=
  let c15_i32 : BitVec 32 := 15#32
  let c8_i32_217 : BitVec 32 := 8#32
  let v624 : BitVec 32 := Scalar.muli c15_i32 c8_i32_217
  v624
def k0_mult17 : BitVec 32 :=
  let c16_i32 : BitVec 32 := 16#32
  let c8_i32_223 : BitVec 32 := 8#32
  let v642 : BitVec 32 := Scalar.muli c16_i32 c8_i32_223
  v642
def k0_mult18 : BitVec 32 :=
  let c17_i32 : BitVec 32 := 17#32
  let c8_i32_229 : BitVec 32 := 8#32
  let v660 : BitVec 32 := Scalar.muli c17_i32 c8_i32_229
  v660
def k0_mult19 : BitVec 32 :=
  let c18_i32 : BitVec 32 := 18#32
  let c8_i32_235 : BitVec 32 := 8#32
  let v678 : BitVec 32 := Scalar.muli c18_i32 c8_i32_235
  v678
def k0_mult20 : BitVec 32 :=
  let c19_i32 : BitVec 32 := 19#32
  let c8_i32_241 : BitVec 32 := 8#32
  let v696 : BitVec 32 := Scalar.muli c19_i32 c8_i32_241
  v696
def k0_mult21 : BitVec 32 :=
  let c20_i32 : BitVec 32 := 20#32
  let c8_i32_247 : BitVec 32 := 8#32
  let v714 : BitVec 32 := Scalar.muli c20_i32 c8_i32_247
  v714
def k0_mult22 : BitVec 32 :=
  let c21_i32 : BitVec 32 := 21#32
  let c8_i32_253 : BitVec 32 := 8#32
  let v732 : BitVec 32 := Scalar.muli c21_i32 c8_i32_253
  v732
def k0_mult23 : BitVec 32 :=
  let c22_i32 : BitVec 32 := 22#32
  let c8_i32_259 : BitVec 32 := 8#32
  let v750 : BitVec 32 := Scalar.muli c22_i32 c8_i32_259
  v750
def k0_mult24 : BitVec 32 :=
  let c23_i32 : BitVec 32 := 23#32
  let c8_i32_265 : BitVec 32 := 8#32
  let v768 : BitVec 32 := Scalar.muli c23_i32 c8_i32_265
  v768
def k0_mult25 : BitVec 32 :=
  let c24_i32 : BitVec 32 := 24#32
  let c8_i32_271 : BitVec 32 := 8#32
  let v786 : BitVec 32 := Scalar.muli c24_i32 c8_i32_271
  v786
def k0_mult26 : BitVec 32 :=
  let c25_i32 : BitVec 32 := 25#32
  let c8_i32_277 : BitVec 32 := 8#32
  let v804 : BitVec 32 := Scalar.muli c25_i32 c8_i32_277
  v804
def k0_mult27 : BitVec 32 :=
  let c26_i32 : BitVec 32 := 26#32
  let c8_i32_283 : BitVec 32 := 8#32
  let v822 : BitVec 32 := Scalar.muli c26_i32 c8_i32_283
  v822
def k0_mult28 : BitVec 32 :=
  let c27_i32 : BitVec 32 := 27#32
  let c8_i32_289 : BitVec 32 := 8#32
  let v840 : BitVec 32 := Scalar.muli c27_i32 c8_i32_289
  v840
def k0_mult29 : BitVec 32 :=
  let c28_i32 : BitVec 32 := 28#32
  let c8_i32_295 : BitVec 32 := 8#32
  let v858 : BitVec 32 := Scalar.muli c28_i32 c8_i32_295
  v858
def k0_mult30 : BitVec 32 :=
  let c29_i32 : BitVec 32 := 29#32
  let c8_i32_301 : BitVec 32 := 8#32
  let v876 : BitVec 32 := Scalar.muli c29_i32 c8_i32_301
  v876
def k0_mult31 : BitVec 32 :=
  let c30_i32 : BitVec 32 := 30#32
  let c8_i32_307 : BitVec 32 := 8#32
  let v894 : BitVec 32 := Scalar.muli c30_i32 c8_i32_307
  v894
def k0_mult32 : BitVec 32 :=
  let c31_i32 : BitVec 32 := 31#32
  let c8_i32_313 : BitVec 32 := 8#32
  let v912 : BitVec 32 := Scalar.muli c31_i32 c8_i32_313
  v912
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 1 := Scalar.cmpi .eq arg1 c0_i32
  let c1_i32 : BitVec 32 := 1#32
  let v2 : BitVec 32 := Scalar.subi arg1 c1_i32
  let c0_i32_0 : BitVec 32 := 0#32
  let v3 : BitVec 32 := Scalar.select v1 c0_i32_0 v2
  let v4 : BitVec 32 := Scalar.addi v0 v3
  let c0_i32_1 : BitVec 32 := 0#32
  let c0_i32_2 : BitVec 32 := 0#32
  ![v4.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 1 := Scalar.cmpi .eq arg1 c0_i32
  let c1_i32 : BitVec 32 := 1#32
  let v2 : BitVec 32 := Scalar.subi arg1 c1_i32
  let c0_i32_0 : BitVec 32 := 0#32
  let v3 : BitVec 32 := Scalar.select v1 c0_i32_0 v2
  let v4 : BitVec 32 := Scalar.addi v0 v3
  let c0_i32_1 : BitVec 32 := 0#32
  let c0_i32_2 : BitVec 32 := 0#32
  ![v4.toNat, c0_i32_1.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 1 := Scalar.cmpi .eq arg1 c0_i32
  let c1_i32 : BitVec 32 := 1#32
  let v2 : BitVec 32 := Scalar.subi arg1 c1_i32
  let c0_i32_0 : BitVec 32 := 0#32
  let v3 : BitVec 32 := Scalar.select v1 c0_i32_0 v2
  let v4 : BitVec 32 := Scalar.addi v0 v3
  let c0_i32_1 : BitVec 32 := 0#32
  let c0_i32_2 : BitVec 32 := 0#32
  ![v4.toNat, c0_i32_1.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 1 := Scalar.cmpi .eq arg1 c0_i32
  let c1_i32 : BitVec 32 := 1#32
  let v2 : BitVec 32 := Scalar.subi arg1 c1_i32
  let c0_i32_0 : BitVec 32 := 0#32
  let v3 : BitVec 32 := Scalar.select v1 c0_i32_0 v2
  let v4 : BitVec 32 := Scalar.addi v0 v3
  let c0_i32_1 : BitVec 32 := 0#32
  let c0_i32_2 : BitVec 32 := 0#32
  ![v4.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S8x128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S16384x1024 : Shape := ⟨2, ![16384, 1024]⟩
abbrev S1024x1024 : Shape := ⟨2, ![1024, 1024]⟩
abbrev S2x8x128x128 : Shape := ⟨4, ![2, 8, 128, 128]⟩
abbrev S2x1024 : Shape := ⟨2, ![2, 1024]⟩
abbrev S4x256x1024 : Shape := ⟨3, ![4, 256, 1024]⟩
abbrev S4x4096x1024 : Shape := ⟨3, ![4, 4096, 1024]⟩
abbrev S4x4352x1024 : Shape := ⟨3, ![4, 4352, 1024]⟩
abbrev S1x8x128x128 : Shape := ⟨4, ![1, 8, 128, 128]⟩
abbrev S8x128x128 : Shape := ⟨3, ![8, 128, 128]⟩
abbrev S1x1024 : Shape := ⟨2, ![1, 1024]⟩
abbrev S1024 : Shape := ⟨1, ![1024]⟩
abbrev S4x4352x8x128 : Shape := ⟨4, ![4, 4352, 8, 128]⟩
abbrev S8x128x4x4352 : Shape := ⟨4, ![8, 128, 4, 4352]⟩
abbrev S1x1x1024 : Shape := ⟨3, ![1, 1, 1024]⟩
abbrev S_ : Shape := ⟨0, ![]⟩
abbrev S4x1024 : Shape := ⟨2, ![4, 1024]⟩
abbrev S4352x4x1024 : Shape := ⟨3, ![4352, 4, 1024]⟩
abbrev S1x4x1024 : Shape := ⟨3, ![1, 4, 1024]⟩

abbrev nBuf : Space → Nat
  | .hbm => 116
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S2x8x128x128, .f32⟩
  | .hbm, ⟨3, _⟩ => ⟨S2x1024, .f32⟩
  | .hbm, ⟨4, _⟩ => ⟨S2x8x128x128, .f32⟩
  | .hbm, ⟨5, _⟩ => ⟨S2x1024, .f32⟩
  | .hbm, ⟨6, _⟩ => ⟨S2x1024, .f32⟩
  | .hbm, ⟨7, _⟩ => ⟨S16384x1024, .f32⟩
  | .hbm, ⟨8, _⟩ => ⟨S16384x1024, .f32⟩
  | .hbm, ⟨9, _⟩ => ⟨S4x256x1024, .f32⟩
  | .hbm, ⟨10, _⟩ => ⟨S4x4096x1024, .f32⟩
  | .hbm, ⟨11, _⟩ => ⟨S4x4352x1024, .f32⟩
  | .hbm, ⟨12, _⟩ => ⟨S1x8x128x128, .f32⟩
  | .hbm, ⟨13, _⟩ => ⟨S8x128x128, .f32⟩
  | .hbm, ⟨14, _⟩ => ⟨S1x1024, .f32⟩
  | .hbm, ⟨15, _⟩ => ⟨S1024, .f32⟩
  | .hbm, ⟨16, _⟩ => ⟨S1x8x128x128, .f32⟩
  | .hbm, ⟨17, _⟩ => ⟨S8x128x128, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S1024, .f32⟩
  | .hbm, ⟨22, _⟩ => ⟨S4x4352x8x128, .f32⟩
  | .hbm, ⟨23, _⟩ => ⟨S8x128x4x4352, .f32⟩
  | .hbm, ⟨24, _⟩ => ⟨S4x4352x8x128, .f32⟩
  | .hbm, ⟨25, _⟩ => ⟨S4x4352x1024, .f32⟩
  | .hbm, ⟨26, _⟩ => ⟨S1x1x1024, .f32⟩
  | .hbm, ⟨27, _⟩ => ⟨S4x4352x1024, .f32⟩
  | .hbm, ⟨28, _⟩ => ⟨S4x4352x1024, .f32⟩
  | .hbm, ⟨29, _⟩ => ⟨S4x4352x1024, .f32⟩
  | .hbm, ⟨30, _⟩ => ⟨S4x4352x1024, .f32⟩
  | .hbm, ⟨31, _⟩ => ⟨S_, .f32⟩
  | .hbm, ⟨32, _⟩ => ⟨S4x4352x1024, .f32⟩
  | .hbm, ⟨33, _⟩ => ⟨S4x4352x1024, .f32⟩
  | .hbm, ⟨34, _⟩ => ⟨S_, .f32⟩
  | .hbm, ⟨35, _⟩ => ⟨S4x4352x1024, .f32⟩
  | .hbm, ⟨36, _⟩ => ⟨S4x4352x1024, .f32⟩
  | .hbm, ⟨37, _⟩ => ⟨S8x128x4x4352, .f32⟩
  | .hbm, ⟨38, _⟩ => ⟨S4x4352x8x128, .f32⟩
  | .hbm, ⟨39, _⟩ => ⟨S4x4352x1024, .f32⟩
  | .hbm, ⟨40, _⟩ => ⟨S1x1x1024, .f32⟩
  | .hbm, ⟨41, _⟩ => ⟨S4x4352x1024, .f32⟩
  | .hbm, ⟨42, _⟩ => ⟨S4x4352x1024, .f32⟩
  | .hbm, ⟨43, _⟩ => ⟨S4x4352x1024, .f32⟩
  | .hbm, ⟨44, _⟩ => ⟨S4x4352x1024, .f32⟩
  | .hbm, ⟨45, _⟩ => ⟨S_, .f32⟩
  | .hbm, ⟨46, _⟩ => ⟨S4x4352x1024, .f32⟩
  | .hbm, ⟨47, _⟩ => ⟨S4x4352x1024, .f32⟩
  | .hbm, ⟨48, _⟩ => ⟨S_, .f32⟩
  | .hbm, ⟨49, _⟩ => ⟨S4x4352x1024, .f32⟩
  | .hbm, ⟨50, _⟩ => ⟨S4x4352x1024, .f32⟩
  | .hbm, ⟨51, _⟩ => ⟨S_, .f32⟩
  | .hbm, ⟨52, _⟩ => ⟨S4x4352x1024, .f32⟩
  | .hbm, ⟨53, _⟩ => ⟨S4x4352x1024, .f32⟩
  | .hbm, ⟨54, _⟩ => ⟨S1024, .f32⟩
  | .hbm, ⟨55, _⟩ => ⟨S_, .f32⟩
  | .hbm, ⟨56, _⟩ => ⟨S1024, .f32⟩
  | .hbm, ⟨57, _⟩ => ⟨S1024, .f32⟩
  | .hbm, ⟨58, _⟩ => ⟨S1024, .f32⟩
  | .hbm, ⟨59, _⟩ => ⟨S1024, .f32⟩
  | .hbm, ⟨60, _⟩ => ⟨S1024, .i1⟩
  | .hbm, ⟨61, _⟩ => ⟨S1024, .f32⟩
  | .hbm, ⟨62, _⟩ => ⟨S1024, .f32⟩
  | .hbm, ⟨63, _⟩ => ⟨S1024, .f32⟩
  | .hbm, ⟨64, _⟩ => ⟨S1024, .f32⟩
  | .hbm, ⟨65, _⟩ => ⟨S1024, .f32⟩
  | .hbm, ⟨66, _⟩ => ⟨S1024, .f32⟩
  | .hbm, ⟨67, _⟩ => ⟨S1024, .f32⟩
  | .hbm, ⟨68, _⟩ => ⟨S1024, .f32⟩
  | .hbm, ⟨69, _⟩ => ⟨S1x1x1024, .f32⟩
  | .hbm, ⟨70, _⟩ => ⟨S4x4352x1024, .f32⟩
  | .hbm, ⟨71, _⟩ => ⟨S4x4352x1024, .f32⟩
  | .hbm, ⟨72, _⟩ => ⟨S4x4352x1024, .f32⟩
  | .hbm, ⟨73, _⟩ => ⟨S_, .f32⟩
  | .hbm, ⟨74, _⟩ => ⟨S4x4352x1024, .f32⟩
  | .hbm, ⟨75, _⟩ => ⟨S4x4352x1024, .f32⟩
  | .hbm, ⟨76, _⟩ => ⟨S4x4352x1024, .f32⟩
  | .hbm, ⟨77, _⟩ => ⟨S4x4352x1024, .f32⟩
  | .hbm, ⟨78, _⟩ => ⟨S4x4352x1024, .f32⟩
  | .hbm, ⟨79, _⟩ => ⟨S4x4352x1024, .f32⟩
  | .hbm, ⟨80, _⟩ => ⟨S4x4352x1024, .f32⟩
  | .hbm, ⟨81, _⟩ => ⟨S_, .f32⟩
  | .hbm, ⟨82, _⟩ => ⟨S4x1024, .f32⟩
  | .hbm, ⟨83, _⟩ => ⟨S4352x4x1024, .f32⟩
  | .hbm, ⟨84, _⟩ => ⟨S4352x4x1024, .f32⟩
  | .hbm, ⟨85, _⟩ => ⟨S_, .f32⟩
  | .hbm, ⟨86, _⟩ => ⟨S4352x4x1024, .f32⟩
  | .hbm, ⟨87, _⟩ => ⟨S_, .i32⟩
  | .hbm, ⟨88, _⟩ => ⟨S4352x4x1024, .f32⟩
  | .hbm, ⟨89, _⟩ => ⟨S4352x4x1024, .f32⟩
  | .hbm, ⟨90, _⟩ => ⟨S_, .i32⟩
  | .hbm, ⟨91, _⟩ => ⟨S4x1024, .f32⟩
  | .hbm, ⟨92, _⟩ => ⟨S4352x4x1024, .f32⟩
  | .hbm, ⟨93, _⟩ => ⟨S_, .i32⟩
  | .hbm, ⟨94, _⟩ => ⟨S_, .i1⟩
  | .hbm, ⟨95, _⟩ => ⟨S_, .i32⟩
  | .hbm, ⟨96, _⟩ => ⟨S_, .i32⟩
  | .hbm, ⟨97, _⟩ => ⟨S1x4x1024, .f32⟩
  | .hbm, ⟨98, _⟩ => ⟨S4x1024, .f32⟩
  | .hbm, ⟨99, _⟩ => ⟨S_, .i32⟩
  | .hbm, ⟨100, _⟩ => ⟨S_, .i32⟩
  | .hbm, ⟨101, _⟩ => ⟨S1x4x1024, .f32⟩
  | .hbm, ⟨102, _⟩ => ⟨S4x1024, .f32⟩
  | .hbm, ⟨103, _⟩ => ⟨S4x1024, .f32⟩
  | .hbm, ⟨104, _⟩ => ⟨S4x1024, .f32⟩
  | .hbm, ⟨105, _⟩ => ⟨S1x4x1024, .f32⟩
  | .hbm, ⟨106, _⟩ => ⟨S_, .i32⟩
  | .hbm, ⟨107, _⟩ => ⟨S_, .i32⟩
  | .hbm, ⟨108, _⟩ => ⟨S4352x4x1024, .f32⟩
  | .hbm, ⟨109, _⟩ => ⟨S_, .i32⟩
  | .hbm, ⟨110, _⟩ => ⟨S_, .i32⟩
  | .hbm, ⟨111, _⟩ => ⟨S4x4352x1024, .f32⟩
  | .hbm, ⟨112, _⟩ => ⟨S4x4096x1024, .f32⟩
  | .hbm, ⟨113, _⟩ => ⟨S16384x1024, .f32⟩
  | .hbm, ⟨114, _⟩ => ⟨S16384x1024, .f32⟩
  | .hbm, ⟨115, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst : Ref sig .tc := ⟨.hbm, 31, rfl⟩
abbrev main_v22 : Ref sig .tc := ⟨.hbm, 32, rfl⟩
abbrev main_v23 : Ref sig .tc := ⟨.hbm, 33, rfl⟩
abbrev main_cst_0 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_1 : Ref sig .tc := ⟨.hbm, 45, rfl⟩
abbrev main_v34 : Ref sig .tc := ⟨.hbm, 46, rfl⟩
abbrev main_v35 : Ref sig .tc := ⟨.hbm, 47, rfl⟩
abbrev main_cst_2 : Ref sig .tc := ⟨.hbm, 48, rfl⟩
abbrev main_v36 : Ref sig .tc := ⟨.hbm, 49, rfl⟩
abbrev main_v37 : Ref sig .tc := ⟨.hbm, 50, rfl⟩
abbrev main_cst_3 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_call0_cst : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_call0_v5 : Ref sig .tc := ⟨.hbm, 61, rfl⟩
abbrev main_call0_v6 : Ref sig .tc := ⟨.hbm, 62, rfl⟩
abbrev main_call0_v7 : Ref sig .tc := ⟨.hbm, 63, rfl⟩
abbrev main_call0_v8 : Ref sig .tc := ⟨.hbm, 64, rfl⟩
abbrev main_call0_v9 : Ref sig .tc := ⟨.hbm, 65, rfl⟩
abbrev main_call0_v10 : Ref sig .tc := ⟨.hbm, 66, rfl⟩
abbrev main_call0_v11 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_4 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_5 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_6 : Ref sig .tc := ⟨.hbm, 85, rfl⟩
abbrev main_v56 : Ref sig .tc := ⟨.hbm, 86, rfl⟩
abbrev main_c : Ref sig .tc := ⟨.hbm, 87, rfl⟩
abbrev main_v57_0 : Ref sig .tc := ⟨.hbm, 88, rfl⟩
abbrev main_v57_1 : Ref sig .tc := ⟨.hbm, 89, rfl⟩
abbrev main_v57_2 : Ref sig .tc := ⟨.hbm, 90, rfl⟩
abbrev main_v57_3 : Ref sig .tc := ⟨.hbm, 91, rfl⟩
abbrev main_v57_4 : Ref sig .tc := ⟨.hbm, 92, rfl⟩
abbrev main_while0c_c_11 : Ref sig .tc := ⟨.hbm, 93, rfl⟩
abbrev main_while0c_v63 : Ref sig .tc := ⟨.hbm, 94, rfl⟩
abbrev main_while0b_call1_c : Ref sig .tc := ⟨.hbm, 95, rfl⟩
abbrev main_while0b_call1_c_0 : Ref sig .tc := ⟨.hbm, 96, rfl⟩
abbrev main_while0b_call1_v0 : Ref sig .tc := ⟨.hbm, 97, rfl⟩
abbrev main_while0b_v63 : Ref sig .tc := ⟨.hbm, 98, rfl⟩
abbrev main_while0b_call2_c : Ref sig .tc := ⟨.hbm, 99, rfl⟩
abbrev main_while0b_call2_c_0 : Ref sig .tc := ⟨.hbm, 100, rfl⟩
abbrev main_while0b_call2_v0 : Ref sig .tc := ⟨.hbm, 101, rfl⟩
abbrev main_while0b_v64 : Ref sig .tc := ⟨.hbm, 102, rfl⟩
abbrev main_while0b_v65 : Ref sig .tc := ⟨.hbm, 103, rfl⟩
abbrev main_while0b_v66 : Ref sig .tc := ⟨.hbm, 104, rfl⟩
abbrev main_while0b_call3_v0 : Ref sig .tc := ⟨.hbm, 105, rfl⟩
abbrev main_while0b_call3_c : Ref sig .tc := ⟨.hbm, 106, rfl⟩
abbrev main_while0b_call3_c_0 : Ref sig .tc := ⟨.hbm, 107, rfl⟩
abbrev main_while0b_v67 : Ref sig .tc := ⟨.hbm, 108, rfl⟩
abbrev main_while0b_c_11 : Ref sig .tc := ⟨.hbm, 109, rfl⟩
abbrev main_while0b_v68 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩

abbrev nD : Nat := 1
abbrev τ : Topo := Topo.v7x

variable {F : FTy → Type} [FloatOps F]

abbrev main_while0_count : Scf.Loop 32 := ⟨0#32, 4352#32, 1#32⟩
-- ==== Kernel2.lean ====
abbrev S16384x512 : Shape := ⟨2, ![16384, 512]⟩
abbrev S16384x1024 : Shape := ⟨2, ![16384, 1024]⟩
abbrev S8x6144 : Shape := ⟨2, ![8, 6144]⟩
abbrev S512x1024 : Shape := ⟨2, ![512, 1024]⟩
abbrev S1024x1024 : Shape := ⟨2, ![1024, 1024]⟩
abbrev S1024 : Shape := ⟨1, ![1024]⟩
abbrev S1024x2048 : Shape := ⟨2, ![1024, 2048]⟩
abbrev S8x2x128x128 : Shape := ⟨4, ![8, 2, 128, 128]⟩
abbrev S16x128x128 : Shape := ⟨3, ![16, 128, 128]⟩
abbrev S8x1x6144 : Shape := ⟨3, ![8, 1, 6144]⟩
abbrev S1x1024 : Shape := ⟨2, ![1, 1024]⟩
abbrev S16x128x16384 : Shape := ⟨3, ![16, 128, 16384]⟩
abbrev S512x512 : Shape := ⟨2, ![512, 512]⟩
abbrev S1x1x6144 : Shape := ⟨3, ![1, 1, 6144]⟩
abbrev S16x128x512 : Shape := ⟨3, ![16, 128, 512]⟩
abbrev S1x1x1024 : Shape := ⟨3, ![1, 1, 1024]⟩
abbrev S512 : Shape := ⟨1, ![512]⟩
abbrev S512x1 : Shape := ⟨2, ![512, 1]⟩
abbrev S512x2048 : Shape := ⟨2, ![512, 2048]⟩
abbrev S1x128x128 : Shape := ⟨3, ![1, 128, 128]⟩
abbrev S128x128 : Shape := ⟨2, ![128, 128]⟩
abbrev S512x128 : Shape := ⟨2, ![512, 128]⟩
abbrev S128x512 : Shape := ⟨2, ![128, 512]⟩
abbrev S1x128x512 : Shape := ⟨3, ![1, 128, 512]⟩

abbrev nBuf : Space → Nat
  | .hbm => 23
  | .vmem => 24
  | .smem => 0
  | _ => 0

abbrev bufTy : (tb : Table) → Fin (tcTables nBuf tb) → BufTy
  | .hbm, ⟨0, _⟩ => ⟨S16384x512, .bf16⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S8x6144, .f32⟩
  | .hbm, ⟨6, _⟩ => ⟨S512x1024, .f32⟩
  | .hbm, ⟨7, _⟩ => ⟨S1024x1024, .f32⟩
  | .hbm, ⟨8, _⟩ => ⟨S1024x1024, .f32⟩
  | .hbm, ⟨9, _⟩ => ⟨S1024, .f32⟩
  | .hbm, ⟨10, _⟩ => ⟨S1024x2048, .f32⟩
  | .hbm, ⟨11, _⟩ => ⟨S8x2x128x128, .f32⟩
  | .hbm, ⟨12, _⟩ => ⟨S16x128x128, .f32⟩
  | .hbm, ⟨13, _⟩ => ⟨S16x128x128, .bf16⟩
  | .hbm, ⟨14, _⟩ => ⟨S8x1x6144, .f32⟩
  | .hbm, ⟨15, _⟩ => ⟨S512x1024, .bf16⟩
  | .hbm, ⟨16, _⟩ => ⟨S1024x1024, .bf16⟩
  | .hbm, ⟨17, _⟩ => ⟨S1024x1024, .bf16⟩
  | .hbm, ⟨18, _⟩ => ⟨S1x1024, .f32⟩
  | .hbm, ⟨19, _⟩ => ⟨S1024x2048, .bf16⟩
  | .hbm, ⟨20, _⟩ => ⟨S16384x1024, .f32⟩
  | .hbm, ⟨21, _⟩ => ⟨S16384x1024, .bf16⟩
  | .hbm, ⟨22, _⟩ => ⟨S16x128x16384, .f32⟩
  | .local _ .vmem, ⟨0, _⟩ => ⟨S512x512, .bf16⟩
  | .local _ .vmem, ⟨1, _⟩ => ⟨S512x512, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1x6144, .f32⟩
  | .local _ .vmem, ⟨11, _⟩ => ⟨S1x1x6144, .f32⟩
  | .local _ .vmem, ⟨12, _⟩ => ⟨S512x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1x1024, .f32⟩
  | .local _ .vmem, ⟨16, _⟩ => ⟨S1024x2048, .bf16⟩
  | .local _ .vmem, ⟨17, _⟩ => ⟨S16x128x128, .bf16⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | .local _ .vmem, ⟨22, _⟩ => ⟨S16x128x512, .f32⟩
  | .local _ .vmem, ⟨23, _⟩ => ⟨S16x128x512, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev main_v8_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x6144 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S16x128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S16x128x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference2Ideal.lean ====
abbrev S16384x512 : Shape := ⟨2, ![16384, 512]⟩
abbrev S16384x1024 : Shape := ⟨2, ![16384, 1024]⟩
abbrev S8x6144 : Shape := ⟨2, ![8, 6144]⟩
abbrev S512x1024 : Shape := ⟨2, ![512, 1024]⟩
abbrev S1024x1024 : Shape := ⟨2, ![1024, 1024]⟩
abbrev S1024 : Shape := ⟨1, ![1024]⟩
abbrev S1024x2048 : Shape := ⟨2, ![1024, 2048]⟩
abbrev S8x2x128x128 : Shape := ⟨4, ![8, 2, 128, 128]⟩
abbrev S4x4096x512 : Shape := ⟨3, ![4, 4096, 512]⟩
abbrev S4x4096x1024 : Shape := ⟨3, ![4, 4096, 1024]⟩
abbrev S4x6144 : Shape := ⟨2, ![4, 6144]⟩
abbrev S4x1024 : Shape := ⟨2, ![4, 1024]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2048 : Shape := ⟨3, ![4, 4096, 2048]⟩
abbrev S4x4096x8x2x128 : Shape := ⟨5, ![4, 4096, 8, 2, 128]⟩
abbrev S8x2x128x4x4096 : Shape := ⟨5, ![8, 2, 128, 4, 4096]⟩
abbrev S16384x16x128 : Shape := ⟨3, ![16384, 16, 128]⟩
abbrev S16x128x16384 : Shape := ⟨3, ![16, 128, 16384]⟩

abbrev nBuf : Space → Nat
  | .hbm => 69
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S8x6144, .f32⟩
  | .hbm, ⟨6, _⟩ => ⟨S512x1024, .f32⟩
  | .hbm, ⟨7, _⟩ => ⟨S1024x1024, .f32⟩
  | .hbm, ⟨8, _⟩ => ⟨S1024x1024, .f32⟩
  | .hbm, ⟨9, _⟩ => ⟨S1024, .f32⟩
  | .hbm, ⟨10, _⟩ => ⟨S1024x2048, .f32⟩
  | .hbm, ⟨11, _⟩ => ⟨S8x2x128x128, .f32⟩
  | .hbm, ⟨12, _⟩ => ⟨S16384x512, .f32⟩
  | .hbm, ⟨13, _⟩ => ⟨S4x4096x512, .f32⟩
  | .hbm, ⟨14, _⟩ => ⟨S4x4096x1024, .f32⟩
  | .hbm, ⟨15, _⟩ => ⟨S4x4096x1024, .f32⟩
  | .hbm, ⟨16, _⟩ => ⟨S4x4096x1024, .f32⟩
  | .hbm, ⟨17, _⟩ => ⟨S4x4096x1024, .f32⟩
  | .hbm, ⟨18, _⟩ => ⟨S4x6144, .f32⟩
  | .hbm, ⟨19, _⟩ => ⟨S4x1024, .f32⟩
  | .hbm, ⟨20, _⟩ => ⟨S4x1024, .f32⟩
  | .hbm, ⟨21, _⟩ => ⟨S4x1024, .f32⟩
  | .hbm, ⟨22, _⟩ => ⟨S4x1024, .f32⟩
  | .hbm, ⟨23, _⟩ => ⟨S4x1024, .f32⟩
  | .hbm, ⟨24, _⟩ => ⟨S4x1024, .f32⟩
  | .hbm, ⟨25, _⟩ => ⟨S4x4096x1024, .f32⟩
  | .hbm, ⟨26, _⟩ => ⟨S4x4096x1024, .f32⟩
  | .hbm, ⟨27, _⟩ => ⟨S4x4096x1024, .f32⟩
  | .hbm, ⟨28, _⟩ => ⟨S4x4096x1024, .f32⟩
  | .hbm, ⟨29, _⟩ => ⟨S4x4096x1024, .f32⟩
  | .hbm, ⟨30, _⟩ => ⟨S4x1x1024, .f32⟩
  | .hbm, ⟨31, _⟩ => ⟨S4x4096x1024, .f32⟩
  | .hbm, ⟨32, _⟩ => ⟨S4x4096x1024, .f32⟩
  | .hbm, ⟨33, _⟩ => ⟨S4x4096x1024, .f32⟩
  | .hbm, ⟨34, _⟩ => ⟨S4x4096x1024, .f32⟩
  | .hbm, ⟨35, _⟩ => ⟨S4x4096x1024, .f32⟩
  | .hbm, ⟨36, _⟩ => ⟨S_, .f32⟩
  | .hbm, ⟨37, _⟩ => ⟨S4x4096, .f32⟩
  | .hbm, ⟨38, _⟩ => ⟨S4x4096x1, .f32⟩
  | .hbm, ⟨39, _⟩ => ⟨S_, .f32⟩
  | .hbm, ⟨40, _⟩ => ⟨S4x4096x1, .f32⟩
  | .hbm, ⟨41, _⟩ => ⟨S4x4096x1, .f32⟩
  | .hbm, ⟨42, _⟩ => ⟨S_, .f32⟩
  | .hbm, ⟨43, _⟩ => ⟨S4x4096x1, .f32⟩
  | .hbm, ⟨44, _⟩ => ⟨S4x4096x1, .f32⟩
  | .hbm, ⟨45, _⟩ => ⟨S4x4096x1, .f32⟩
  | .hbm, ⟨46, _⟩ => ⟨S4x4096x1024, .f32⟩
  | .hbm, ⟨47, _⟩ => ⟨S4x4096x1024, .f32⟩
  | .hbm, ⟨48, _⟩ => ⟨S1x1x1024, .f32⟩
  | .hbm, ⟨49, _⟩ => ⟨S4x4096x1024, .f32⟩
  | .hbm, ⟨50, _⟩ => ⟨S4x4096x1024, .f32⟩
  | .hbm, ⟨51, _⟩ => ⟨S4x1x1024, .f32⟩
  | .hbm, ⟨52, _⟩ => ⟨S_, .f32⟩
  | .hbm, ⟨53, _⟩ => ⟨S4x1x1024, .f32⟩
  | .hbm, ⟨54, _⟩ => ⟨S4x1x1024, .f32⟩
  | .hbm, ⟨55, _⟩ => ⟨S4x4096x1024, .f32⟩
  | .hbm, ⟨56, _⟩ => ⟨S4x4096x1024, .f32⟩
  | .hbm, ⟨57, _⟩ => ⟨S4x1x1024, .f32⟩
  | .hbm, ⟨58, _⟩ => ⟨S4x4096x1024, .f32⟩
  | .hbm, ⟨59, _⟩ => ⟨S4x4096x1024, .f32⟩
  | .hbm, ⟨60, _⟩ => ⟨S4x4096x2048, .f32⟩
  | .hbm, ⟨61, _⟩ => ⟨S4x4096x8x2x128, .f32⟩
  | .hbm, ⟨62, _⟩ => ⟨S8x2x128x4x4096, .f32⟩
  | .hbm, ⟨63, _⟩ => ⟨S4x4096x8x2x128, .f32⟩
  | .hbm, ⟨64, _⟩ => ⟨S16384x1024, .f32⟩
  | .hbm, ⟨65, _⟩ => ⟨S16384x1024, .f32⟩
  | .hbm, ⟨66, _⟩ => ⟨S16384x1024, .bf16⟩
  | .hbm, ⟨67, _⟩ => ⟨S16384x16x128, .f32⟩
  | .hbm, ⟨68, _⟩ => ⟨S16x128x16384, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst : Ref sig .tc := ⟨.hbm, 36, rfl⟩
abbrev main_v24 : Ref sig .tc := ⟨.hbm, 37, rfl⟩
abbrev main_v25 : Ref sig .tc := ⟨.hbm, 38, rfl⟩
abbrev main_cst_0 : Ref sig .tc := ⟨.hbm, 39, rfl⟩
abbrev main_v26 : Ref sig .tc := ⟨.hbm, 40, rfl⟩
abbrev main_v27 : Ref sig .tc := ⟨.hbm, 41, rfl⟩
abbrev main_cst_1 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_2 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩

abbrev nD : Nat := 1
abbrev τ : Topo := Topo.v7x

variable {F : FTy → Type} [FloatOps F]
-- ==== Kernel3.lean ====
abbrev S16384x1024 : Shape := ⟨2, ![16384, 1024]⟩
abbrev S8x6144 : Shape := ⟨2, ![8, 6144]⟩
abbrev S1024 : Shape := ⟨1, ![1024]⟩
abbrev S1024x5632 : Shape := ⟨2, ![1024, 5632]⟩
abbrev S64 : Shape := ⟨1, ![64]⟩
abbrev S1x64 : Shape := ⟨2, ![1, 64]⟩
abbrev S8x64 : Shape := ⟨2, ![8, 64]⟩
abbrev S512 : Shape := ⟨1, ![512]⟩
abbrev S_ : Shape := ⟨0, ![]⟩
abbrev S1x512 : Shape := ⟨2, ![1, 512]⟩
abbrev S8x1x6144 : Shape := ⟨3, ![8, 1, 6144]⟩
abbrev S1x1024 : Shape := ⟨2, ![1, 1024]⟩
abbrev S512x1 : Shape := ⟨2, ![512, 1]⟩
abbrev S512x512 : Shape := ⟨2, ![512, 512]⟩
abbrev S16384x1536 : Shape := ⟨2, ![16384, 1536]⟩
abbrev S512x1024 : Shape := ⟨2, ![512, 1024]⟩
abbrev S1x1x6144 : Shape := ⟨3, ![1, 1, 6144]⟩
abbrev S512x1536 : Shape := ⟨2, ![512, 1536]⟩
abbrev S1x1x1024 : Shape := ⟨3, ![1, 1, 1024]⟩
abbrev S1024x512 : Shape := ⟨2, ![1024, 512]⟩
abbrev S1024x1024 : Shape := ⟨2, ![1024, 1024]⟩

abbrev nBuf : Space → Nat
  | .hbm => 54
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S8x6144, .f32⟩
  | .hbm, ⟨2, _⟩ => ⟨S1024, .f32⟩
  | .hbm, ⟨3, _⟩ => ⟨S1024x5632, .f32⟩
  | .hbm, ⟨4, _⟩ => ⟨S64, .f32⟩
  | .hbm, ⟨5, _⟩ => ⟨S64, .f32⟩
  | .hbm, ⟨6, _⟩ => ⟨S1x64, .f32⟩
  | .hbm, ⟨7, _⟩ => ⟨S8x64, .f32⟩
  | .hbm, ⟨8, _⟩ => ⟨S512, .f32⟩
  | .hbm, ⟨9, _⟩ => ⟨S_, .f32⟩
  | .hbm, ⟨10, _⟩ => ⟨S512, .f32⟩
  | .hbm, ⟨11, _⟩ => ⟨S512, .f32⟩
  | .hbm, ⟨12, _⟩ => ⟨S1x512, .f32⟩
  | .hbm, ⟨13, _⟩ => ⟨S1x64, .f32⟩
  | .hbm, ⟨14, _⟩ => ⟨S8x64, .f32⟩
  | .hbm, ⟨15, _⟩ => ⟨S512, .f32⟩
  | .hbm, ⟨16, _⟩ => ⟨S1x512, .f32⟩
  | .hbm, ⟨17, _⟩ => ⟨S8x1x6144, .f32⟩
  | .hbm, ⟨18, _⟩ => ⟨S1x1024, .f32⟩
  | .hbm, ⟨19, _⟩ => ⟨S1024x5632, .bf16⟩
  | .hbm, ⟨20, _⟩ => ⟨S512, .i32⟩
  | .hbm, ⟨21, _⟩ => ⟨S_, .i32⟩
  | .hbm, ⟨22, _⟩ => ⟨S_, .i32⟩
  | .hbm, ⟨23, _⟩ => ⟨S512, .i32⟩
  | .hbm, ⟨24, _⟩ => ⟨S512, .i32⟩
  | .hbm, ⟨25, _⟩ => ⟨S512, .i32⟩
  | .hbm, ⟨26, _⟩ => ⟨S_, .i32⟩
  | .hbm, ⟨27, _⟩ => ⟨S512, .i32⟩
  | .hbm, ⟨28, _⟩ => ⟨S512, .i1⟩
  | .hbm, ⟨29, _⟩ => ⟨S512, .i32⟩
  | .hbm, ⟨30, _⟩ => ⟨S512, .i32⟩
  | .hbm, ⟨31, _⟩ => ⟨S_, .i32⟩
  | .hbm, ⟨32, _⟩ => ⟨S512, .i32⟩
  | .hbm, ⟨33, _⟩ => ⟨S512, .i1⟩
  | .hbm, ⟨34, _⟩ => ⟨S512, .i1⟩
  | .hbm, ⟨35, _⟩ => ⟨S_, .i32⟩
  | .hbm, ⟨36, _⟩ => ⟨S512, .i32⟩
  | .hbm, ⟨37, _⟩ => ⟨S512, .i32⟩
  | .hbm, ⟨38, _⟩ => ⟨S512, .i32⟩
  | .hbm, ⟨39, _⟩ => ⟨S512x1, .i32⟩
  | .hbm, ⟨40, _⟩ => ⟨S1x512, .i32⟩
  | .hbm, ⟨41, _⟩ => ⟨S512x512, .i32⟩
  | .hbm, ⟨42, _⟩ => ⟨S512x512, .i32⟩
  | .hbm, ⟨43, _⟩ => ⟨S512x512, .i1⟩
  | .hbm, ⟨44, _⟩ => ⟨S512x512, .f32⟩
  | .hbm, ⟨45, _⟩ => ⟨S_, .f32⟩
  | .hbm, ⟨46, _⟩ => ⟨S512x512, .f32⟩
  | .hbm, ⟨47, _⟩ => ⟨S512x512, .f32⟩
  | .hbm, ⟨48, _⟩ => ⟨S512x512, .bf16⟩
  | .hbm, ⟨49, _⟩ => ⟨S16384x1536, .bf16⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024, .f32⟩
  | .local _ .vmem, ⟨5, _⟩ => ⟨S1024x5632, .bf16⟩
  | .local _ .vmem, ⟨6, _⟩ => ⟨S512x512, .bf16⟩
  | .local _ .vmem, ⟨7, _⟩ => ⟨S1x512, .f32⟩
  | .local _ .vmem, ⟨8, _⟩ => ⟨S1x512, .f32⟩
  | .local _ .vmem, ⟨9, _⟩ => ⟨S512x1536, .bf16⟩
  | .local _ .vmem, ⟨10, _⟩ => ⟨S512x1536, .bf16⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_c : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_0 : Ref sig .tc := ⟨.hbm, 35, rfl⟩
abbrev main_call0_v12 : Ref sig .tc := ⟨.hbm, 36, rfl⟩
abbrev main_call0_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_cst_0 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24_0 : Ref sig .tc := ⟨.hbm, 49, rfl⟩
abbrev main_v24_1 : Ref sig .tc := ⟨.hbm, 50, rfl⟩
abbrev main_v24_2 : Ref sig .tc := ⟨.hbm, 51, rfl⟩
abbrev main_v24_3 : Ref sig .tc := ⟨.hbm, 52, rfl⟩
abbrev main_v24_4 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S16384x1024 : Shape := ⟨2, ![16384, 1024]⟩
abbrev S8x6144 : Shape := ⟨2, ![8, 6144]⟩
abbrev S1024 : Shape := ⟨1, ![1024]⟩
abbrev S1024x5632 : Shape := ⟨2, ![1024, 5632]⟩
abbrev S64 : Shape := ⟨1, ![64]⟩
abbrev S4x6144 : Shape := ⟨2, ![4, 6144]⟩
abbrev S4x1024 : Shape := ⟨2, ![4, 1024]⟩
abbrev S4x4096x1024 : Shape := ⟨3, ![4, 4096, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1x1024 : Shape := ⟨3, ![4, 1, 1024]⟩
abbrev S4x4096x5632 : Shape := ⟨3, ![4, 4096, 5632]⟩
abbrev S4x4096x512 : Shape := ⟨3, ![4, 4096, 512]⟩
abbrev S4x4096x8x64 : Shape := ⟨4, ![4, 4096, 8, 64]⟩
abbrev S4x4096x8 : Shape := ⟨3, ![4, 4096, 8]⟩
abbrev S4x4096x8x1 : Shape := ⟨4, ![4, 4096, 8, 1]⟩
abbrev S1x1x1x64 : Shape := ⟨4, ![1, 1, 1, 64]⟩
abbrev S4x4096x1x8x64 : Shape := ⟨5, ![4, 4096, 1, 8, 64]⟩
abbrev S4x4096x3x8x64 : Shape := ⟨5, ![4, 4096, 3, 8, 64]⟩
abbrev S16384x1536 : Shape := ⟨2, ![16384, 1536]⟩

abbrev nBuf : Space → Nat
  | .hbm => 128
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8x6144, .f32⟩
  | .hbm, ⟨2, _⟩ => ⟨S1024, .f32⟩
  | .hbm, ⟨3, _⟩ => ⟨S1024x5632, .f32⟩
  | .hbm, ⟨4, _⟩ => ⟨S64, .f32⟩
  | .hbm, ⟨5, _⟩ => ⟨S64, .f32⟩
  | .hbm, ⟨6, _⟩ => ⟨S4x6144, .f32⟩
  | .hbm, ⟨7, _⟩ => ⟨S4x1024, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S4x1024, .f32⟩
  | .hbm, ⟨12, _⟩ => ⟨S4x1024, .f32⟩
  | .hbm, ⟨13, _⟩ => ⟨S4x4096x1024, .f32⟩
  | .hbm, ⟨14, _⟩ => ⟨S4x4096x1024, .f32⟩
  | .hbm, ⟨15, _⟩ => ⟨S_, .f32⟩
  | .hbm, ⟨16, _⟩ => ⟨S4x4096, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S_, .f32⟩
  | .hbm, ⟨22, _⟩ => ⟨S4x4096x1, .f32⟩
  | .hbm, ⟨23, _⟩ => ⟨S4x4096x1, .f32⟩
  | .hbm, ⟨24, _⟩ => ⟨S4x4096x1, .f32⟩
  | .hbm, ⟨25, _⟩ => ⟨S4x4096x1024, .f32⟩
  | .hbm, ⟨26, _⟩ => ⟨S4x4096x1024, .f32⟩
  | .hbm, ⟨27, _⟩ => ⟨S1x1x1024, .f32⟩
  | .hbm, ⟨28, _⟩ => ⟨S4x4096x1024, .f32⟩
  | .hbm, ⟨29, _⟩ => ⟨S4x4096x1024, .f32⟩
  | .hbm, ⟨30, _⟩ => ⟨S4x1x1024, .f32⟩
  | .hbm, ⟨31, _⟩ => ⟨S_, .f32⟩
  | .hbm, ⟨32, _⟩ => ⟨S4x1x1024, .f32⟩
  | .hbm, ⟨33, _⟩ => ⟨S4x1x1024, .f32⟩
  | .hbm, ⟨34, _⟩ => ⟨S4x4096x1024, .f32⟩
  | .hbm, ⟨35, _⟩ => ⟨S4x4096x1024, .f32⟩
  | .hbm, ⟨36, _⟩ => ⟨S4x1x1024, .f32⟩
  | .hbm, ⟨37, _⟩ => ⟨S4x4096x1024, .f32⟩
  | .hbm, ⟨38, _⟩ => ⟨S4x4096x1024, .f32⟩
  | .hbm, ⟨39, _⟩ => ⟨S4x4096x5632, .f32⟩
  | .hbm, ⟨40, _⟩ => ⟨S4x4096x512, .f32⟩
  | .hbm, ⟨41, _⟩ => ⟨S4x4096x8x64, .f32⟩
  | .hbm, ⟨42, _⟩ => ⟨S4x4096x8x64, .f32⟩
  | .hbm, ⟨43, _⟩ => ⟨S_, .f32⟩
  | .hbm, ⟨44, _⟩ => ⟨S4x4096x8, .f32⟩
  | .hbm, ⟨45, _⟩ => ⟨S4x4096x8x1, .f32⟩
  | .hbm, ⟨46, _⟩ => ⟨S_, .f32⟩
  | .hbm, ⟨47, _⟩ => ⟨S4x4096x8x1, .f32⟩
  | .hbm, ⟨48, _⟩ => ⟨S4x4096x8x1, .f32⟩
  | .hbm, ⟨49, _⟩ => ⟨S_, .f32⟩
  | .hbm, ⟨50, _⟩ => ⟨S4x4096x8x1, .f32⟩
  | .hbm, ⟨51, _⟩ => ⟨S4x4096x8x1, .f32⟩
  | .hbm, ⟨52, _⟩ => ⟨S4x4096x8x1, .f32⟩
  | .hbm, ⟨53, _⟩ => ⟨S4x4096x8x64, .f32⟩
  | .hbm, ⟨54, _⟩ => ⟨S4x4096x8x64, .f32⟩
  | .hbm, ⟨55, _⟩ => ⟨S1x1x1x64, .f32⟩
  | .hbm, ⟨56, _⟩ => ⟨S4x4096x8x64, .f32⟩
  | .hbm, ⟨57, _⟩ => ⟨S4x4096x8x64, .f32⟩
  | .hbm, ⟨58, _⟩ => ⟨S_, .f32⟩
  | .hbm, ⟨59, _⟩ => ⟨S4x4096x8x64, .f32⟩
  | .hbm, ⟨60, _⟩ => ⟨S4x4096x8x64, .f32⟩
  | .hbm, ⟨61, _⟩ => ⟨S4x4096x512, .f32⟩
  | .hbm, ⟨62, _⟩ => ⟨S4x4096x8x64, .f32⟩
  | .hbm, ⟨63, _⟩ => ⟨S4x4096x8x64, .f32⟩
  | .hbm, ⟨64, _⟩ => ⟨S_, .f32⟩
  | .hbm, ⟨65, _⟩ => ⟨S4x4096x8, .f32⟩
  | .hbm, ⟨66, _⟩ => ⟨S4x4096x8x1, .f32⟩
  | .hbm, ⟨67, _⟩ => ⟨S_, .f32⟩
  | .hbm, ⟨68, _⟩ => ⟨S4x4096x8x1, .f32⟩
  | .hbm, ⟨69, _⟩ => ⟨S4x4096x8x1, .f32⟩
  | .hbm, ⟨70, _⟩ => ⟨S_, .f32⟩
  | .hbm, ⟨71, _⟩ => ⟨S4x4096x8x1, .f32⟩
  | .hbm, ⟨72, _⟩ => ⟨S4x4096x8x1, .f32⟩
  | .hbm, ⟨73, _⟩ => ⟨S4x4096x8x1, .f32⟩
  | .hbm, ⟨74, _⟩ => ⟨S4x4096x8x64, .f32⟩
  | .hbm, ⟨75, _⟩ => ⟨S4x4096x8x64, .f32⟩
  | .hbm, ⟨76, _⟩ => ⟨S1x1x1x64, .f32⟩
  | .hbm, ⟨77, _⟩ => ⟨S4x4096x8x64, .f32⟩
  | .hbm, ⟨78, _⟩ => ⟨S4x4096x8x64, .f32⟩
  | .hbm, ⟨79, _⟩ => ⟨S4x4096x512, .f32⟩
  | .hbm, ⟨80, _⟩ => ⟨S4x4096x8x64, .f32⟩
  | .hbm, ⟨81, _⟩ => ⟨S4x4096x1x8x64, .f32⟩
  | .hbm, ⟨82, _⟩ => ⟨S4x4096x1x8x64, .f32⟩
  | .hbm, ⟨83, _⟩ => ⟨S4x4096x1x8x64, .f32⟩
  | .hbm, ⟨84, _⟩ => ⟨S4x4096x3x8x64, .f32⟩
  | .hbm, ⟨85, _⟩ => ⟨S4x4096x3x8x64, .bf16⟩
  | .hbm, ⟨86, _⟩ => ⟨S16384x1536, .bf16⟩
  | .hbm, ⟨87, _⟩ => ⟨S4x4096x1024, .f32⟩
  | .hbm, ⟨88, _⟩ => ⟨S16384x1024, .f32⟩
  | .hbm, ⟨89, _⟩ => ⟨S4x4096x1024, .f32⟩
  | .hbm, ⟨90, _⟩ => ⟨S4x4096x1024, .f32⟩
  | .hbm, ⟨91, _⟩ => ⟨S4x4096x1024, .f32⟩
  | .hbm, ⟨92, _⟩ => ⟨S_, .f32⟩
  | .hbm, ⟨93, _⟩ => ⟨S4x4096x1024, .f32⟩
  | .hbm, ⟨94, _⟩ => ⟨S4x4096x1024, .f32⟩
  | .hbm, ⟨95, _⟩ => ⟨S4x4096x1024, .f32⟩
  | .hbm, ⟨96, _⟩ => ⟨S_, .f32⟩
  | .hbm, ⟨97, _⟩ => ⟨S4x4096x1024, .f32⟩
  | .hbm, ⟨98, _⟩ => ⟨S4x4096x1024, .f32⟩
  | .hbm, ⟨99, _⟩ => ⟨S4x4096x1024, .f32⟩
  | .hbm, ⟨100, _⟩ => ⟨S_, .f32⟩
  | .hbm, ⟨101, _⟩ => ⟨S4x4096x1024, .f32⟩
  | .hbm, ⟨102, _⟩ => ⟨S4x4096x1024, .f32⟩
  | .hbm, ⟨103, _⟩ => ⟨S_, .f32⟩
  | .hbm, ⟨104, _⟩ => ⟨S4x4096x1024, .f32⟩
  | .hbm, ⟨105, _⟩ => ⟨S4x4096x1024, .f32⟩
  | .hbm, ⟨106, _⟩ => ⟨S4x4096x1024, .f32⟩
  | .hbm, ⟨107, _⟩ => ⟨S16384x1024, .f32⟩
  | .hbm, ⟨108, _⟩ => ⟨S4x4096x1024, .f32⟩
  | .hbm, ⟨109, _⟩ => ⟨S4x4096x1024, .f32⟩
  | .hbm, ⟨110, _⟩ => ⟨S4x4096x1024, .f32⟩
  | .hbm, ⟨111, _⟩ => ⟨S_, .f32⟩
  | .hbm, ⟨112, _⟩ => ⟨S4x4096x1024, .f32⟩
  | .hbm, ⟨113, _⟩ => ⟨S4x4096x1024, .f32⟩
  | .hbm, ⟨114, _⟩ => ⟨S_, .f32⟩
  | .hbm, ⟨115, _⟩ => ⟨S4x4096x1024, .f32⟩
  | .hbm, ⟨116, _⟩ => ⟨S4x4096x1024, .f32⟩
  | .hbm, ⟨117, _⟩ => ⟨S16384x1024, .f32⟩
  | .hbm, ⟨118, _⟩ => ⟨S4x4096x1024, .f32⟩
  | .hbm, ⟨119, _⟩ => ⟨S4x4096x1024, .f32⟩
  | .hbm, ⟨120, _⟩ => ⟨S4x4096x1024, .f32⟩
  | .hbm, ⟨121, _⟩ => ⟨S_, .f32⟩
  | .hbm, ⟨122, _⟩ => ⟨S4x4096x1024, .f32⟩
  | .hbm, ⟨123, _⟩ => ⟨S4x4096x1024, .f32⟩
  | .hbm, ⟨124, _⟩ => ⟨S_, .f32⟩
  | .hbm, ⟨125, _⟩ => ⟨S4x4096x1024, .f32⟩
  | .hbm, ⟨126, _⟩ => ⟨S4x4096x1024, .f32⟩
  | .hbm, ⟨127, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_6 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_7 : Ref sig .tc := ⟨.hbm, 64, rfl⟩
abbrev main_v50 : Ref sig .tc := ⟨.hbm, 65, rfl⟩
abbrev main_v51 : Ref sig .tc := ⟨.hbm, 66, rfl⟩
abbrev main_cst_8 : Ref sig .tc := ⟨.hbm, 67, rfl⟩
abbrev main_v52 : Ref sig .tc := ⟨.hbm, 68, rfl⟩
abbrev main_v53 : Ref sig .tc := ⟨.hbm, 69, rfl⟩
abbrev main_cst_9 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_cst_10 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_cst_11 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_cst_12 : Ref sig .tc := ⟨.hbm, 100, rfl⟩
abbrev main_v81 : Ref sig .tc := ⟨.hbm, 101, rfl⟩
abbrev main_v82 : Ref sig .tc := ⟨.hbm, 102, rfl⟩
abbrev main_cst_13 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_cst_14 : Ref sig .tc := ⟨.hbm, 111, rfl⟩
abbrev main_v90 : Ref sig .tc := ⟨.hbm, 112, rfl⟩
abbrev main_v91 : Ref sig .tc := ⟨.hbm, 113, rfl⟩
abbrev main_cst_15 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_cst_16 : Ref sig .tc := ⟨.hbm, 121, rfl⟩
abbrev main_v98 : Ref sig .tc := ⟨.hbm, 122, rfl⟩
abbrev main_v99 : Ref sig .tc := ⟨.hbm, 123, rfl⟩
abbrev main_cst_17 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩

abbrev nD : Nat := 1
abbrev τ : Topo := Topo.v7x

variable {F : FTy → Type} [FloatOps F]
-- ==== Kernel4.lean ====
abbrev S1024x1024 : Shape := ⟨2, ![1024, 1024]⟩
abbrev S8x6144 : Shape := ⟨2, ![8, 6144]⟩
abbrev S1024 : Shape := ⟨1, ![1024]⟩
abbrev S1024x5632 : Shape := ⟨2, ![1024, 5632]⟩
abbrev S64 : Shape := ⟨1, ![64]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S8x1x6144 : Shape := ⟨3, ![8, 1, 6144]⟩
abbrev S1x1024 : Shape := ⟨2, ![1, 1024]⟩
abbrev S_ : Shape := ⟨0, ![]⟩
abbrev S512x1 : Shape := ⟨2, ![512, 1]⟩
abbrev S512x512 : Shape := ⟨2, ![512, 512]⟩
abbrev S512x1024 : Shape := ⟨2, ![512, 1024]⟩
abbrev S1x1x6144 : Shape := ⟨3, ![1, 1, 6144]⟩
abbrev S1x1x1024 : Shape := ⟨3, ![1, 1, 1024]⟩
abbrev S1024x512 : Shape := ⟨2, ![1024, 512]⟩

abbrev nBuf : Space → Nat
  | .hbm => 43
  | .vmem => 11
  | .smem => 0
  | _ => 0

abbrev bufTy : (tb : Table) → Fin (tcTables nBuf tb) → BufTy
  | .hbm, ⟨0, _⟩ => ⟨S1024x1024, .f32⟩
  | .hbm, ⟨1, _⟩ => ⟨S8x6144, .f32⟩
  | .hbm, ⟨2, _⟩ => ⟨S1024, .f32⟩
  | .hbm, ⟨3, _⟩ => ⟨S1024x5632, .f32⟩
  | .hbm, ⟨4, _⟩ => ⟨S64, .f32⟩
  | .hbm, ⟨5, _⟩ => ⟨S1x64, .f32⟩
  | .hbm, ⟨6, _⟩ => ⟨S8x64, .f32⟩
  | .hbm, ⟨7, _⟩ => ⟨S512, .f32⟩
  | .hbm, ⟨8, _⟩ => ⟨S1x512, .f32⟩
  | .hbm, ⟨9, _⟩ => ⟨S8x1x6144, .f32⟩
  | .hbm, ⟨10, _⟩ => ⟨S1x1024, .f32⟩
  | .hbm, ⟨11, _⟩ => ⟨S1024x5632, .bf16⟩
  | .hbm, ⟨12, _⟩ => ⟨S512, .i32⟩
  | .hbm, ⟨13, _⟩ => ⟨S_, .i32⟩
  | .hbm, ⟨14, _⟩ => ⟨S_, .i32⟩
  | .hbm, ⟨15, _⟩ => ⟨S512, .i32⟩
  | .hbm, ⟨16, _⟩ => ⟨S512, .i32⟩
  | .hbm, ⟨17, _⟩ => ⟨S512, .i32⟩
  | .hbm, ⟨18, _⟩ => ⟨S_, .i32⟩
  | .hbm, ⟨19, _⟩ => ⟨S512, .i32⟩
  | .hbm, ⟨20, _⟩ => ⟨S512, .i1⟩
  | .hbm, ⟨21, _⟩ => ⟨S512, .i32⟩
  | .hbm, ⟨22, _⟩ => ⟨S512, .i32⟩
  | .hbm, ⟨23, _⟩ => ⟨S_, .i32⟩
  | .hbm, ⟨24, _⟩ => ⟨S512, .i32⟩
  | .hbm, ⟨25, _⟩ => ⟨S512, .i1⟩
  | .hbm, ⟨26, _⟩ => ⟨S512, .i1⟩
  | .hbm, ⟨27, _⟩ => ⟨S_, .i32⟩
  | .hbm, ⟨28, _⟩ => ⟨S512, .i32⟩
  | .hbm, ⟨29, _⟩ => ⟨S512, .i32⟩
  | .hbm, ⟨30, _⟩ => ⟨S512, .i32⟩
  | .hbm, ⟨31, _⟩ => ⟨S512x1, .i32⟩
  | .hbm, ⟨32, _⟩ => ⟨S1x512, .i32⟩
  | .hbm, ⟨33, _⟩ => ⟨S512x512, .i32⟩
  | .hbm, ⟨34, _⟩ => ⟨S512x512, .i32⟩
  | .hbm, ⟨35, _⟩ => ⟨S512x512, .i1⟩
  | .hbm, ⟨36, _⟩ => ⟨S512x512, .f32⟩
  | .hbm, ⟨37, _⟩ => ⟨S_, .f32⟩
  | .hbm, ⟨38, _⟩ => ⟨S512x512, .f32⟩
  | .hbm, ⟨39, _⟩ => ⟨S512x512, .f32⟩
  | .hbm, ⟨40, _⟩ => ⟨S512x512, .bf16⟩
  | .hbm, ⟨41, _⟩ => ⟨S1024x1024, .bf16⟩
  | .hbm, ⟨42, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S1x1x6144, .f32⟩
  | .local _ .vmem, ⟨3, _⟩ => ⟨S1x1024, .f32⟩
  | .local _ .vmem, ⟨4, _⟩ => ⟨S1024x5632, .bf16⟩
  | .local _ .vmem, ⟨5, _⟩ => ⟨S512x512, .bf16⟩
  | .local _ .vmem, ⟨6, _⟩ => ⟨S1x512, .f32⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18_0 : Ref sig .tc := ⟨.hbm, 41, rfl⟩
abbrev main_v18_1 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S1024x1024 : Shape := ⟨2, ![1024, 1024]⟩
abbrev S8x6144 : Shape := ⟨2, ![8, 6144]⟩
abbrev S1024 : Shape := ⟨1, ![1024]⟩
abbrev S1024x5632 : Shape := ⟨2, ![1024, 5632]⟩
abbrev S64 : Shape := ⟨1, ![64]⟩
abbrev S1x1024 : Shape := ⟨2, ![1, 1024]⟩
abbrev S_ : Shape := ⟨0, ![]⟩
abbrev S1024x1 : Shape := ⟨2, ![1024, 1]⟩
abbrev S1024x2048 : Shape := ⟨2, ![1024, 2048]⟩
abbrev S1024x512 : Shape := ⟨2, ![1024, 512]⟩
abbrev S1024x8x64 : Shape := ⟨3, ![1024, 8, 64]⟩
abbrev S1024x8 : Shape := ⟨2, ![1024, 8]⟩
abbrev S1024x8x1 : Shape := ⟨3, ![1024, 8, 1]⟩
abbrev S1x1x64 : Shape := ⟨3, ![1, 1, 64]⟩

abbrev nBuf : Space → Nat
  | .hbm => 59
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S8x6144, .f32⟩
  | .hbm, ⟨2, _⟩ => ⟨S1024, .f32⟩
  | .hbm, ⟨3, _⟩ => ⟨S1024x5632, .f32⟩
  | .hbm, ⟨4, _⟩ => ⟨S64, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S1024, .f32⟩
  | .hbm, ⟨9, _⟩ => ⟨S1024x1024, .f32⟩
  | .hbm, ⟨10, _⟩ => ⟨S_, .f32⟩
  | .hbm, ⟨11, _⟩ => ⟨S1024, .f32⟩
  | .hbm, ⟨12, _⟩ => ⟨S1024x1, .f32⟩
  | .hbm, ⟨13, _⟩ => ⟨S_, .f32⟩
  | .hbm, ⟨14, _⟩ => ⟨S1024x1, .f32⟩
  | .hbm, ⟨15, _⟩ => ⟨S1024x1, .f32⟩
  | .hbm, ⟨16, _⟩ => ⟨S_, .f32⟩
  | .hbm, ⟨17, _⟩ => ⟨S1024x1, .f32⟩
  | .hbm, ⟨18, _⟩ => ⟨S1024x1, .f32⟩
  | .hbm, ⟨19, _⟩ => ⟨S1024x1, .f32⟩
  | .hbm, ⟨20, _⟩ => ⟨S1024x1024, .f32⟩
  | .hbm, ⟨21, _⟩ => ⟨S1024x1024, .f32⟩
  | .hbm, ⟨22, _⟩ => ⟨S1x1024, .f32⟩
  | .hbm, ⟨23, _⟩ => ⟨S1024x1024, .f32⟩
  | .hbm, ⟨24, _⟩ => ⟨S1024x1024, .f32⟩
  | .hbm, ⟨25, _⟩ => ⟨S_, .f32⟩
  | .hbm, ⟨26, _⟩ => ⟨S1024, .f32⟩
  | .hbm, ⟨27, _⟩ => ⟨S1024, .f32⟩
  | .hbm, ⟨28, _⟩ => ⟨S1x1024, .f32⟩
  | .hbm, ⟨29, _⟩ => ⟨S1024x1024, .f32⟩
  | .hbm, ⟨30, _⟩ => ⟨S1024x1024, .f32⟩
  | .hbm, ⟨31, _⟩ => ⟨S1x1024, .f32⟩
  | .hbm, ⟨32, _⟩ => ⟨S1024x1024, .f32⟩
  | .hbm, ⟨33, _⟩ => ⟨S1024x1024, .f32⟩
  | .hbm, ⟨34, _⟩ => ⟨S1024x2048, .f32⟩
  | .hbm, ⟨35, _⟩ => ⟨S1024x2048, .f32⟩
  | .hbm, ⟨36, _⟩ => ⟨S1024x512, .f32⟩
  | .hbm, ⟨37, _⟩ => ⟨S1024x8x64, .f32⟩
  | .hbm, ⟨38, _⟩ => ⟨S1024x8x64, .f32⟩
  | .hbm, ⟨39, _⟩ => ⟨S_, .f32⟩
  | .hbm, ⟨40, _⟩ => ⟨S1024x8, .f32⟩
  | .hbm, ⟨41, _⟩ => ⟨S1024x8x1, .f32⟩
  | .hbm, ⟨42, _⟩ => ⟨S_, .f32⟩
  | .hbm, ⟨43, _⟩ => ⟨S1024x8x1, .f32⟩
  | .hbm, ⟨44, _⟩ => ⟨S1024x8x1, .f32⟩
  | .hbm, ⟨45, _⟩ => ⟨S_, .f32⟩
  | .hbm, ⟨46, _⟩ => ⟨S1024x8x1, .f32⟩
  | .hbm, ⟨47, _⟩ => ⟨S1024x8x1, .f32⟩
  | .hbm, ⟨48, _⟩ => ⟨S1024x8x1, .f32⟩
  | .hbm, ⟨49, _⟩ => ⟨S1024x8x64, .f32⟩
  | .hbm, ⟨50, _⟩ => ⟨S1024x8x64, .f32⟩
  | .hbm, ⟨51, _⟩ => ⟨S1x1x64, .f32⟩
  | .hbm, ⟨52, _⟩ => ⟨S1024x8x64, .f32⟩
  | .hbm, ⟨53, _⟩ => ⟨S1024x8x64, .f32⟩
  | .hbm, ⟨54, _⟩ => ⟨S1024x512, .f32⟩
  | .hbm, ⟨55, _⟩ => ⟨S1024x512, .f32⟩
  | .hbm, ⟨56, _⟩ => ⟨S1024x1024, .f32⟩
  | .hbm, ⟨57, _⟩ => ⟨S1024x1024, .bf16⟩
  | .hbm, ⟨58, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩

abbrev nD : Nat := 1
abbrev τ : Topo := Topo.v7x

variable {F : FTy → Type} [FloatOps F]
-- ==== Proof.Block.lean ====
/-
  What one grid point of the forward recurrence computes, as functions of the blocks it reads: the gate coefficients of
  its 256 tokens (`coefA`, `coefB`), the three doubling steps inside groups of eight tokens (`groupA`, `groupB`), and
  the 32 groups taken one after the other from the state the point before left (`states`, `lastState`, `blockOut`).
  `out_B`, `carry_A`, `carry_B` say that the body leaves exactly these.
-/
module

public import proofs.«01_k».proof.Proof.Gen.KernelIdeal.Value
public import Idealize.ShloMosaic.PureOps.Ideal
public import Idealize.ShloMosaic.Lib.Pipeline.ValueKit.Basic

@[expose] public section

noncomputable section

namespace Cert.KernelIdeal.Hand

open Idealize.ShloMosaic Idealize.ShloMosaic.Pipeline Idealize.SL.Sem Cert.KernelIdeal.Gen

variable {F : FTy → Type} [FloatOps F]

/-! ## The slices a point takes -/

theorem slices_cols (j : ℕ) (h : j < 8) : S256x1024.Slices ![0, 128 * j] S256x128 :=
  ⟨rfl, fun a => by fin_cases a <;> simp [Shape.size] <;> omega⟩

theorem slices_lane (j : ℕ) (h : j < 8) : S1x1024.Slices ![0, 128 * j] S1x128 :=
  ⟨rfl, fun a => by fin_cases a <;> simp [Shape.size] <;> omega⟩

theorem inb_bias (g j : ℕ) (hg : g < 2) (h : j < 8) : ∀ a, (![g, 128 * j] : Fin 2 → ℕ) a + S1x128.size a ≤ S2x1024.size a :=
  fun a => by fin_cases a <;> simp [Shape.size] <;> omega

theorem inb_weight (j : ℕ) (h : j < 8) : ∀ a, (![j, 0, 0] : Fin 3 → ℕ) a + S1x128x256.size a ≤ S8x128x256.size a :=
  fun a => by fin_cases a <;> simp [Shape.size] <;> omega

theorem inb_rows (k : ℕ) (h : k < 32) : ∀ a, (![8 * k, 0] : Fin 2 → ℕ) a + S8x1024.size a ≤ S256x1024.size a :=
  fun a => by fin_cases a <;> simp [Shape.size] <;> omega

/-- The eight rows of group `k`. -/
def rows (x : Vec F S256x1024 .f32) (k : ℕ) (h : k < 32) : Vec F S8x1024 .f32 :=
  View.ld x (Rect.unit (s := S256x1024) ![8 * k, 0] S8x1024.size (inb_rows k h))

/-! ## The gates of a column block -/

/-- The two gates' linear parts of column block `j`: columns 0–127 the recurrence gate's, 128–255 the input gate's. -/
def gateDot (u : Vec F S256x1024 .f32) (wg : Vec F S8x128x256 .bf16) (j : ℕ) (h : j < 8) : FVec F S256x256 .f32 :=
  matmul dot_S256x128_S128x256_S256x256_1_0_0_1_n_n none
    (extractStridedSlice S256x128 ![0, 128 * j] (truncf .bf16 u bitsLt_bf16_f32 : FVec F S256x1024 .bf16) (slices_cols j h))
    (shapeCast S128x256 (View.ld wg (Rect.unit (s := S8x128x256) ![j, 0, 0] S1x128x256.size (inb_weight j h))) shapeCasts_S1x128x256_S128x256)
    (constant S256x256 .f32 0x00000000#32)

/-- One gate's bias on a column block, one row for every token. -/
def biasRows (bg : Vec F S2x1024 .f32) (g j : ℕ) (hg : g < 2) (h : j < 8) : FVec F S256x128 .f32 :=
  broadcastTo S256x128
    (shapeCast S1x128 (View.ld bg (Rect.unit (s := S2x1024) ![g, 128 * j] S1x128.size (inb_bias g j hg h))) shapeCasts_S1x128_S1x128)
    broadcasts_S1x128_S256x128

/-- The softplus row the decay is scaled with: `log (1 + exp (-λ))`, in the stable form. -/
def softplusRow (lam : Vec F S1x1024 .f32) : FVec F S1x1024 .f32 := k0_pay6 lam

/-- The decay `a = exp (-8 · r · softplus)` of column block `j`. -/
def decay (u : Vec F S256x1024 .f32) (wg : Vec F S8x128x256 .bf16) (bg : Vec F S2x1024 .f32) (lam : Vec F S1x1024 .f32)
    (j : ℕ) (h : j < 8) : FVec F S256x128 .f32 :=
  exp (mulf (mulf (broadcast S256x128 (Scalar.ofBits .f32 0xC1000000#32 : F .f32))
      (logistic (addf (extractStridedSlice S256x128 ![0, 0] (gateDot u wg j h) slices_S256x256_o0_0_S256x128)
        (biasRows bg 0 j (by decide) h))))
    (broadcastTo S256x128 (extractStridedSlice S1x128 ![0, 128 * j] (softplusRow lam) (slices_lane j h))
      broadcasts_S1x128_S256x128))

/-- The decay as the body stores it. -/
def coefA (u : Vec F S256x1024 .f32) (wg : Vec F S8x128x256 .bf16) (bg : Vec F S2x1024 .f32) (lam : Vec F S1x1024 .f32)
    (j : ℕ) (h : j < 8) : FVec F S256x128 .f32 :=
  shapeCast S256x128 (decay u wg bg lam j h) shapeCasts_S256x128_S256x128

/-- The input `b = sqrt (1 - a²) · (i · u)` of column block `j`, as the body stores it. -/
def coefB (u : Vec F S256x1024 .f32) (wg : Vec F S8x128x256 .bf16) (bg : Vec F S2x1024 .f32) (lam : Vec F S1x1024 .f32)
    (j : ℕ) (h : j < 8) : FVec F S256x128 .f32 :=
  shapeCast S256x128
    (mulf (sqrt (subf (broadcast S256x128 (Scalar.ofBits .f32 0x3F800000#32 : F .f32))
        (mulf (decay u wg bg lam j h) (decay u wg bg lam j h))))
      (mulf (logistic (addf (extractStridedSlice S256x128 ![0, 128] (gateDot u wg j h) slices_S256x256_o0_128_S256x128)
          (biasRows bg 1 j (by decide) h)))
        (extractStridedSlice S256x128 ![0, 128 * j] u (slices_cols j h))))
    shapeCasts_S256x128_S256x128

theorem inb_cols (j : ℕ) (h : j < 8) : ∀ a, (![0, 128 * j] : Fin 2 → ℕ) a + S256x128.size a ≤ S256x1024.size a :=
  (slices_cols j h).2

/-- The first `n` column blocks of a coefficient, stored side by side, last first. -/
def colPieces (f : (j : ℕ) → j < 8 → FVec F S256x128 .f32) : (n : ℕ) → n ≤ 8 → List (View.Piece (Elt F) S256x1024 .f32)
  | 0, _ => []
  | n + 1, h => ⟨Rect.unit ![0, 128 * n] S256x128.size (inb_cols n h), f n h⟩ :: colPieces f n (Nat.le_of_succ_le h)

/-- The eight column blocks of a coefficient as one array. -/
def joined (f : (j : ℕ) → j < 8 → FVec F S256x128 .f32) : Vec F S256x1024 .f32 := View.canon (colPieces f 8 le_rfl)

/-! ## The doubling steps inside groups of eight -/

/-- Which of the eight positions of a group are at least `s`. -/
def atLeast (s : BitVec 32) : IVec S32x8x1024 1 :=
  broadcastTo S32x8x1024
    (shapeCast S1x8x1 (cmpi .sge (iota .tc S1x8x1 32 [1] iota_S1x8x1_d1_w32) (broadcast S1x8x1 s)) shapeCasts_S1x8x1_S1x8x1)
    broadcasts_S1x8x1_S32x8x1024

/-- One doubling step on the decays. -/
def stepA (s : BitVec 32) (a : FVec F S32x8x1024 .f32) : FVec F S32x8x1024 .f32 :=
  select (atLeast s) (mulf a (dynamicRotate 1 s none a rotates_S32x8x1024_d1)) a

/-- One doubling step on the inputs. -/
def stepB (s : BitVec 32) (a b : FVec F S32x8x1024 .f32) : FVec F S32x8x1024 .f32 :=
  select (atLeast s) (addf (mulf a (dynamicRotate 1 s none b rotates_S32x8x1024_d1)) b) b

def split (x : Vec F S256x1024 .f32) : FVec F S32x8x1024 .f32 := shapeCast S32x8x1024 x shapeCasts_S256x1024_S32x8x1024

/-- The decays from a group's start, after the three doubling steps. -/
def groupA (a : Vec F S256x1024 .f32) : Vec F S256x1024 .f32 :=
  shapeCast S256x1024 (shapeCast S256x1024 (stepA 4#32 (stepA 2#32 (stepA 1#32 (split a)))) shapeCasts_S32x8x1024_S256x1024)
    shapeCasts_S256x1024_S256x1024

/-- The states of a group started from zero, after the three doubling steps. -/
def groupB (a b : Vec F S256x1024 .f32) : Vec F S256x1024 .f32 :=
  shapeCast S256x1024 (shapeCast S256x1024
    (stepB 4#32 (stepA 2#32 (stepA 1#32 (split a))) (stepB 2#32 (stepA 1#32 (split a)) (stepB 1#32 (split a) (split b))))
    shapeCasts_S32x8x1024_S256x1024) shapeCasts_S256x1024_S256x1024

/-! ## The 32 groups in turn -/

/-- The last row of a group. -/
def lastRow (x : FVec F S8x1024 .f32) : FVec F S1x1024 .f32 := extractStridedSlice S1x1024 ![7, 0] x slices_S8x1024_o7_0_S1x1024

/-- A group's states from the state before it. -/
def groupStates (A B : Vec F S256x1024 .f32) (k : ℕ) (h : k < 32) (before : FVec F S1x1024 .f32) : FVec F S8x1024 .f32 :=
  addf (mulf (rows A k h) (broadcastTo S8x1024 before broadcasts_S1x1024_S8x1024)) (rows B k h)

/-- The states of group `k`, from the state `carry` before group 0. -/
def states (A B : Vec F S256x1024 .f32) (carry : Vec F S1x1024 .f32) : (k : ℕ) → k < 32 → FVec F S8x1024 .f32
  | 0, h => groupStates A B 0 h carry
  | k + 1, h => groupStates A B (k + 1) h (lastRow (states A B carry k (Nat.lt_of_succ_lt h)))

/-- What group `k` writes out: `(state + h_bwd) · gy`. -/
def outRows (A B : Vec F S256x1024 .f32) (carry : Vec F S1x1024 .f32) (hb gy : Vec F S256x1024 .f32) (k : ℕ) (h : k < 32) :
    FVec F S8x1024 .f32 :=
  mulf (addf (states A B carry k h) (rows hb k h)) (rows gy k h)

/-- The first `n` groups' output rows, stored one below the other, last first. -/
def rowPieces (f : (k : ℕ) → k < 32 → FVec F S8x1024 .f32) : (n : ℕ) → n ≤ 32 → List (View.Piece (Elt F) S256x1024 .f32)
  | 0, _ => []
  | n + 1, h => ⟨Rect.unit ![8 * n, 0] S8x1024.size (inb_rows n h), f n h⟩ :: rowPieces f n (Nat.le_of_succ_le h)

/-- The state after the last group, which the next point starts from. -/
def lastState (A B : Vec F S256x1024 .f32) (carry : Vec F S1x1024 .f32) : Vec F S1x1024 .f32 :=
  shapeCast S1x1024 (lastRow (states A B carry 31 (by decide))) shapeCasts_S1x1024_S1x1024

/-! ## The body -/

/-- The decays of a block's 256 tokens, from each group's start. -/
def bodyA (u : Vec F S256x1024 .f32) (wg : Vec F S8x128x256 .bf16) (bg : Vec F S2x1024 .f32) (lam : Vec F S1x1024 .f32) :
    Vec F S256x1024 .f32 := groupA (joined (coefA u wg bg lam))

/-- The states of a block's 256 tokens, each group started from zero. -/
def bodyB (u : Vec F S256x1024 .f32) (wg : Vec F S8x128x256 .bf16) (bg : Vec F S2x1024 .f32) (lam : Vec F S1x1024 .f32) :
    Vec F S256x1024 .f32 := groupB (joined (coefA u wg bg lam)) (joined (coefB u wg bg lam))

/-- A load of part of what stores left, of which the last was of the whole array, reads the last payload. -/
theorem readCov_part {e : EltTy} {S : Shape} {κ : Kind} {sp : Space} (v : View sig κ sp S e) {off : Fin S.rank → ℕ}
    (inb : ∀ a, off a + S.size a ≤ S.size a) (w : S.Idx → Elt F e) (L : List (View.Piece (Elt F) S e))
    (r : Rect S) (h : ∀ a, off a = 0) :
    v.readCov ((⟨Rect.unit off (no_index S.size) inb, w⟩ : View.Piece (Elt F) S e) :: L) r.toLoadRect = View.ld w r := by
  obtain rfl : off = fun _ => 0 := funext h
  rw [View.readCov_eq_canon_ld _ _ _ (fun y => ⟨_, List.mem_cons_self, by
    show _ ∈ (Rect.whole S).set; rw [Rect.set_whole]; exact Finset.mem_univ _⟩), View.canon_cons_unit_zero rfl]

/-- The column blocks cover the array. -/
theorem cols_cover (f : (j : ℕ) → j < 8 → FVec F S256x128 .f32) (y : S256x1024.Idx) :
    ∃ pc ∈ colPieces f 8 le_rfl, y ∈ pc.1.set :=
  View.cover_of_tiledL (colPieces f 8 le_rfl) S256x128.size (by sl_kernel_rfl) y

/-- A load of everything the column blocks left. -/
theorem readCov_cols {κ : Kind} {sp : Space} (v : View sig κ sp S256x1024 .f32) (f : (j : ℕ) → j < 8 → FVec F S256x128 .f32) :
    v.readCov (colPieces f 8 le_rfl) (Rect.unit ![0, 0] S256x1024.size inb_S256x1024_S256x1024_0_0).toLoadRect = joined f := by
  rw [View.readCov_eq_canon_ld _ _ _ (fun y => cols_cover f _)]
  exact View.ld_unit_lit _ _ (by decide)

set_option maxRecDepth 65536 in
set_option maxHeartbeats 1000000 in
/-- A point after the first of its batch leaves the output block `(states + h_bwd) · gy`. -/
theorem out_B (c : Dev nD) (i : grid0.Coords) (arg2 harg2 arg3 harg3 arg4 harg4 arg5 harg5 arg6 harg6 arg7 harg7 arg8 harg8 arg9 harg9 arg10 harg10 arg11 harg11 arg12 harg12 hc0) (x0 x1 x2 x3 x4 x5 x6 xs2) :
    out0_B_7 (F := F) c i arg2 harg2 arg3 harg3 arg4 harg4 arg5 harg5 arg6 harg6 arg7 harg7 arg8 harg8 arg9 harg9 arg10 harg10 arg11 harg11 arg12 harg12 hc0 x0 x1 x2 x3 x4 x5 x6 xs2 =
      View.canon (rowPieces (outRows (bodyA (k0_pay4 i x1 x0) x2 x3 x4) (bodyB (k0_pay4 i x1 x0) x2 x3 x4) xs2 x5 x6) 32 le_rfl) := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 arg12 harg12 hc0 x0 x1 x2 x3 x4 x5 x6 xs2)]
  unfold kernelRun0_B
  dsimp only
  sl_unfold_words
  simp (disch := decide) only [readCov_part, View.readAt_eq_ld, harg2.read_unread, harg3.read_unread, harg4.read_unread,
    harg5.read_unread, harg6.read_unread, harg7.read_unread, harg8.read_unread, harg12.read_unread, View.ld_unit_lit,
    View.canon_cons_unit_lit]
  generalize hA : k0_pay61 (F := F) _ _ _ _ = A
  generalize hB : k0_pay62 (F := F) _ _ _ _ _ = B
  have eA : A = bodyA (k0_pay4 i x1 x0) x2 x3 x4 := by
    rw [← hA, bodyA, ← readCov_cols arg10.view]
    sl_kernel_rfl
  have eB : B = bodyB (k0_pay4 i x1 x0) x2 x3 x4 := by
    rw [← hB, bodyB, ← readCov_cols arg10.view, ← readCov_cols arg11.view]
    sl_kernel_rfl
  rw [← eA, ← eB]
  clear eA eB hA hB
  sl_kernel_rfl

set_option maxRecDepth 65536 in
set_option maxHeartbeats 1000000 in
/-- A point after the first of its batch leaves the state after its last group, from the state the point before left. -/
theorem carry_B (c : Dev nD) (i : grid0.Coords) (arg2 harg2 arg3 harg3 arg4 harg4 arg5 harg5 arg6 harg6 arg7 harg7 arg8 harg8 arg9 harg9 arg10 harg10 arg11 harg11 arg12 harg12 hc0) (x0 x1 x2 x3 x4 x5 x6 xs2) :
    sout0_B_2 (F := F) c i arg2 harg2 arg3 harg3 arg4 harg4 arg5 harg5 arg6 harg6 arg7 harg7 arg8 harg8 arg9 harg9 arg10 harg10 arg11 harg11 arg12 harg12 hc0 x0 x1 x2 x3 x4 x5 x6 xs2 =
      lastState (bodyA (k0_pay4 i x1 x0) x2 x3 x4) (bodyB (k0_pay4 i x1 x0) x2 x3 x4) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 hc0 x0 x1 x2 x3 x4 x5 x6 xs2)]
  unfold kernelRun0_B
  dsimp only
  sl_unfold_words
  simp (disch := decide) only [readCov_part, View.readAt_eq_ld, harg2.read_unread, harg3.read_unread, harg4.read_unread,
    harg5.read_unread, harg6.read_unread, harg7.read_unread, harg8.read_unread, harg12.read_unread, View.ld_unit_lit,
    View.canon_cons_unit_lit]
  generalize hA : k0_pay61 (F := F) _ _ _ _ = A
  generalize hB : k0_pay62 (F := F) _ _ _ _ _ = B
  have eA : A = bodyA (k0_pay4 i x1 x0) x2 x3 x4 := by
    rw [← hA, bodyA, ← readCov_cols arg10.view]
    sl_kernel_rfl
  have eB : B = bodyB (k0_pay4 i x1 x0) x2 x3 x4 := by
    rw [← hB, bodyB, ← readCov_cols arg10.view, ← readCov_cols arg11.view]
    sl_kernel_rfl
  rw [← eA, ← eB]
  clear eA eB hA hB
  sl_kernel_rfl

set_option maxRecDepth 65536 in
set_option maxHeartbeats 1000000 in
/-- The first point of a batch leaves the state after its last group, from the zero state. -/
theorem carry_A (c : Dev nD) (i : grid0.Coords) (arg2 harg2 arg3 harg3 arg4 harg4 arg5 harg5 arg6 harg6 arg7 harg7 arg8 harg8 arg9 harg9 arg10 harg10 arg11 harg11 arg12 harg12 hc0) (x0 x1 x2 x3 x4 x5 x6) :
    sout0_A_2 (F := F) c i arg2 harg2 arg3 harg3 arg4 harg4 arg5 harg5 arg6 harg6 arg7 harg7 arg8 harg8 arg9 harg9 arg10 harg10 arg11 harg11 arg12 harg12 hc0 x0 x1 x2 x3 x4 x5 x6 =
      lastState (bodyA (k0_pay4 i x1 x0) x2 x3 x4) (bodyB (k0_pay4 i x1 x0) x2 x3 x4) k0_pay63 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  simp (disch := decide) only [readCov_part, View.readAt_eq_ld, harg2.read_unread, harg3.read_unread, harg4.read_unread,
    harg5.read_unread, harg6.read_unread, harg7.read_unread, harg8.read_unread, View.ld_unit_lit,
    View.canon_cons_unit_lit]
  generalize hA : k0_pay61 (F := F) _ _ _ _ = A
  generalize hB : k0_pay62 (F := F) _ _ _ _ _ = B
  have eA : A = bodyA (k0_pay4 i x1 x0) x2 x3 x4 := by
    rw [← hA, bodyA, ← readCov_cols arg10.view]
    sl_kernel_rfl
  have eB : B = bodyB (k0_pay4 i x1 x0) x2 x3 x4 := by
    rw [← hB, bodyB, ← readCov_cols arg10.view, ← readCov_cols arg11.view]
    sl_kernel_rfl
  rw [← eA, ← eB]
  clear eA eB hA hB
  sl_kernel_rfl

end Cert.KernelIdeal.Hand
-- ==== Proof.Scan.lean ====
/-
  The recurrence `h ← a · h + b` over the extended reals, by itself: the sequential scan, the composition of its steps,
  and the reading of eight positions by three doublings of the step (`double_A`, `double_B`).
-/
module

public import Idealize.ShloMosaic.PureOps.Ideal

@[expose] public section

noncomputable section

namespace Cert.Hand

/-- The recurrence from `h`: the state after the first `n` positions. -/
def scan (a b : ℕ → EReal) (h : EReal) : ℕ → EReal
  | 0 => h
  | n + 1 => a n * scan a b h n + b n

theorem scan_add (a b : ℕ → EReal) (h : EReal) (m n : ℕ) :
    scan a b h (m + n) = scan (fun k => a (m + k)) (fun k => b (m + k)) (scan a b h m) n := by
  induction n with
  | zero => rfl
  | succ n ih => rw [← Nat.add_assoc, scan, scan, ih]

theorem scan_congr {a b a' b' : ℕ → EReal} (h : EReal) (n : ℕ) (ha : ∀ k, k < n → a k = a' k) (hb : ∀ k, k < n → b k = b' k) :
    scan a b h n = scan a' b' h n := by
  induction n with
  | zero => rfl
  | succ n ih =>
    rw [scan, scan, ha n (Nat.lt_succ_self n), hb n (Nat.lt_succ_self n),
      ih (fun k hk => ha k (Nat.lt_succ_of_lt hk)) fun k hk => hb k (Nat.lt_succ_of_lt hk)]

/-- A factor that distributes: a real that is not negative. -/
def Factor (x : EReal) : Prop := 0 ≤ x ∧ x ≠ ⊤

theorem Factor.mul {x y : EReal} (hx : Factor x) (hy : Factor y) : Factor (x * y) := by
  obtain ⟨hx0, hxt⟩ := hx
  obtain ⟨hy0, hyt⟩ := hy
  refine ⟨mul_nonneg hx0 hy0, ?_⟩
  lift x to ℝ using ⟨hxt, fun h => by simp [h] at hx0⟩
  lift y to ℝ using ⟨hyt, fun h => by simp [h] at hy0⟩
  exact_mod_cast EReal.coe_ne_top (x * y)

theorem Factor.distrib {x : EReal} (hx : Factor x) (y z : EReal) : x * (y + z) = x * y + x * z :=
  EReal.left_distrib_of_nonneg_of_ne_top hx.1 hx.2 y z

/-- One doubling of the factors by `s` positions. -/
def dblA (s : ℕ) (a : ℕ → EReal) (p : ℕ) : EReal := if s ≤ p then a p * a (p - s) else a p

/-- One doubling of the terms by `s` positions. -/
def dblB (s : ℕ) (a b : ℕ → EReal) (p : ℕ) : EReal := if s ≤ p then a p * b (p - s) + b p else b p

/-- The map `h ↦ a p · h + b p` after a doubling is the map at `p` after the map `s` positions before. -/
theorem dbl_apply {s : ℕ} {a b : ℕ → EReal} (ha : ∀ p, Factor (a p)) (p : ℕ) (h : EReal) :
    dblA s a p * h + dblB s a b p = if s ≤ p then a p * (a (p - s) * h + b (p - s)) + b p else a p * h + b p := by
  unfold dblA dblB
  split_ifs
  · rw [(ha p).distrib, mul_assoc, add_assoc]
  · rfl

theorem dblA_factor {s : ℕ} {a : ℕ → EReal} (ha : ∀ p, Factor (a p)) (p : ℕ) : Factor (dblA s a p) := by
  unfold dblA
  split_ifs
  · exact (ha p).mul (ha _)
  · exact ha p

/-- Three doublings, by one, two and four positions, read the recurrence at every one of eight positions. -/
theorem double_scan {a b : ℕ → EReal} (ha : ∀ p, Factor (a p)) (h : EReal) (p : ℕ) (hp : p < 8) :
    dblA 4 (dblA 2 (dblA 1 a)) p * h + dblB 4 (dblA 2 (dblA 1 a)) (dblB 2 (dblA 1 a) (dblB 1 a b)) p = scan a b h (p + 1) := by
  have h1 := dblA_factor (s := 1) ha
  have h2 := dblA_factor (s := 2) h1
  rw [dbl_apply h2]
  simp only [dbl_apply h1, dbl_apply ha]
  interval_cases p <;> rfl

end Cert.Hand
-- ==== Proof.Gate.lean ====
/-
  The gates of one token and one channel over the extended reals: the softplus, the decay `a = exp (-8 · r · softplus)`
  and the input `b = sqrt (1 - a²) · (i · u)`, and that the reference's spellings of them are the same numbers.
-/
module

public import proofs.«01_k».proof.Proof.Scan
public import Idealize.ShloMosaic.Lib.IdealHost

@[expose] public section

noncomputable section

namespace Cert.Hand

open Idealize.ShloMosaic

/-- The factor `-8` of the decay's exponent. -/
abbrev c8 : EReal := Ideal.ofBits .f32 0xC1000000#32

/-- `log (1 + exp (-λ))`, as the kernel spells it. -/
def softplus (lam : EReal) : EReal := max (0 - lam) 0 + Ideal.log (1 + Ideal.exp (0 - max lam (-lam)))

/-- The decay's exponent, from the recurrence gate's linear part `g` and the channel's `λ`. -/
def logDecay (g lam : EReal) : EReal := c8 * Ideal.logistic g * softplus lam

/-- The decay. -/
def decayOf (g lam : EReal) : EReal := Ideal.exp (logDecay g lam)

/-- The input that enters the state: `g` and `g'` are the two gates' linear parts, `u` the token's value. -/
def inputOf (g g' lam u : EReal) : EReal :=
  Ideal.sqrt (1 - decayOf g lam * decayOf g lam) * (Ideal.logistic g' * u)

theorem c8_eq : c8 = ((-8 : ℝ) : EReal) := by
  simp [c8, Ideal.ofBits, Ideal.ieee, -EReal.coe_mul, -EReal.coe_neg]; norm_num

theorem c2_eq : Ideal.ofBits .f32 0x40000000#32 = ((2 : ℝ) : EReal) := by
  simp [Ideal.ofBits, Ideal.ieee, -EReal.coe_mul]; norm_num

theorem one_ne_bot : (1 : EReal) ≠ ⊥ := EReal.coe_ne_bot 1

theorem one_ne_top : (1 : EReal) ≠ ⊤ := EReal.coe_ne_top 1

theorem exp_nonneg (x : EReal) : 0 ≤ Ideal.exp x := by
  induction x with
  | bot => rw [Ideal.exp_bot]
  | top => rw [Ideal.exp_top]; exact le_top
  | coe r => rw [Ideal.exp_coe]; exact EReal.coe_nonneg.2 (Real.exp_pos r).le

theorem log_one_add_nonneg {x : EReal} (hx : 0 ≤ x) : 0 ≤ Ideal.log (1 + x) := by
  induction x with
  | bot => simp at hx
  | top => rw [EReal.add_top_of_ne_bot one_ne_bot, Ideal.log_top]; exact le_top
  | coe r =>
    have hr : 0 ≤ r := EReal.coe_nonneg.1 hx
    have h1 : ((1 : EReal) + (r : EReal)) = ((1 + r : ℝ) : EReal) := by push_cast; rfl
    have h2 : ¬ (1 + r ≤ 0) := by linarith
    have h3 : (1 : ℝ) ≤ 1 + r := by linarith
    rw [h1, Ideal.log_coe, if_neg h2]
    exact EReal.coe_nonneg.2 (Real.log_nonneg h3)

theorem softplus_nonneg (lam : EReal) : 0 ≤ softplus lam :=
  add_nonneg (le_max_right _ _) (log_one_add_nonneg (exp_nonneg _))

theorem logistic_real (x : EReal) : ∃ r : ℝ, 0 ≤ r ∧ Ideal.logistic x = (r : EReal) := by
  induction x with
  | bot => exact ⟨0, le_rfl, by simp⟩
  | top => exact ⟨1, zero_le_one, by simp⟩
  | coe r => exact ⟨(1 + Real.exp (-r))⁻¹, by positivity, by simp⟩

theorem logDecay_nonpos (g lam : EReal) : logDecay g lam ≤ 0 := by
  obtain ⟨r, hr, e⟩ := logistic_real g
  unfold logDecay
  rw [e, c8_eq, ← EReal.coe_mul]
  have h : ((-8 * r : ℝ) : EReal) ≤ 0 := EReal.coe_nonpos.2 (by nlinarith)
  exact mul_nonpos_of_nonpos_of_nonneg h (softplus_nonneg lam)

/-- The decay is a real that is not negative, for every input. -/
theorem decay_factor (g lam : EReal) : Factor (decayOf g lam) := by
  refine ⟨exp_nonneg _, ?_⟩
  have h := logDecay_nonpos g lam
  unfold decayOf
  generalize logDecay g lam = x at h
  induction x with
  | bot => rw [Ideal.exp_bot]; exact EReal.zero_ne_top
  | top => simp at h
  | coe r => rw [Ideal.exp_coe]; exact EReal.coe_ne_top _

/-- `exp x` squared is `exp (2 x)`. -/
theorem exp_sq (x : EReal) : Ideal.exp x * Ideal.exp x = Ideal.exp (Ideal.ofBits .f32 0x40000000#32 * x) := by
  rw [c2_eq]
  induction x with
  | bot => rw [EReal.coe_mul_bot_of_pos two_pos, Ideal.exp_bot, mul_zero]
  | top => rw [EReal.coe_mul_top_of_pos two_pos, Ideal.exp_top, EReal.top_mul_top]
  | coe r => rw [← EReal.coe_mul, Ideal.exp_coe, Ideal.exp_coe, ← EReal.coe_mul, ← Real.exp_add, two_mul]

/-- `-(x - 1)` is `1 - x`. -/
theorem neg_sub_one (x : EReal) : -(x - 1) = 1 - x := by
  rw [EReal.neg_sub (Or.inr one_ne_bot) (Or.inr one_ne_top), add_comm, sub_eq_add_neg]

/-- The reference's root, by `expm1`, is the kernel's. -/
theorem sqrt_expm1 (x : EReal) :
    Ideal.sqrt (-(Ideal.exp (Ideal.ofBits .f32 0x40000000#32 * x) - 1)) = Ideal.sqrt (1 - Ideal.exp x * Ideal.exp x) := by
  rw [neg_sub_one, exp_sq]

/-- The reference's softplus of `-λ` is the kernel's. -/
theorem softplus_reference (lam : EReal) :
    max (-lam) 0 + Ideal.log1p (Ideal.exp (-(max (-lam - 0) (-(-lam - 0))))) = softplus lam := by
  simp [softplus, Ideal.log1p, sub_eq_add_neg, max_comm lam]

/-! ## One token, all channels -/

/-- The block-diagonal linear map of a gate, at channel `c`: the 128 channels of `c`'s block times the block's matrix. -/
def gateLin (x : Fin 1024 → EReal) (w : Fin 8 → Fin 128 → Fin 128 → EReal) (b : Fin 1024 → EReal) (c : Fin 1024) : EReal :=
  (∑ k : Fin 128, x ⟨128 * (c.val / 128) + k.val, by omega⟩ * w ⟨c.val / 128, by omega⟩ k ⟨c.val % 128, by omega⟩) + b c

/-- The decay of a token's channel. -/
def tokenA (wa : Fin 8 → Fin 128 → Fin 128 → EReal) (ba lam : Fin 1024 → EReal) (x : Fin 1024 → EReal) (c : Fin 1024) : EReal :=
  decayOf (gateLin x wa ba c) (lam c)

/-- The input of a token's channel. -/
def tokenB (wa wx : Fin 8 → Fin 128 → Fin 128 → EReal) (ba bx lam : Fin 1024 → EReal) (x : Fin 1024 → EReal) (c : Fin 1024) :
    EReal :=
  inputOf (gateLin x wa ba c) (gateLin x wx bx c) (lam c) (x c)

end Cert.Hand
-- ==== Proof.Read.lean ====
/-
  A grid point's block read token by token and channel by channel over the extended reals: the coefficients are the
  gates of `Gate.lean`, and the states of the 256 tokens are the sequential recurrence (`states_apply`, `lastState_apply`).
-/
module

public import proofs.«01_k».proof.Proof.Block
public import proofs.«01_k».proof.Proof.Gate
public import Idealize.ShloMosaic.Lib.Pointwise

@[expose] public section

set_option maxRecDepth 16384

noncomputable section

namespace Cert.KernelIdeal.Hand

open Idealize.ShloMosaic Idealize.ShloMosaic.Pipeline Idealize.SL.Sem Cert.KernelIdeal.Gen Cert.Hand

/-! ## The coefficients -/

/-- The gates' matrices and rows as the block's operands hold them: gate `g` in columns `128 g` to `128 g + 127`. -/
def wOf (wg : Vec Ideal S8x128x256 .bf16) (g : Fin 2) : Fin 8 → Fin 128 → Fin 128 → EReal :=
  fun j k d => wg (ix3 j k ⟨128 * g.val + d.val, by omega⟩)

def bOf (bg : Vec Ideal S2x1024 .f32) (g : Fin 2) : Fin 1024 → EReal := fun c => bg (ix2 g c)

def lamOf (lam : Vec Ideal S1x1024 .f32) : Fin 1024 → EReal := fun c => lam (ix2 0 c)

def rowOf (u : Vec Ideal S256x1024 .f32) (r : Fin 256) : Fin 1024 → EReal := fun c => u (ix2 r c)

theorem softplusRow_apply (lam : Vec Ideal S1x1024 .f32) (c : Fin 1024) : softplusRow lam (ix2 0 c) = softplus (lamOf lam c) := by
  pointwise [softplusRow, k0_pay6]
  rfl

theorem biasRows_apply (bg : Vec Ideal S2x1024 .f32) (g : Fin 2) (j : ℕ) (h : j < 8) (r : Fin 256) (d : Fin 128) :
    biasRows bg g.val j g.isLt h (ix2 r d) = bOf bg g ⟨128 * j + d.val, by omega⟩ := by
  pointwise [biasRows]
  rfl

theorem dot_apply (l : FVec Ideal S256x128 .bf16) (w : FVec Ideal S128x256 .bf16) (r d : Fin 256) :
    matmul dot_S256x128_S128x256_S256x256_1_0_0_1_n_n none l w (constant S256x256 .f32 0x00000000#32) (ix2 r d) =
      ∑ k : Fin 128, l (ix2 r k) * w (ix2 k d) := by
  pointwise

theorem cols_apply (u : Vec Ideal S256x1024 .f32) (j : ℕ) (h : j < 8) (r : Fin 256) (k : Fin 128) :
    extractStridedSlice S256x128 ![0, 128 * j] (truncf .bf16 u bitsLt_bf16_f32 : FVec Ideal S256x1024 .bf16) (slices_cols j h) (ix2 r k) =
      u (ix2 r ⟨128 * j + k.val, by omega⟩) := by
  pointwise

theorem weight_apply (wg : Vec Ideal S8x128x256 .bf16) (j : ℕ) (h : j < 8) (k : Fin 128) (d : Fin 256) :
    shapeCast S128x256 (View.ld wg (Rect.unit (s := S8x128x256) ![j, 0, 0] S1x128x256.size (inb_weight j h))) shapeCasts_S1x128x256_S128x256 (ix2 k d) =
      wg (ix3 ⟨j, h⟩ k d) := by
  have e (x : Vec Ideal S1x128x256 .bf16) : shapeCast S128x256 x shapeCasts_S1x128x256_S128x256 (ix2 k d) = x (ix3 0 k d) := by
    pointwise
  rw [e]
  unfold View.ld
  refine congrArg wg ?_
  funext a
  apply Fin.ext
  fin_cases a
  · exact (by omega : j + 1 * 0 = j)
  · exact (by omega : 0 + 1 * k.val = k.val)
  · exact (by omega : 0 + 1 * d.val = d.val)

theorem gateDot_apply (u : Vec Ideal S256x1024 .f32) (wg) (j : ℕ) (h : j < 8) (r d : Fin 256) :
    gateDot u wg j h (ix2 r d) = ∑ k : Fin 128, u (ix2 r ⟨128 * j + k.val, by omega⟩) * wg (ix3 ⟨j, h⟩ k d) := by
  unfold gateDot
  rw [dot_apply]
  exact Finset.sum_congr rfl fun k _ => by rw [cols_apply _ _ h, weight_apply]

theorem decay_apply (u : Vec Ideal S256x1024 .f32) (wg bg lam) (j : ℕ) (h : j < 8) (r : Fin 256) (d : Fin 128) :
    decay u wg bg lam j h (ix2 r d) = tokenA (wOf wg 0) (bOf bg 0) (lamOf lam) (rowOf u r) ⟨128 * j + d.val, by omega⟩ := by
  have hq : (128 * j + d.val) / 128 = j := by omega
  have hm : (128 * j + d.val) % 128 = d.val := by omega
  unfold decay
  pointwise [gateDot_apply, softplusRow_apply]
  rw [show biasRows bg 0 j _ h (ix2 r d) = _ from biasRows_apply bg 0 j h r d]
  simp only [tokenA, gateLin, decayOf, logDecay, wOf, rowOf, hq, hm]
  simp

theorem coefB_apply (u : Vec Ideal S256x1024 .f32) (wg bg lam) (j : ℕ) (h : j < 8) (r : Fin 256) (d : Fin 128) :
    coefB u wg bg lam j h (ix2 r d) = tokenB (wOf wg 0) (wOf wg 1) (bOf bg 0) (bOf bg 1) (lamOf lam) (rowOf u r) ⟨128 * j + d.val, by omega⟩ := by
  have hq : (128 * j + d.val) / 128 = j := by omega
  have hm : (128 * j + d.val) % 128 = d.val := by omega
  unfold coefB
  pointwise [gateDot_apply, decay_apply]
  rw [show biasRows bg 1 j _ h (ix2 r d) = _ from biasRows_apply bg 1 j h r d]
  simp only [tokenB, tokenA, gateLin, inputOf, wOf, rowOf, hq, hm]
  simp

/-! ## The stored column blocks -/

theorem joined_apply (f : (j : ℕ) → j < 8 → FVec Ideal S256x128 .f32) (G : S256x1024.Idx → EReal)
    (hf : ∀ j h (r : Fin 256) (d : Fin 128), f j h (ix2 r d) = G (ix2 r ⟨128 * j + d.val, by omega⟩)) : joined f = G := by
  funext y
  refine View.canon_apply_of_pieces (Val := Elt Ideal) G _ ?_ y (cols_cover f y)
  have key : ∀ n hn, ∀ p ∈ colPieces f n hn, ∀ x : p.1.shape.Idx, p.2 x = G (p.1.emb x) := by
    intro n
    induction n with
    | zero => intro hn p hp; simp [colPieces] at hp
    | succ n ih =>
      intro hn p hp
      rcases List.mem_cons.1 hp with rfl | hp
      · intro x
        show f n hn x = G _
        obtain ⟨a, b, rfl⟩ : ∃ (a : Fin 256) (b : Fin 128), x = ix2 a b := ⟨x 0, x 1, eq_ix2 x⟩
        rw [hf]
        refine congrArg G ?_
        funext i
        apply Fin.ext
        fin_cases i
        · exact (by omega : a.val = 0 + 1 * a.val)
        · exact (by omega : 128 * n + b.val = 128 * n + 1 * b.val)
      · exact ih _ p hp
  exact key 8 le_rfl

/-- The decays a point stores. -/
theorem joinedA (u : Vec Ideal S256x1024 .f32) (wg bg lam) (r : Fin 256) (c : Fin 1024) :
    joined (coefA u wg bg lam) (ix2 r c) = tokenA (wOf wg 0) (bOf bg 0) (lamOf lam) (rowOf u r) c := by
  rw [joined_apply (coefA u wg bg lam) (fun y => tokenA (wOf wg 0) (bOf bg 0) (lamOf lam) (rowOf u (y 0)) (y 1))]
  · rfl
  · intro j h r d
    pointwise [coefA, decay_apply]

/-- The inputs a point stores. -/
theorem joinedB (u : Vec Ideal S256x1024 .f32) (wg bg lam) (r : Fin 256) (c : Fin 1024) :
    joined (coefB u wg bg lam) (ix2 r c) = tokenB (wOf wg 0) (wOf wg 1) (bOf bg 0) (bOf bg 1) (lamOf lam) (rowOf u r) c := by
  rw [joined_apply (coefB u wg bg lam)
    (fun y => tokenB (wOf wg 0) (wOf wg 1) (bOf bg 0) (bOf bg 1) (lamOf lam) (rowOf u (y 0)) (y 1))]
  · rfl
  · intro j h r d
    exact coefB_apply u wg bg lam j h r d

/-! ## The doubling steps -/

/-- The eight positions of group `k` at channel `c`, continued by zeros. -/
def grp (a : FVec Ideal S32x8x1024 .f32) (k : Fin 32) (c : Fin 1024) (p : ℕ) : EReal := if h : p < 8 then a (ix3 k ⟨p, h⟩ c) else 0

theorem stepA_apply (s : BitVec 32) (hs : s = 1#32 ∨ s = 2#32 ∨ s = 4#32) (a : FVec Ideal S32x8x1024 .f32) (k : Fin 32) (p : Fin 8)
    (c : Fin 1024) : stepA s a (ix3 k p c) = dblA s.toNat (grp a k c) p.val := by
  rcases hs with rfl | rfl | rfl <;> pointwise [stepA, atLeast] <;> fin_cases p <;> rfl

theorem stepB_apply (s : BitVec 32) (hs : s = 1#32 ∨ s = 2#32 ∨ s = 4#32) (a b : FVec Ideal S32x8x1024 .f32) (k : Fin 32) (p : Fin 8)
    (c : Fin 1024) : stepB s a b (ix3 k p c) = dblB s.toNat (grp a k c) (grp b k c) p.val := by
  rcases hs with rfl | rfl | rfl <;> pointwise [stepB, atLeast] <;> fin_cases p <;> rfl

theorem grp_stepA (s : BitVec 32) (hs : s = 1#32 ∨ s = 2#32 ∨ s = 4#32) (a : FVec Ideal S32x8x1024 .f32) (k : Fin 32) (c : Fin 1024) :
    grp (stepA s a) k c = dblA s.toNat (grp a k c) := by
  funext p
  by_cases h : p < 8
  · rw [grp, dif_pos h, stepA_apply s hs]
  · simp [grp, dblA, h]

theorem grp_stepB (s : BitVec 32) (hs : s = 1#32 ∨ s = 2#32 ∨ s = 4#32) (a b : FVec Ideal S32x8x1024 .f32) (k : Fin 32) (c : Fin 1024) :
    grp (stepB s a b) k c = dblB s.toNat (grp a k c) (grp b k c) := by
  funext p
  by_cases h : p < 8
  · rw [grp, dif_pos h, stepB_apply s hs]
  · simp [grp, dblB, h]

/-- A column of a block of 256 tokens, continued by zeros. -/
def col (x : Vec Ideal S256x1024 .f32) (c : Fin 1024) (n : ℕ) : EReal := if h : n < 256 then x (ix2 ⟨n, h⟩ c) else 0

theorem grp_split (x : Vec Ideal S256x1024 .f32) (k : Fin 32) (c : Fin 1024) (p : ℕ) (hp : p < 8) :
    grp (split x) k c p = col x c (8 * k.val + p) := by
  have h : 8 * k.val + p < 256 := by omega
  have e : k.val * 8 + p = 8 * k.val + p := by omega
  rw [grp, dif_pos hp, col, dif_pos h]
  pointwise [split]
  simp only [e]

theorem groupA_apply (a : Vec Ideal S256x1024 .f32) (k : Fin 32) (p : Fin 8) (c : Fin 1024) :
    groupA a (ix2 ⟨8 * k.val + p.val, by omega⟩ c) = dblA 4 (dblA 2 (dblA 1 (grp (split a) k c))) p.val := by
  have e : groupA a (ix2 ⟨8 * k.val + p.val, by omega⟩ c) = stepA 4#32 (stepA 2#32 (stepA 1#32 (split a))) (ix3 k p c) := by
    unfold groupA
    generalize stepA (F := Ideal) 4#32 _ = x
    pointwise
  rw [e, stepA_apply _ (by simp), grp_stepA _ (by simp), grp_stepA _ (by simp)]
  rfl

theorem groupB_apply (a b : Vec Ideal S256x1024 .f32) (k : Fin 32) (p : Fin 8) (c : Fin 1024) :
    groupB a b (ix2 ⟨8 * k.val + p.val, by omega⟩ c) =
      dblB 4 (dblA 2 (dblA 1 (grp (split a) k c)))
        (dblB 2 (dblA 1 (grp (split a) k c)) (dblB 1 (grp (split a) k c) (grp (split b) k c))) p.val := by
  have e : groupB a b (ix2 ⟨8 * k.val + p.val, by omega⟩ c) =
      stepB 4#32 (stepA 2#32 (stepA 1#32 (split a))) (stepB 2#32 (stepA 1#32 (split a)) (stepB 1#32 (split a) (split b))) (ix3 k p c) := by
    unfold groupB
    generalize stepB (F := Ideal) 4#32 _ _ = x
    pointwise
  rw [e, stepB_apply _ (by simp), grp_stepA _ (by simp), grp_stepA _ (by simp), grp_stepB _ (by simp), grp_stepB _ (by simp),
    grp_stepA _ (by simp)]
  rfl

/-! ## The groups in turn -/

theorem grp_factor {a : Vec Ideal S256x1024 .f32} (ha : ∀ r c, Factor (a (ix2 r c))) (k : Fin 32) (c : Fin 1024) (p : ℕ) :
    Factor (grp (split a) k c p) := by
  by_cases hp : p < 8
  · have h : 8 * k.val + p < 256 := by omega
    rw [grp_split a k c p hp, col, dif_pos h]
    exact ha _ _
  · rw [grp, dif_neg hp]
    exact ⟨le_rfl, EReal.zero_ne_top⟩

/-- A group's states are the recurrence over its eight tokens from the state before it. -/
theorem groupStates_apply {a b : Vec Ideal S256x1024 .f32} (ha : ∀ r c, Factor (a (ix2 r c))) (k : ℕ) (h : k < 32)
    (before : FVec Ideal S1x1024 .f32) (p : Fin 8) (c : Fin 1024) :
    groupStates (groupA a) (groupB a b) k h before (ix2 p c) =
      scan (fun n => col a c (8 * k + n)) (fun n => col b c (8 * k + n)) (before (ix2 0 c)) (p.val + 1) := by
  have e : groupStates (groupA a) (groupB a b) k h before (ix2 p c) =
      groupA a (ix2 ⟨8 * k + p.val, by omega⟩ c) * before (ix2 0 c) + groupB a b (ix2 ⟨8 * k + p.val, by omega⟩ c) := by
    generalize groupA a = A
    generalize groupB a b = B
    pointwise [groupStates, rows]
  rw [e, groupA_apply a ⟨k, h⟩, groupB_apply a b ⟨k, h⟩, double_scan (grp_factor ha ⟨k, h⟩ c) _ _ p.isLt]
  exact scan_congr _ _ (fun n hn => grp_split a ⟨k, h⟩ c n (by omega)) fun n hn => grp_split b ⟨k, h⟩ c n (by omega)

/-- Group `k`'s states are the recurrence over the block's tokens from the state before the block. -/
theorem states_apply {a b : Vec Ideal S256x1024 .f32} (ha : ∀ r c, Factor (a (ix2 r c))) (carry : Vec Ideal S1x1024 .f32) (k : ℕ)
    (h : k < 32) (p : Fin 8) (c : Fin 1024) :
    states (groupA a) (groupB a b) carry k h (ix2 p c) = scan (col a c) (col b c) (carry (ix2 0 c)) (8 * k + (p.val + 1)) := by
  induction k generalizing p with
  | zero =>
    rw [states, groupStates_apply ha]
    exact (scan_congr (a' := col a c) (b' := col b c) _ _ (fun n _ => by simp) (fun n _ => by simp)).trans (by simp)
  | succ k ih =>
    have e : lastRow (states (groupA a) (groupB a b) carry k (Nat.lt_of_succ_lt h)) (ix2 0 c) =
        states (groupA a) (groupB a b) carry k (Nat.lt_of_succ_lt h) (ix2 7 c) := by
      generalize states (groupA a) (groupB a b) carry k _ = x
      pointwise [lastRow]
    have e' : lastRow (states (groupA a) (groupB a b) carry k (Nat.lt_of_succ_lt h)) (ix2 0 c) =
        scan (col a c) (col b c) (carry (ix2 0 c)) (8 * (k + 1)) := by
      rw [e, ih]
      rfl
    rw [states, groupStates_apply ha, e', ← scan_add]

/-- The state a block hands on is the recurrence over all its tokens. -/
theorem lastState_apply {a b : Vec Ideal S256x1024 .f32} (ha : ∀ r c, Factor (a (ix2 r c))) (carry : Vec Ideal S1x1024 .f32)
    (c : Fin 1024) :
    lastState (groupA a) (groupB a b) carry (ix2 0 c) = scan (col a c) (col b c) (carry (ix2 0 c)) 256 := by
  have e : lastState (groupA a) (groupB a b) carry (ix2 0 c) = states (groupA a) (groupB a b) carry 31 (by decide) (ix2 7 c) := by
    unfold lastState
    generalize states (groupA a) (groupB a b) carry 31 _ = x
    pointwise [lastRow]
  rw [e, states_apply ha]
  rfl

/-- The rows written out, at one token and channel. -/
theorem outRows_apply {a b : Vec Ideal S256x1024 .f32} (ha : ∀ r c, Factor (a (ix2 r c))) (carry : Vec Ideal S1x1024 .f32)
    (hb gy : Vec Ideal S256x1024 .f32) (r : Fin 256) (c : Fin 1024) :
    View.canon (rowPieces (outRows (groupA a) (groupB a b) carry hb gy) 32 le_rfl) (ix2 r c) =
      (scan (col a c) (col b c) (carry (ix2 0 c)) (r.val + 1) + hb (ix2 r c)) * gy (ix2 r c) := by
  have key : ∀ n hn, ∀ p ∈ rowPieces (outRows (groupA a) (groupB a b) carry hb gy) n hn, ∀ x : p.1.shape.Idx,
      p.2 x = (fun y : S256x1024.Idx => (scan (col a (y 1)) (col b (y 1)) (carry (ix2 0 (y 1))) ((y 0).val + 1) + hb y) * gy y)
        (p.1.emb x) := by
    intro n
    induction n with
    | zero => intro hn p hp; simp [rowPieces] at hp
    | succ n ih =>
      intro hn p hp
      rcases List.mem_cons.1 hp with rfl | hp
      · intro x
        obtain ⟨q, d, rfl⟩ : ∃ (q : Fin 8) (d : Fin 1024), x = ix2 q d := ⟨x 0, x 1, eq_ix2 x⟩
        have hi : (Rect.unit (s := S256x1024) ![8 * n, 0] S8x1024.size (inb_rows n hn)).emb (ix2 q d) =
            (ix2 ⟨8 * n + q.val, by omega⟩ d : S256x1024.Idx) := by
          funext i
          apply Fin.ext
          fin_cases i
          · exact (by omega : 8 * n + 1 * q.val = 8 * n + q.val)
          · exact (by omega : 0 + 1 * d.val = d.val)
        show outRows _ _ carry hb gy n hn (ix2 q d) = (fun y : S256x1024.Idx => _)
          ((Rect.unit (s := S256x1024) ![8 * n, 0] S8x1024.size (inb_rows n hn)).emb (ix2 q d))
        rw [hi]
        have e : outRows (groupA a) (groupB a b) carry hb gy n hn (ix2 q d) =
            (states (groupA a) (groupB a b) carry n hn (ix2 q d) + hb (ix2 ⟨8 * n + q.val, by omega⟩ d)) *
              gy (ix2 ⟨8 * n + q.val, by omega⟩ d) := by
          unfold outRows
          generalize states (groupA a) (groupB a b) carry n hn = x
          pointwise [rows]
        rw [e, states_apply ha]
        rfl
      · exact ih _ p hp
  exact View.canon_apply_of_pieces (Val := Elt Ideal)
    (fun y : S256x1024.Idx => (scan (col a (y 1)) (col b (y 1)) (carry (ix2 0 (y 1))) ((y 0).val + 1) + hb y) * gy y) _
    (key 32 le_rfl) (ix2 r c)
    (View.cover_of_tiledL (rowPieces (outRows (groupA a) (groupB a b) carry hb gy) 32 le_rfl) S8x1024.size (by sl_kernel_rfl) _)

end Cert.KernelIdeal.Hand
-- ==== Proof.Spec.lean ====
/-
  What the forward recurrence computes, of the call's arguments: per batch the 256 context tokens and then the 4096
  latent tokens pass through the gates and the recurrence from zero, and a latent token's result is
  `(state + h_bwd) · gy`.
-/
module

public import proofs.«01_k».proof.Proof.Gate

@[expose] public section

noncomputable section

namespace Cert.Hand

/-- The call's arguments, as functions of their indices; of the two directions' parameters, the forward's. -/
structure Args where
  u : Fin 16384 → Fin 1024 → EReal
  uc : Fin 1024 → Fin 1024 → EReal
  wa : Fin 8 → Fin 128 → Fin 128 → EReal
  ba : Fin 1024 → EReal
  wx : Fin 8 → Fin 128 → Fin 128 → EReal
  bx : Fin 1024 → EReal
  lam : Fin 1024 → EReal
  hb : Fin 16384 → Fin 1024 → EReal
  gy : Fin 16384 → Fin 1024 → EReal

namespace Args

variable (X : Args)

/-- Token `n` of batch `b`: the context's 256, then the latent's 4096. -/
def token (b : Fin 4) (n : ℕ) : Fin 1024 → EReal :=
  if h : n < 256 then X.uc ⟨256 * b.val + n, by omega⟩
  else if h' : n < 4352 then X.u ⟨4096 * b.val + (n - 256), by omega⟩ else fun _ => 0

/-- The decay of token `n` of batch `b`. -/
def a (b : Fin 4) (ch : Fin 1024) (n : ℕ) : EReal := tokenA X.wa X.ba X.lam (X.token b n) ch

/-- The input of token `n` of batch `b`. -/
def b (b : Fin 4) (ch : Fin 1024) (n : ℕ) : EReal := tokenB X.wa X.wx X.ba X.bx X.lam (X.token b n) ch

/-- The state after the first `n` tokens of batch `b`. -/
def state (b : Fin 4) (ch : Fin 1024) (n : ℕ) : EReal := scan (X.a b ch) (X.b b ch) 0 n

/-- The result at latent token `r` (of all batches) and channel `ch`. -/
def result (r : Fin 16384) (ch : Fin 1024) : EReal :=
  (X.state ⟨r.val / 4096, by omega⟩ ch (256 + r.val % 4096 + 1) + X.hb r ch) * X.gy r ch

end Args

end Cert.Hand
-- ==== Proof.Points.lean ====
/-
  The grid of the forward recurrence: which block every point reads, the state it hands on (`carry_at`), and the array
  the call leaves (`final`), which is `Args.result` of the arguments.
-/
module

public import proofs.«01_k».proof.Proof.Read
public import proofs.«01_k».proof.Proof.Spec
public import Idealize.ShloMosaic.Lib.StableHlo.ReadAt
public import Idealize.ShloMosaic.Lib.Tactic

@[expose] public section

set_option maxRecDepth 16384

noncomputable section

namespace Cert.KernelIdeal.Hand

open Idealize.ShloMosaic Idealize.ShloMosaic.TcCoe Idealize.SL.Sem Cert.KernelIdeal Cert.KernelIdeal.Gen Cert.Hand

variable (m : (ℓ : Loc nD τ sig) → Buf (Elt Ideal) ℓ)

/-- The arguments a core finds. -/
def args (c : Dev nD) : Args where
  u r ch := m ((c : Thread nD τ).loc main_arg0) (ix2 r ch)
  uc r ch := m ((c : Thread nD τ).loc main_arg1) (ix2 r ch)
  wa j k d := m ((c : Thread nD τ).loc main_arg2) (ix4 0 j k d)
  ba ch := m ((c : Thread nD τ).loc main_arg3) (ix2 0 ch)
  wx j k d := m ((c : Thread nD τ).loc main_arg4) (ix4 0 j k d)
  bx ch := m ((c : Thread nD τ).loc main_arg5) (ix2 0 ch)
  lam ch := m ((c : Thread nD τ).loc main_arg6) (ix2 0 ch)
  hb r ch := m ((c : Thread nD τ).loc main_arg7) (ix2 r ch)
  gy r ch := m ((c : Thread nD τ).loc main_arg8) (ix2 r ch)

/-! ## The prepared parameters -/

theorem V_gates (c : Dev nD) (j : Fin 8) (k : Fin 128) (d : Fin 256) :
    (V m c main_v5 : S8x128x256.Idx → EReal) (ix3 j k d) =
      if h : d.val < 128 then (args m c).wa j k ⟨d.val, h⟩ else (args m c).wx j k ⟨d.val - 128, by omega⟩ := by
  unfold V args
  after_reads_at
  split
  · after_reads_at
  · after_reads_at

theorem V_bias (c : Dev nD) (g : Fin 2) (ch : Fin 1024) :
    (V m c main_v12 : S2x1024.Idx → EReal) (ix2 g ch) = if g.val < 1 then (args m c).ba ch else (args m c).bx ch := by
  unfold V args
  after_reads_at
  split <;> rfl

theorem V_lam (c : Dev nD) (ch : Fin 1024) : (V m c main_v15 : S1x1024.Idx → EReal) (ix2 0 ch) = (args m c).lam ch := by
  unfold V args
  after_reads_at

/-! ## The blocks -/

theorem index_u : ∀ t : Fin grid0.N, win0_0.index t 0 = 16 * (t.val / 17) + (t.val % 17 - 1) ∧ win0_0.index t 1 = 0 := by decide +kernel
theorem index_uc : ∀ t : Fin grid0.N, win0_1.index t 0 = t.val / 17 ∧ win0_1.index t 1 = 0 := by decide +kernel
theorem index_hb : ∀ t : Fin grid0.N, win0_5.index t 0 = 16 * (t.val / 17) + (t.val % 17 - 1) ∧ win0_5.index t 1 = 0 := by decide +kernel
theorem index_gy : ∀ t : Fin grid0.N, win0_6.index t 0 = 16 * (t.val / 17) + (t.val % 17 - 1) ∧ win0_6.index t 1 = 0 := by decide +kernel
theorem index_out : ∀ t : Fin grid0.N, win0_7.index t 0 = 16 * (t.val / 17) + (t.val % 17 - 1) ∧ win0_7.index t 1 = 0 := by decide +kernel
theorem index_w : ∀ t : Fin grid0.N, win0_2.index t 0 = 0 ∧ win0_2.index t 1 = 0 ∧ win0_2.index t 2 = 0 := by decide +kernel
theorem index_b : ∀ t : Fin grid0.N, win0_3.index t 0 = 0 ∧ win0_3.index t 1 = 0 := by decide +kernel
theorem index_lam : ∀ t : Fin grid0.N, win0_4.index t 0 = 0 ∧ win0_4.index t 1 = 0 := by decide +kernel
theorem flush_out : ∀ t : Fin grid0.N, win0_7.flush t = true ↔ ¬ t.val % 17 = 0 := by decide +kernel
theorem coord_chunk : ∀ t : Fin grid0.N, ((grid0.coords t) 1).val = t.val % 17 := by decide +kernel

variable (c : Dev nD) (t : Fin cfg0.N)

theorem lt_68 : t.val < 68 := lt_of_lt_of_eq t.isLt N_0

/-- The batch a point works on. -/
def batch : Fin 4 := ⟨t.val / 17, by have := lt_68 t; omega⟩

theorem blk_uc (r : Fin 256) (ch : Fin 1024) :
    (iblk m c 1 t : S256x1024.Idx → EReal) (ix2 r ch) = (args m c).uc ⟨256 * (t.val / 17) + r.val, by have := lt_68 t; omega⟩ ch := by
  unfold iblk
  rw [View.read_apply]
  show V m c main_arg1 _ = m (c.tc.loc main_arg1) _
  rw [V_main_arg1]
  congr 1
  funext a
  apply Fin.ext
  match a with
  | ⟨0, _⟩ => show win0_1.index t 0 * 256 + 1 * r.val = 256 * (t.val / 17) + r.val; rw [(index_uc t).1]; omega
  | ⟨1, _⟩ => show win0_1.index t 1 * 1024 + 1 * ch.val = ch.val; rw [(index_uc t).2]; omega

theorem blk_u (r : Fin 256) (ch : Fin 1024) : (iblk m c 0 t : S256x1024.Idx → EReal) (ix2 r ch) =
    (args m c).u ⟨4096 * (t.val / 17) + 256 * (t.val % 17 - 1) + r.val, by have := lt_68 t; omega⟩ ch := by
  unfold iblk
  rw [View.read_apply]
  show V m c main_arg0 _ = m (c.tc.loc main_arg0) _
  rw [V_main_arg0]
  congr 1
  funext a
  apply Fin.ext
  match a with
  | ⟨0, _⟩ => show win0_0.index t 0 * 256 + 1 * r.val = 4096 * (t.val / 17) + 256 * (t.val % 17 - 1) + r.val; rw [(index_u t).1]; omega
  | ⟨1, _⟩ => show win0_0.index t 1 * 1024 + 1 * ch.val = ch.val; rw [(index_u t).2]; omega

theorem blk_hb (r : Fin 256) (ch : Fin 1024) : (iblk m c 5 t : S256x1024.Idx → EReal) (ix2 r ch) =
    (args m c).hb ⟨4096 * (t.val / 17) + 256 * (t.val % 17 - 1) + r.val, by have := lt_68 t; omega⟩ ch := by
  unfold iblk
  rw [View.read_apply]
  show V m c main_arg7 _ = m (c.tc.loc main_arg7) _
  rw [V_main_arg7]
  congr 1
  funext a
  apply Fin.ext
  match a with
  | ⟨0, _⟩ => show win0_5.index t 0 * 256 + 1 * r.val = 4096 * (t.val / 17) + 256 * (t.val % 17 - 1) + r.val; rw [(index_hb t).1]; omega
  | ⟨1, _⟩ => show win0_5.index t 1 * 1024 + 1 * ch.val = ch.val; rw [(index_hb t).2]; omega

theorem blk_gy (r : Fin 256) (ch : Fin 1024) : (iblk m c 6 t : S256x1024.Idx → EReal) (ix2 r ch) =
    (args m c).gy ⟨4096 * (t.val / 17) + 256 * (t.val % 17 - 1) + r.val, by have := lt_68 t; omega⟩ ch := by
  unfold iblk
  rw [View.read_apply]
  show V m c main_arg8 _ = m (c.tc.loc main_arg8) _
  rw [V_main_arg8]
  congr 1
  funext a
  apply Fin.ext
  match a with
  | ⟨0, _⟩ => show win0_6.index t 0 * 256 + 1 * r.val = 4096 * (t.val / 17) + 256 * (t.val % 17 - 1) + r.val; rw [(index_gy t).1]; omega
  | ⟨1, _⟩ => show win0_6.index t 1 * 1024 + 1 * ch.val = ch.val; rw [(index_gy t).2]; omega

theorem blk_w (j : Fin 8) (k : Fin 128) (d : Fin 256) :
    (iblk m c 2 t : S8x128x256.Idx → EReal) (ix3 j k d) = (V m c main_v5 : S8x128x256.Idx → EReal) (ix3 j k d) := by
  unfold iblk
  rw [View.read_apply]
  show V m c main_v5 _ = V m c main_v5 _
  congr 1
  funext a
  apply Fin.ext
  match a with
  | ⟨0, _⟩ => show win0_2.index t 0 * 8 + 1 * j.val = j.val; rw [(index_w t).1]; omega
  | ⟨1, _⟩ => show win0_2.index t 1 * 128 + 1 * k.val = k.val; rw [(index_w t).2.1]; omega
  | ⟨2, _⟩ => show win0_2.index t 2 * 256 + 1 * d.val = d.val; rw [(index_w t).2.2]; omega

theorem blk_b (g : Fin 2) (ch : Fin 1024) :
    (iblk m c 3 t : S2x1024.Idx → EReal) (ix2 g ch) = (V m c main_v12 : S2x1024.Idx → EReal) (ix2 g ch) := by
  unfold iblk
  rw [View.read_apply]
  show V m c main_v12 _ = V m c main_v12 _
  congr 1
  funext a
  apply Fin.ext
  match a with
  | ⟨0, _⟩ => show win0_3.index t 0 * 2 + 1 * g.val = g.val; rw [(index_b t).1]; omega
  | ⟨1, _⟩ => show win0_3.index t 1 * 1024 + 1 * ch.val = ch.val; rw [(index_b t).2]; omega

theorem blk_lam (ch : Fin 1024) :
    (iblk m c 4 t : S1x1024.Idx → EReal) (ix2 0 ch) = (V m c main_v15 : S1x1024.Idx → EReal) (ix2 0 ch) := by
  unfold iblk
  rw [View.read_apply]
  show V m c main_v15 _ = V m c main_v15 _
  congr 1
  funext a
  apply Fin.ext
  match a with
  | ⟨0, _⟩ => show win0_4.index t 0 * 1 + 1 * 0 = 0; rw [(index_lam t).1]
  | ⟨1, _⟩ => show win0_4.index t 1 * 1024 + 1 * ch.val = ch.val; rw [(index_lam t).2]; omega

/-! ## A point's coefficients -/

theorem w_a : wOf (iblk m c 2 t) 0 = (args m c).wa := by
  funext j k d
  have h : (⟨128 * (0 : Fin 2).val + d.val, by omega⟩ : Fin 256).val < 128 := by simp
  unfold wOf
  rw [blk_w, V_gates, dif_pos h]
  simp

theorem w_x : wOf (iblk m c 2 t) 1 = (args m c).wx := by
  funext j k d
  have h : ¬ (⟨128 * (1 : Fin 2).val + d.val, by omega⟩ : Fin 256).val < 128 := by simp
  unfold wOf
  rw [blk_w, V_gates, dif_neg h]
  simp

theorem b_a : bOf (iblk m c 3 t) 0 = (args m c).ba := by
  funext ch
  unfold bOf
  rw [blk_b, V_bias]
  rfl

theorem b_x : bOf (iblk m c 3 t) 1 = (args m c).bx := by
  funext ch
  unfold bOf
  rw [blk_b, V_bias]
  rfl

theorem lam_row : lamOf (iblk m c 4 t) = (args m c).lam := by
  funext ch
  unfold lamOf
  rw [blk_lam, V_lam]

/-- The tokens a point reads: the batch's tokens from `256 (t mod 17)` on. -/
theorem token_row (r : Fin 256) :
    rowOf (k0_pay4 (grid0.coords t) (iblk m c 1 t) (iblk m c 0 t)) r = (args m c).token (batch t) (256 * (t.val % 17) + r.val) := by
  funext ch
  have ht := lt_68 t
  unfold rowOf k0_pay4 Args.token
  rw [coord_chunk t]
  by_cases h0 : t.val % 17 = 0
  · have h1 : 256 * (t.val % 17) + r.val < 256 := by omega
    have hs : Scalar.cmpi .eq (BitVec.ofNat 32 (t.val % 17)) 0#32 = 1#1 := by rw [h0]; rfl
    rw [dif_pos h1, hs]
    refine (blk_uc m c t r ch).trans ?_
    congr 1
    apply Fin.ext
    show 256 * (t.val / 17) + r.val = 256 * (t.val / 17) + (256 * (t.val % 17) + r.val)
    omega
  · have h1 : ¬ 256 * (t.val % 17) + r.val < 256 := by omega
    have h2 : 256 * (t.val % 17) + r.val < 4352 := by omega
    have hs : Scalar.cmpi .eq (BitVec.ofNat 32 (t.val % 17)) 0#32 = 0#1 := by
      have : ∀ k < 17, k ≠ 0 → Scalar.cmpi .eq (BitVec.ofNat 32 k) 0#32 = 0#1 := by decide
      exact this _ (Nat.mod_lt _ (by decide)) h0
    rw [dif_neg h1, dif_pos h2, hs]
    refine (blk_u m c t r ch).trans ?_
    congr 1
    apply Fin.ext
    show 4096 * (t.val / 17) + 256 * (t.val % 17 - 1) + r.val = 4096 * (t.val / 17) + (256 * (t.val % 17) + r.val - 256)
    omega

/-- A point's decays and inputs, of the arguments. -/
theorem coefs_A (r : Fin 256) (ch : Fin 1024) :
    joined (coefA (k0_pay4 (grid0.coords t) (iblk m c 1 t) (iblk m c 0 t)) (iblk m c 2 t) (iblk m c 3 t) (iblk m c 4 t)) (ix2 r ch) =
      (args m c).a (batch t) ch (256 * (t.val % 17) + r.val) := by
  rw [joinedA, w_a, b_a, lam_row, token_row]
  rfl

theorem coefs_B (r : Fin 256) (ch : Fin 1024) :
    joined (coefB (k0_pay4 (grid0.coords t) (iblk m c 1 t) (iblk m c 0 t)) (iblk m c 2 t) (iblk m c 3 t) (iblk m c 4 t)) (ix2 r ch) =
      (args m c).b (batch t) ch (256 * (t.val % 17) + r.val) := by
  rw [joinedB, w_a, w_x, b_a, b_x, lam_row, token_row]
  rfl

theorem coefs_factor (r : Fin 256) (ch : Fin 1024) : Factor
    (joined (coefA (k0_pay4 (grid0.coords t) (iblk m c 1 t) (iblk m c 0 t)) (iblk m c 2 t) (iblk m c 3 t) (iblk m c 4 t)) (ix2 r ch)) := by
  rw [coefs_A]
  exact decay_factor _ _

theorem col_A (ch : Fin 1024) (n : ℕ) (h : n < 256) :
    col (joined (coefA (k0_pay4 (grid0.coords t) (iblk m c 1 t) (iblk m c 0 t)) (iblk m c 2 t) (iblk m c 3 t) (iblk m c 4 t))) ch n =
      (args m c).a (batch t) ch (256 * (t.val % 17) + n) := by
  rw [col, dif_pos h, coefs_A]

theorem col_B (ch : Fin 1024) (n : ℕ) (h : n < 256) :
    col (joined (coefB (k0_pay4 (grid0.coords t) (iblk m c 1 t) (iblk m c 0 t)) (iblk m c 2 t) (iblk m c 3 t) (iblk m c 4 t))) ch n =
      (args m c).b (batch t) ch (256 * (t.val % 17) + n) := by
  rw [col, dif_pos h, coefs_B]

/-- The recurrence over a point's block, from the batch's state before the block, is the batch's recurrence. -/
theorem block_scan (ch : Fin 1024) (n : ℕ) (h : n ≤ 256) :
    scan (col (joined (coefA (k0_pay4 (grid0.coords t) (iblk m c 1 t) (iblk m c 0 t)) (iblk m c 2 t) (iblk m c 3 t) (iblk m c 4 t))) ch)
        (col (joined (coefB (k0_pay4 (grid0.coords t) (iblk m c 1 t) (iblk m c 0 t)) (iblk m c 2 t) (iblk m c 3 t) (iblk m c 4 t))) ch)
        ((args m c).state (batch t) ch (256 * (t.val % 17))) n =
      (args m c).state (batch t) ch (256 * (t.val % 17) + n) := by
  rw [Args.state, Args.state, scan_add]
  exact scan_congr _ _ (fun k hk => col_A m c t ch k (by omega)) fun k hk => col_B m c t ch k (by omega)

/-! ## The state handed on, and the array -/

theorem zero_row (ch : Fin 1024) : (k0_pay63 (F := Ideal)) (ix2 0 ch) = 0 := by
  pointwise [k0_pay63]

/-- Before a batch's first token the state is zero. -/
theorem state_first (h0 : t.val % 17 = 0) (ch : Fin 1024) : (args m c).state (batch t) ch (256 * (t.val % 17)) = 0 := by
  rw [h0]
  rfl

/-- Within a batch a point starts where the point before ended. -/
theorem state_next (n : ℕ) (hn : n + 1 < cfg0.N) (h0 : ¬ (n + 1) % 17 = 0) (ch : Fin 1024) :
    (args m c).state (batch ⟨n, Nat.lt_of_succ_lt hn⟩) ch (256 * (n % 17) + 256) =
      (args m c).state (batch ⟨n + 1, hn⟩) ch (256 * ((n + 1) % 17)) := by
  have hb : batch ⟨n, Nat.lt_of_succ_lt hn⟩ = batch ⟨n + 1, hn⟩ := by
    apply Fin.ext
    show n / 17 = (n + 1) / 17
    omega
  rw [hb]
  congr 1
  omega

/-- After a point the carried row is the batch's state after the point's tokens. -/
theorem carry_at (n : ℕ) (hn : n < cfg0.N) (ch : Fin 1024) :
    (outsAt0 m c n hn).2 (ix2 0 ch) = (args m c).state (batch ⟨n, hn⟩) ch (256 * (n % 17) + 256) := by
  have first (t : Fin cfg0.N) (h0 : t.val % 17 = 0) :
      (outsAt0 m c t.val t.isLt).2 (ix2 0 ch) = (args m c).state (batch t) ch (256 * (t.val % 17) + 256) := by
    rw [outsAt0_A m c t h0]
    dsimp only
    rw [carry_A, bodyA, bodyB, lastState_apply (coefs_factor m c t), zero_row, ← state_first m c t h0 ch]
    exact block_scan m c t ch 256 le_rfl
  induction n with
  | zero => exact first ⟨0, hn⟩ rfl
  | succ n ih =>
    by_cases h0 : (n + 1) % 17 = 0
    · exact first ⟨n + 1, hn⟩ h0
    · rw [show (outsAt0 m c (n + 1) hn) = _ from outsAt0_B m c ⟨n + 1, hn⟩ h0]
      dsimp only
      rw [carry_B, bodyA, bodyB, lastState_apply (coefs_factor m c ⟨n + 1, hn⟩)]
      rw [← block_scan m c ⟨n + 1, hn⟩ ch 256 le_rfl]
      congr 1
      exact (ih (Nat.lt_of_succ_lt hn)).trans (state_next m c n hn h0 ch)

/-- What a point after the first of its batch writes back. -/
theorem out_at (h0 : ¬ t.val % 17 = 0) (r : Fin 256) (ch : Fin 1024) :
    (outsAt0 m c t.val t.isLt).1 (ix2 r ch) =
      (args m c).result ⟨4096 * (t.val / 17) + 256 * (t.val % 17 - 1) + r.val, by have := lt_68 t; omega⟩ ch := by
  have ht := lt_68 t
  rw [outsAt0_B m c t h0]
  dsimp only
  rw [out_B, bodyA, bodyB, outRows_apply (coefs_factor m c t)]
  have hc : (outsAt0 m c (t.val - 1) (lt_of_le_of_lt (Nat.sub_le _ _) t.isLt)).2 (ix2 0 ch) =
      (args m c).state (batch t) ch (256 * (t.val % 17)) := by
    obtain ⟨n, hn⟩ := t
    cases n with
    | zero => exact absurd rfl h0
    | succ n => exact (carry_at m c n (Nat.lt_of_succ_lt hn) ch).trans (state_next m c n hn h0 ch)
  rw [hc, block_scan m c t ch _ (by omega)]
  unfold Args.result
  have hb : batch t = ⟨(4096 * (t.val / 17) + 256 * (t.val % 17 - 1) + r.val) / 4096, by omega⟩ := by
    apply Fin.ext
    show t.val / 17 = (4096 * (t.val / 17) + 256 * (t.val % 17 - 1) + r.val) / 4096
    omega
  have hn : 256 * (t.val % 17) + (r.val + 1) = 256 + (4096 * (t.val / 17) + 256 * (t.val % 17 - 1) + r.val) % 4096 + 1 := by omega
  rw [hb, hn]
  exact congrArg₂ (· * ·) (congrArg₂ (· + ·) rfl (blk_hb m c t r ch)) (blk_gy m c t r ch)

/-- The array of results. -/
def resultArr : Buf (Elt Ideal) ((c : Thread nD τ).loc main_v16) := fun y : S16384x1024.Idx => (args m c).result (y 0) (y 1)

theorem flushed_eq (hf : (cfg0.win 7).flush t = true) :
    (dats m 0 c).flushed 7 t = ((cfg0.win 7).blk t).view.read (Elt Ideal) (resultArr m c) := by
  have h0 := (flush_out t).1 hf
  rw [Cert.KernelIdeal.Value.flushed7]
  funext x
  obtain ⟨r, ch, rfl⟩ : ∃ (r : Fin 256) (ch : Fin 1024), x = (ix2 r ch : S256x1024.Idx) := ⟨x 0, x 1, eq_ix2 x⟩
  rw [View.read_apply]
  refine (out_at m c t h0 r ch).trans ?_
  unfold resultArr
  congr 1
  · apply Fin.ext
    show 4096 * (t.val / 17) + 256 * (t.val % 17 - 1) + r.val = win0_7.index t 0 * 256 + 1 * r.val
    rw [(index_out t).1]
    omega
  · apply Fin.ext
    show ch.val = win0_7.index t 1 * 1024 + 1 * ch.val
    rw [(index_out t).2]
    omega

/-- The call's array is the results of the arguments. -/
theorem final : (dats m 0 c).arrAt 7 cfg0.N = resultArr m c :=
  (dats m 0 c).arrAt_eq_of_cover 7 (resultArr m c) (flushed_eq m c) fun i => by
    have h0 : (i 0 : ℕ) < 16384 := (i 0).isLt
    have h1 : (i 1 : ℕ) < 1024 := (i 1).isLt
    let t : Fin cfg0.N := ⟨17 * ((i 0 : ℕ) / 4096) + (i 0 : ℕ) % 4096 / 256 + 1, by rw [show cfg0.N = 68 from N_0]; omega⟩
    have ht : t.val = 17 * ((i 0 : ℕ) / 4096) + (i 0 : ℕ) % 4096 / 256 + 1 := rfl
    refine ⟨t, (flush_out t).2 (by omega), ?_⟩
    show i ∈ ((View.whole main_v16).slice (win0_7.rect t)).set
    rw [View.set_slice_whole, Rect.mem_set_unit]
    intro a
    match a with
    | ⟨0, _⟩ =>
      show win0_7.index t 0 * 256 ≤ (i 0 : ℕ) ∧ (i 0 : ℕ) < win0_7.index t 0 * 256 + 256
      rw [(index_out t).1]
      omega
    | ⟨1, _⟩ =>
      show win0_7.index t 1 * 1024 ≤ (i 1 : ℕ) ∧ (i 1 : ℕ) < win0_7.index t 1 * 1024 + 1024
      rw [(index_out t).2]
      omega

end Cert.KernelIdeal.Hand
-- ==== Proof.Reference.lean ====
/-
  The reference of the forward recurrence: what its host program leaves, which is `Args.result` of the arguments.
-/
module

public import proofs.«01_k».proof.Proof.Spec
public import proofs.«01_k».proof.Proof.Gen.ReferenceIdeal.Run
public import Idealize.ShloMosaic.Lib.StableHlo.ReadAt
public import Idealize.ShloMosaic.Lib.Pointwise
public import Idealize.ShloMosaic.Lib.DynamicIndex
public import Idealize.ShloMosaic.Lib.Tactic

@[expose] public section

set_option maxRecDepth 16384

noncomputable section

namespace Cert.ReferenceIdeal.Hand

open Idealize.ShloMosaic Idealize.ShloMosaic.TcCoe Idealize.SL.Sem Cert.ReferenceIdeal Cert.ReferenceIdeal.Gen Cert.ReferenceIdeal.Value Cert.Hand
open StableHlo

variable (m : (ℓ : Loc nD τ sig) → Buf (Elt Ideal) ℓ)

/-- The arguments a core finds. -/
def args (c : Dev nD) : Args where
  u r ch := m ((c : Thread nD τ).loc main_arg0) (ix2 r ch)
  uc r ch := m ((c : Thread nD τ).loc main_arg1) (ix2 r ch)
  wa j k d := m ((c : Thread nD τ).loc main_arg2) (ix4 0 j k d)
  ba ch := m ((c : Thread nD τ).loc main_arg3) (ix2 0 ch)
  wx j k d := m ((c : Thread nD τ).loc main_arg4) (ix4 0 j k d)
  bx ch := m ((c : Thread nD τ).loc main_arg5) (ix2 0 ch)
  lam ch := m ((c : Thread nD τ).loc main_arg6) (ix2 0 ch)
  hb r ch := m ((c : Thread nD τ).loc main_arg7) (ix2 r ch)
  gy r ch := m ((c : Thread nD τ).loc main_arg8) (ix2 r ch)

variable (c : Dev nD)

/-! ## Before the loop -/

/-- The softplus of `-λ`, with the two zeros it subtracts read. -/
theorem softplus_read (lam : EReal) :
    max (-lam) 0 + Ideal.log1p (Ideal.exp (-(FloatOps.absf (F := Ideal) (φ := .f32) (-lam)))) = softplus lam := by
  rw [← softplus_reference, sub_zero]
  rfl

/-- A gate's linear part, with the product's factors in the reference's order. -/
theorem gate_read (x : Fin 1024 → EReal) (w : Fin 8 → Fin 128 → Fin 128 → EReal) (bias : Fin 1024 → EReal) (ch : Fin 1024) :
    gateLin x w bias ch =
      (∑ k : Fin 128, w ⟨ch.val / 128, by omega⟩ k ⟨ch.val % 128, by omega⟩ * x ⟨ch.val / 128 * 128 + k.val, by omega⟩) + bias ch := by
  unfold gateLin
  congr 1
  refine Finset.sum_congr rfl fun k _ => ?_
  rw [mul_comm]
  congr 3
  omega

/-- A token of the joined sequence: the context's tokens, then the latent's. -/
theorem token_read (X : Args) (b : Fin 4) (n : Fin 4352) (ch : Fin 1024) :
    (if h : n.val < 256 then X.uc ⟨b.val * 256 + n.val, by omega⟩ ch
      else X.u ⟨b.val * 4096 + (n.val - 256), by omega⟩ ch) = X.token b n ch := by
  unfold Args.token
  split
  · congr 2
    omega
  · rw [dif_pos n.isLt]
    congr 2
    omega

/-- A gate's linear part of a token, as the reference's product reads. -/
theorem gate_token (X : Args) (w : Fin 8 → Fin 128 → Fin 128 → EReal) (bias : Fin 1024 → EReal) (b : Fin 4) (n : Fin 4352)
    (ch : Fin 1024) :
    (∑ k : Fin 128, w ⟨ch.val / 128, by omega⟩ k ⟨ch.val % 128, by omega⟩ *
      if h : n.val < 256 then X.uc ⟨b.val * 256 + n.val, by omega⟩ ⟨ch.val / 128 * 128 + k.val, by omega⟩
      else X.u ⟨b.val * 4096 + (n.val - 256), by omega⟩ ⟨ch.val / 128 * 128 + k.val, by omega⟩) + bias ch =
      gateLin (X.token b n) w bias ch := by
  rw [gate_read]
  exact congrArg (· + bias ch) (Finset.sum_congr rfl fun k _ => congrArg (w _ k _ * ·) (token_read X b n _))

/-- The decays at the loop's entry. -/
theorem entry_a (n : Fin 4352) (b : Fin 4) (ch : Fin 1024) :
    (entryContents preI m c (Proc.devRef .tc main_v57_0) : S4352x4x1024.Idx → EReal) (ix3 n b ch) = (args m c).a b ch n := by
  simp only [entryContents, afterL_cons, afterL_nil]
  after_reads_at
  rw [id_eq]
  pointwise
  simp only [ne_eq, not_true_eq_false, if_false, softplus_read]
  after_reads_at
  have g := gate_token (args m c) (args m c).wa (args m c).ba b n ch
  exact congrArg Ideal.exp (congrArg₂ (· * ·) (congrArg₂ (· * ·) rfl
    (congrArg (fun x => Ideal.div 1 (1 + Ideal.exp (-x))) g)) rfl)

/-- The inputs at the loop's entry. -/
theorem entry_b (n : Fin 4352) (b : Fin 4) (ch : Fin 1024) :
    (entryContents preI m c (Proc.devRef .tc main_v57_1) : S4352x4x1024.Idx → EReal) (ix3 n b ch) = (args m c).b b ch n := by
  simp only [entryContents, afterL_cons, afterL_nil]
  after_reads_at
  rw [id_eq]
  pointwise
  simp only [ne_eq, not_true_eq_false, if_false, softplus_read]
  after_reads_at
  have g := gate_token (args m c) (args m c).wa (args m c).ba b n ch
  have g' := gate_token (args m c) (args m c).wx (args m c).bx b n ch
  unfold Args.b tokenB inputOf decayOf
  refine Eq.trans ?_ (congrArg (· * _) (sqrt_expm1 _))
  exact congrArg₂ (· * ·)
    (congrArg (fun x => Ideal.sqrt (-(Ideal.exp (Ideal.ofBits .f32 0x40000000#32 * x) - 1)))
      (congrArg₂ (· * ·) (congrArg₂ (· * ·) rfl (congrArg (fun x => Ideal.div 1 (1 + Ideal.exp (-x))) g)) rfl))
    (congrArg₂ (· * ·) (congrArg (fun x => Ideal.div 1 (1 + Ideal.exp (-x))) g') (token_read (args m c) b n ch))

/-- The state at the loop's entry. -/
theorem entry_h (b : Fin 4) (ch : Fin 1024) :
    (entryContents preI m c (Proc.devRef .tc main_v57_3) : S4x1024.Idx → EReal) (ix2 b ch) = (0 : EReal) := by
  simp only [entryContents, afterL_cons, afterL_nil]
  after_reads_at
  rw [id_eq]
  pointwise

/-! ## The loop -/

/-- The contents before trip `k`. -/
abbrev atTrip (k : ℕ) : Valuation τ sig (Elt Ideal) := STEP^[k] (entryContents preI m c)

theorem trip_succ (k : ℕ) : atTrip m c (k + 1) = STEP (atTrip m c k) := Function.iterate_succ_apply' ..

theorem trip_a (k : ℕ) : atTrip m c k (Proc.devRef .tc main_v57_0) = entryContents preI m c (Proc.devRef .tc main_v57_0) := by
  induction k with
  | zero => rfl
  | succ k ih => rw [trip_succ, STEP_main_v57_0, ih]

theorem trip_b (k : ℕ) : atTrip m c k (Proc.devRef .tc main_v57_1) = entryContents preI m c (Proc.devRef .tc main_v57_1) := by
  induction k with
  | zero => rfl
  | succ k ih => rw [trip_succ, STEP_main_v57_1, ih]

theorem trip_counter (k : ℕ) : atTrip m c k (Proc.devRef .tc main_v57_2) = fun _ => BitVec.ofNat 32 k := by
  induction k with
  | zero => exact ctr_entry m c
  | succ k ih =>
    rw [trip_succ, STEP_main_v57_2, step_main_v57_2, ih]
    funext i
    show BitVec.ofNat 32 k + 1#32 = BitVec.ofNat 32 (k + 1)
    rw [BitVec.ofNat_add]

theorem start_at {k : ℕ} (hk : k < 4352) (z : IVec S_ 32) (i : S_.Idx) (hz : z = fun _ => BitVec.ofNat 32 k) (a : Fin 3) :
    ((![z, constantI S_ 32 0#32, constantI S_ 32 0#32] : Fin 3 → IVec S_ 32) a i).toInt = ((![k, 0, 0] : Fin 3 → ℕ) a : ℤ) := by
  subst hz
  match a with
  | ⟨0, _⟩ => exact toInt_ofNat_of_lt (by omega)
  | ⟨1, _⟩ => rfl
  | ⟨2, _⟩ => rfl

theorem slices_at {k : ℕ} (hk : k < 4352) : S4352x4x1024.Slices ![k, 0, 0] S1x4x1024 :=
  ⟨rfl, fun a => match a with
    | ⟨0, _⟩ => by show k + 1 ≤ 4352; omega
    | ⟨1, _⟩ => by show 0 + 4 ≤ 4; omega
    | ⟨2, _⟩ => by show 0 + 1024 ≤ 1024; omega⟩

/-- A time-major array's row at the counter. -/
theorem row_at {k : ℕ} (hk : k < 4352) (x : FVec Ideal S4352x4x1024 .f32) (z : IVec S_ 32) (i : S_.Idx)
    (hz : z = fun _ => BitVec.ofNat 32 k) (b : Fin 4) (ch : Fin 1024) :
    shapeCast S4x1024 (Host.dynamicSlice S1x4x1024 x
      (fun a => ((![z, constantI S_ 32 0#32, constantI S_ 32 0#32] : Fin 3 → IVec S_ 32) a i).toInt)
      sliceFits_S4352x4x1024_S1x4x1024) shapeCasts_S1x4x1024_S4x1024 (ix2 b ch) = x (ix3 ⟨k, hk⟩ b ch) := by
  rw [Host.dynamicSlice_eq_extractStridedSlice S1x4x1024 x _ ![k, 0, 0] _ (slices_at hk) (start_at hk z i hz)]
  pointwise

/-- A time-major array with its row at the counter written. -/
theorem written_at {k : ℕ} (hk : k < 4352) (x : FVec Ideal S4352x4x1024 .f32) (y : FVec Ideal S4x1024 .f32) (z : IVec S_ 32)
    (i : S_.Idx) (hz : z = fun _ => BitVec.ofNat 32 k) (n : Fin 4352) (b : Fin 4) (ch : Fin 1024) :
    Host.dynamicUpdateSlice x (broadcastInDim S1x4x1024 ![1, 2] bcast_S4x1024_S1x4x1024_1_2 y)
      (fun a => ((![z, constantI S_ 32 0#32, constantI S_ 32 0#32] : Fin 3 → IVec S_ 32) a i).toInt)
      updateFits_S4352x4x1024_S1x4x1024 (ix3 n b ch) = if n.val = k then y (ix2 b ch) else x (ix3 n b ch) := by
  rw [Host.dynamicUpdateSlice_eq_updateSlice x _ _ _ ![k, 0, 0] (fun a => by
    rw [start_at hk z i hz a]
    have := (slices_at hk).2 a
    revert this
    match a with
    | ⟨0, _⟩ => show k + 1 ≤ 4352 → (min (max (k : ℤ) 0) ((4352 - 1 : ℕ) : ℤ)).toNat = k; omega
    | ⟨1, _⟩ => exact fun _ => rfl
    | ⟨2, _⟩ => exact fun _ => rfl) (slices_at hk)]
  unfold updateSlice
  by_cases h : n.val = k
  · rw [if_pos h, dif_pos]
    · pointwise
    · intro a
      match a with
      | ⟨0, _⟩ => show k ≤ n.val ∧ n.val < k + 1; omega
      | ⟨1, _⟩ => show 0 ≤ b.val ∧ b.val < 0 + 4; omega
      | ⟨2, _⟩ => show 0 ≤ ch.val ∧ ch.val < 0 + 1024; omega
  · rw [if_neg h, dif_neg]
    intro hin
    have h0 : k ≤ n.val ∧ n.val < k + 1 := hin 0
    omega

/-- The state a trip computes. -/
theorem next_at (k : ℕ) (hk : k < 4352) (b : Fin 4) (ch : Fin 1024) :
    (res_main_while0b_v66 (atTrip m c k) : S4x1024.Idx → EReal) (ix2 b ch) =
      (args m c).a b ch k * (atTrip m c k (Proc.devRef .tc main_v57_3) : S4x1024.Idx → EReal) (ix2 b ch) + (args m c).b b ch k := by
  have ha := entry_a m c ⟨k, hk⟩ b ch
  have hb := entry_b m c ⟨k, hk⟩ b ch
  rw [← trip_a m c k] at ha
  rw [← trip_b m c k] at hb
  exact congrArg₂ (· + ·)
    (congrArg (· * _) ((row_at hk _ _ (Shape.Idx.first h_S_) (trip_counter m c k) b ch).trans ha))
    ((row_at hk _ _ (Shape.Idx.first h_S_) (trip_counter m c k) b ch).trans hb)

/-- Before trip `k` the state is the recurrence's after `k` tokens. -/
theorem trip_h (k : ℕ) (hk : k ≤ 4352) (b : Fin 4) (ch : Fin 1024) :
    (atTrip m c k (Proc.devRef .tc main_v57_3) : S4x1024.Idx → EReal) (ix2 b ch) = (args m c).state b ch k := by
  induction k with
  | zero => exact entry_h m c b ch
  | succ k ih =>
    rw [trip_succ, STEP_main_v57_3, step_main_v57_3, id_eq, next_at m c k hk b ch, ih (Nat.le_of_succ_le hk)]
    rfl

/-- Before trip `k` the rows before `k` hold the states after their tokens. -/
theorem trip_out (k : ℕ) (hk : k ≤ 4352) (n : Fin 4352) (hn : n.val < k) (b : Fin 4) (ch : Fin 1024) :
    (atTrip m c k (Proc.devRef .tc main_v57_4) : S4352x4x1024.Idx → EReal) (ix3 n b ch) = (args m c).state b ch (n + 1) := by
  induction k with
  | zero => omega
  | succ k ih =>
    rw [trip_succ, STEP_main_v57_4, step_main_v57_4, id_eq]
    refine (written_at hk _ _ _ (Shape.Idx.first h_S_) (trip_counter m c k) n b ch).trans ?_
    by_cases h : n.val = k
    · rw [if_pos h, next_at m c k hk b ch, trip_h m c k (Nat.le_of_succ_le hk), h]
      rfl
    · rw [if_neg h]
      exact ih (Nat.le_of_succ_le hk) (by omega)

/-! ## After the loop -/

/-- The reference's result. -/
theorem out_at (r : Fin 16384) (ch : Fin 1024) :
    (out_main_v62 (atTrip m c 4352) : S16384x1024.Idx → EReal) (ix2 r ch) = (args m c).result r ch := by
  have h := trip_out m c 4352 le_rfl ⟨256 + r.val % 4096, by omega⟩ (by show 256 + r.val % 4096 < 4352; omega) ⟨r.val / 4096, by omega⟩ ch
  have h7 : atTrip m c 4352 (Proc.devRef .tc main_arg7) = m ((c : Thread nD τ).loc main_arg7) := iter_main_arg7 m c 4352
  have h8 : atTrip m c 4352 (Proc.devRef .tc main_arg8) = m ((c : Thread nD τ).loc main_arg8) := iter_main_arg8 m c 4352
  unfold out_main_v62
  rw [h7, h8]
  generalize atTrip m c 4352 (Proc.devRef .tc main_v57_4) = y at h ⊢
  unfold Args.result
  rw [← h]
  unfold args
  clean_types
  pointwise

end Cert.ReferenceIdeal.Hand
-- ==== Proof.Merge.Spec.lean ====
/-
  What the merge computes of one token: the two branches' projections merged by their gates (`merged`), the output
  projection added to the token (`residual`), the modulated norm (`normed`), the queries (`query`) and their scores
  against the keys (`score`).
-/
module

public import Idealize.ShloMosaic.PureOps.Ideal

@[expose] public section

noncomputable section

namespace Cert.Merge

open Idealize.ShloMosaic

/-- The attention branch's projection and the recurrence's, each scaled by its gate. -/
def merged (wa : Fin 512 → Fin 1024 → EReal) (wl : Fin 1024 → Fin 1024 → EReal) (oa : Fin 512 → EReal) (ob ga gb : Fin 1024 → EReal)
    (ch : Fin 1024) : EReal :=
  ga ch * (∑ k, oa k * wa k ch) + gb ch * ∑ k, ob k * wl k ch

/-- The token with the gated output projection added. -/
def residual (wo : Fin 1024 → Fin 1024 → EReal) (x gate v : Fin 1024 → EReal) (ch : Fin 1024) : EReal :=
  x ch + gate ch * ∑ k, v k * wo k ch

/-- The token over the root of its mean square, scaled and modulated. -/
def normed (w shift scale x : Fin 1024 → EReal) (ch : Fin 1024) : EReal :=
  x ch * Ideal.rsqrt (Ideal.div (∑ k, x k * x k) (Ideal.ofBits .f32 0x44800000#32) + Ideal.ofBits .f32 0x358637BD#32) * w ch *
    (1 + scale ch) + shift ch

/-- The queries of all heads, side by side. -/
def query (wq : Fin 1024 → Fin 2048 → EReal) (h : Fin 1024 → EReal) (j : Fin 2048) : EReal := ∑ k, h k * wq k j

/-- The score of key `n` of half-head `p` (two halves to a head). -/
def score (keys : Fin 8 → Fin 2 → Fin 128 → Fin 128 → EReal) (q : Fin 2048 → EReal) (p : Fin 16) (n : Fin 128) : EReal :=
  ∑ k : Fin 128, keys ⟨p.val / 2, by omega⟩ ⟨p.val % 2, by omega⟩ n k * q ⟨128 * p.val + k.val, by omega⟩

/-- The merge's arguments, as functions of their indices. -/
structure Args where
  oa : Fin 16384 → Fin 512 → EReal
  ob : Fin 16384 → Fin 1024 → EReal
  ga : Fin 16384 → Fin 1024 → EReal
  gb : Fin 16384 → Fin 1024 → EReal
  x : Fin 16384 → Fin 1024 → EReal
  mod : Fin 8 → Fin 6144 → EReal
  wa : Fin 512 → Fin 1024 → EReal
  wl : Fin 1024 → Fin 1024 → EReal
  wo : Fin 1024 → Fin 1024 → EReal
  w : Fin 1024 → EReal
  wq : Fin 1024 → Fin 2048 → EReal
  keys : Fin 8 → Fin 2 → Fin 128 → Fin 128 → EReal

namespace Args

variable (X : Args)

/-- Part `i` of the modulation of token `r`'s batch. -/
def modOf (i : Fin 6) (r : Fin 16384) (ch : Fin 1024) : EReal := X.mod ⟨r.val / 4096, by omega⟩ ⟨1024 * i.val + ch.val, by omega⟩

/-- The latent stream after the token mixing. -/
def x1 (r : Fin 16384) : Fin 1024 → EReal :=
  residual X.wo (X.x r) (X.modOf 2 r) (merged X.wa X.wl (X.oa r) (X.ob r) (X.ga r) (X.gb r))

/-- What the expert part reads. -/
def h2 (r : Fin 16384) : Fin 1024 → EReal := normed X.w (X.modOf 3 r) (X.modOf 4 r) (X.x1 r)

/-- The scores of the keys. -/
def st (p : Fin 16) (n : Fin 128) (r : Fin 16384) : EReal := score X.keys (query X.wq (X.h2 r)) p n

end Args

end Cert.Merge
-- ==== Proof.Merge.Block.lean ====
/-
  What one grid point of the merge leaves in its three output blocks, token by token.
-/
module

public import proofs.«01_k».proof.Proof.Merge.Spec
public import proofs.«01_k».proof.Proof.Gen.Kernel2Ideal.Value
public import Idealize.ShloMosaic.Lib.Pointwise
public import Idealize.ShloMosaic.Lib.Pipeline.ValueKit.Basic

@[expose] public section

set_option maxRecDepth 16384

noncomputable section

namespace Cert.Kernel2Ideal.Hand

open Idealize.ShloMosaic Idealize.ShloMosaic.Pipeline Idealize.SL.Sem Cert.Kernel2Ideal Cert.Kernel2Ideal.Gen Cert.Merge

/-! ## The vectors of the body -/

theorem x1_apply (v0 : Vec Ideal S512x512 .bf16) (v1 : Vec Ideal S512x1024 .bf16) (v4 : Vec Ideal S512x1024 .f32) (v6 : Vec Ideal S1024x1024 .bf16)
    (v9 v11 : Vec Ideal S512x1024 .f32) (v14 : Vec Ideal S1x1x1024 .f32) (v16 : Vec Ideal S512x1024 .f32) (v18 : Vec Ideal S1024x1024 .bf16)
    (r : Fin 512) (ch : Fin 1024) :
    k0_pay4 v0 v1 v4 v6 v9 v11 v14 v16 v18 (ix2 r ch) =
      residual (fun k j => v18 (ix2 k j)) (fun k => v16 (ix2 r k)) (fun k => v14 (ix3 0 0 k))
        (merged (fun k j => v1 (ix2 k j)) (fun k j => v6 (ix2 k j)) (fun k => v0 (ix2 r k)) (fun k => v4 (ix2 r k))
          (fun k => v9 (ix2 r k)) (fun k => v11 (ix2 r k))) ch := by
  pointwise [k0_pay4]
  rfl

theorem mean_apply (v0 : Vec Ideal S512x512 .bf16) (v1 : Vec Ideal S512x1024 .bf16) (v4 : Vec Ideal S512x1024 .f32) (v6 : Vec Ideal S1024x1024 .bf16)
    (v9 v11 : Vec Ideal S512x1024 .f32) (v14 : Vec Ideal S1x1x1024 .f32) (v16 : Vec Ideal S512x1024 .f32) (v18 : Vec Ideal S1024x1024 .bf16)
    (r : Fin 512) :
    k0_pay5 v0 v1 v4 v6 v9 v11 v14 v16 v18 (ix2 r 0) =
      Ideal.div (∑ k : Fin 1024, k0_pay4 v0 v1 v4 v6 v9 v11 v14 v16 v18 (ix2 r k) * k0_pay4 v0 v1 v4 v6 v9 v11 v14 v16 v18 (ix2 r k))
        (Ideal.ofBits .f32 0x44800000#32) := by
  pointwise [k0_pay5]

theorem h2_apply (x1 : FVec Ideal S512x1024 .f32) (mean : FVec Ideal S512x1 .f32) (w : Vec Ideal S1x1024 .f32) (shift scale : Vec Ideal S1x1x1024 .f32)
    (r : Fin 512) (ch : Fin 1024) (hm : mean (ix2 r 0) = Ideal.div (∑ k : Fin 1024, x1 (ix2 r k) * x1 (ix2 r k)) (Ideal.ofBits .f32 0x44800000#32)) :
    k0_pay7 x1 mean (k0_pay6 (F := Ideal)) w shift scale (ix2 r ch) =
      normed (fun k => w (ix2 0 k)) (fun k => shift (ix3 0 0 k)) (fun k => scale (ix3 0 0 k)) (fun k => x1 (ix2 r k)) ch := by
  unfold normed
  rw [← hm]
  pointwise [k0_pay7, k0_pay6]

theorem query_apply (x1 : FVec Ideal S512x1024 .f32) (mean eps : FVec Ideal S512x1 .f32) (w : Vec Ideal S1x1024 .f32) (shift scale : Vec Ideal S1x1x1024 .f32)
    (wq : Vec Ideal S1024x2048 .bf16) (r : Fin 512) (j : Fin 2048) :
    k0_pay8 x1 mean eps w shift scale wq (ix2 r j) =
      query (fun k j => wq (ix2 k j)) (fun k => k0_pay7 x1 mean eps w shift scale (ix2 r k)) j := by
  unfold query
  pointwise [k0_pay8]

theorem score_apply (l : FVec Ideal S128x128 .bf16) (q : FVec Ideal S512x128 .bf16) (n : Fin 128) (r : Fin 512) :
    shapeCast S1x128x512 (matmul dot_S128x128_S512x128_S128x512_1_1_0_0_n_n none l q (constant S128x512 .f32 0x00000000#32))
      shapeCasts_S128x512_S1x128x512 (ix3 0 n r) = ∑ k : Fin 128, l (ix2 n k) * q (ix2 r k) := by
  pointwise

/-! ## The key blocks -/

theorem slices_half (p : ℕ) (h : p < 16) : S512x2048.Slices ![0, 128 * p] S512x128 :=
  ⟨rfl, fun a => by fin_cases a <;> simp [Shape.size] <;> omega⟩

theorem inb_keys (p : ℕ) (h : p < 16) : ∀ a, (![p, 0, 0] : Fin 3 → ℕ) a + S1x128x128.size a ≤ S16x128x128.size a :=
  fun a => by fin_cases a <;> simp [Shape.size] <;> omega

theorem inb_scores (p : ℕ) (h : p < 16) : ∀ a, (![p, 0, 0] : Fin 3 → ℕ) a + S1x128x512.size a ≤ S16x128x512.size a :=
  fun a => by fin_cases a <;> simp [Shape.size] <;> omega

/-- The scores of half-head `p`: its keys times its columns of the queries. -/
def scores {F : FTy → Type} [FloatOps F] (q : FVec F S512x2048 .bf16) (keys : Vec F S16x128x128 .bf16) (p : ℕ) (h : p < 16) : FVec F S1x128x512 .f32 :=
  shapeCast S1x128x512 (matmul dot_S128x128_S512x128_S128x512_1_1_0_0_n_n none
    (shapeCast S128x128 (View.ld keys (Rect.unit (s := S16x128x128) ![p, 0, 0] S1x128x128.size (inb_keys p h))) shapeCasts_S1x128x128_S128x128)
    (extractStridedSlice S512x128 ![0, 128 * p] q (slices_half p h)) (constant S128x512 .f32 0x00000000#32)) shapeCasts_S128x512_S1x128x512

/-- The first `n` half-heads' scores, stored one after the other, last first. -/
def scorePieces {F : FTy → Type} [FloatOps F] (f : (p : ℕ) → p < 16 → FVec F S1x128x512 .f32) : (n : ℕ) → n ≤ 16 → List (View.Piece (Elt F) S16x128x512 .f32)
  | 0, _ => []
  | n + 1, h => ⟨Rect.unit ![n, 0, 0] S1x128x512.size (inb_scores n h), f n h⟩ :: scorePieces f n (Nat.le_of_succ_le h)

theorem scores_cover (f : (p : ℕ) → p < 16 → FVec Ideal S1x128x512 .f32) (y : S16x128x512.Idx) :
    ∃ pc ∈ scorePieces f 16 le_rfl, y ∈ pc.1.set :=
  View.cover_of_tiledL (scorePieces f 16 le_rfl) S1x128x512.size (by sl_kernel_rfl) y

theorem scores_apply (q : FVec Ideal S512x2048 .bf16) (keys : Vec Ideal S16x128x128 .bf16) (p : ℕ) (h : p < 16) (n : Fin 128) (r : Fin 512) :
    scores q keys p h (ix3 0 n r) = ∑ k : Fin 128, keys (ix3 ⟨p, h⟩ n k) * q (ix2 r ⟨128 * p + k.val, by omega⟩) := by
  unfold scores
  rw [score_apply]
  have e (x : Vec Ideal S1x128x128 .bf16) (n k : Fin 128) : shapeCast S128x128 x shapeCasts_S1x128x128_S128x128 (ix2 n k) = x (ix3 0 n k) := by
    pointwise
  have e' (k : Fin 128) : extractStridedSlice S512x128 ![0, 128 * p] q (slices_half p h) (ix2 r k) = q (ix2 r ⟨128 * p + k.val, by omega⟩) := by
    pointwise
  refine Finset.sum_congr rfl fun k _ => ?_
  rw [e, e']
  unfold View.ld
  refine congrArg (· * _) (congrArg keys ?_)
  funext a
  apply Fin.ext
  fin_cases a
  · exact (by omega : p + 1 * 0 = p)
  · exact (by omega : 0 + 1 * n.val = n.val)
  · exact (by omega : 0 + 1 * k.val = k.val)

theorem stored_apply (q : FVec Ideal S512x2048 .bf16) (keys : Vec Ideal S16x128x128 .bf16) (p : Fin 16) (n : Fin 128) (r : Fin 512) :
    View.canon (scorePieces (scores q keys) 16 le_rfl) (ix3 p n r) =
      ∑ k : Fin 128, keys (ix3 p n k) * q (ix2 r ⟨128 * p.val + k.val, by omega⟩) := by
  refine View.canon_apply_of_pieces (Val := Elt Ideal)
    (fun y : S16x128x512.Idx => ∑ k : Fin 128, keys (ix3 (y 0) (y 1) k) *
      q (ix2 (y 2) ⟨128 * (y 0 : Fin 16).val + k.val, by have h : (y 0 : Fin 16).val < 16 := (y 0 : Fin 16).isLt; omega⟩)) _ ?_ _ (scores_cover _ _)
  have key : ∀ n hn, ∀ pc ∈ scorePieces (scores q keys) n hn, ∀ x : pc.1.shape.Idx, pc.2 x =
      (fun y : S16x128x512.Idx => ∑ k : Fin 128, keys (ix3 (y 0) (y 1) k) *
        q (ix2 (y 2) ⟨128 * (y 0 : Fin 16).val + k.val, by have h : (y 0 : Fin 16).val < 16 := (y 0 : Fin 16).isLt; omega⟩)) (pc.1.emb x) := by
    intro n
    induction n with
    | zero => intro hn p hp; simp [scorePieces] at hp
    | succ n ih =>
      intro hn p hp
      rcases List.mem_cons.1 hp with rfl | hp
      · intro x
        show scores q keys n hn x = _
        obtain ⟨a, b, r, rfl⟩ : ∃ (a : Fin 1) (b : Fin 128) (r : Fin 512), x = ix3 a b r := ⟨x 0, x 1, x 2, eq_ix3 x⟩
        obtain rfl : a = 0 := Subsingleton.elim _ _
        rw [scores_apply]
        have h0 : (Rect.unit (s := S16x128x512) ![n, 0, 0] S1x128x512.size (inb_scores n hn)).emb (ix3 0 b r) = ix3 ⟨n, hn⟩ b r := by
          funext a
          apply Fin.ext
          fin_cases a
          · exact (by omega : n + 1 * 0 = n)
          · exact (by omega : 0 + 1 * b.val = b.val)
          · exact (by omega : 0 + 1 * r.val = r.val)
        show _ = _
        simp only [h0]
        rfl
      · exact ih _ p hp
  exact key 16 le_rfl

/-- The body stores the sixteen half-heads' scores. -/
theorem out14_eq {F : FTy → Type} [FloatOps F] (x0 : Vec F S512x512 .bf16) (x1 x2 x3 x4 : Vec F S512x1024 .f32) (x5 : Vec F S1x1x6144 .f32)
    (x6 : Vec F S512x1024 .bf16) (x7 x8 : Vec F S1024x1024 .bf16) (x9 : Vec F S1x1024 .f32) (x10 : Vec F S1024x2048 .bf16)
    (x11 : Vec F S16x128x128 .bf16) : out0_14 x0 x1 x2 x3 x4 x5 x6 x7 x8 x9 x10 x11 =
    View.canon (scorePieces (scores (k0_pay33 x0 x1 x2 x3 x4 x5 x6 x7 x8 x9 x10 x11) x11) 16 le_rfl) := by
  unfold out0_14
  sl_kernel_rfl

/-! ## The output blocks -/

variable (x0 : Vec Ideal S512x512 .bf16) (x1 x2 x3 x4 : Vec Ideal S512x1024 .f32) (x5 : Vec Ideal S1x1x6144 .f32)
  (x6 : Vec Ideal S512x1024 .bf16) (x7 x8 : Vec Ideal S1024x1024 .bf16) (x9 : Vec Ideal S1x1024 .f32) (x10 : Vec Ideal S1024x2048 .bf16)
  (x11 : Vec Ideal S16x128x128 .bf16)

/-- A part of the modulation row. -/
theorem mod_part (o : ℕ) (ho : o + 1024 ≤ 6144) (inb) (k : Fin 1024) :
    View.ld x5 (Rect.unit (s := S1x1x6144) ![0, 0, o] S1x1x1024.size inb) (ix3 0 0 k) = x5 (ix3 0 0 ⟨o + k.val, by omega⟩) := by
  unfold View.ld
  refine congrArg x5 ?_
  funext a
  apply Fin.ext
  fin_cases a
  · rfl
  · rfl
  · exact (by omega : o + 1 * k.val = o + k.val)

/-- The block's residual stream at token `r`. -/
def blockX1 (r : Fin 512) : Fin 1024 → EReal :=
  residual (fun k j => x8 (ix2 k j)) (fun k => x4 (ix2 r k)) (fun k => x5 (ix3 0 0 ⟨2048 + k.val, by omega⟩))
    (merged (fun k j => x6 (ix2 k j)) (fun k j => x7 (ix2 k j)) (fun k => x0 (ix2 r k)) (fun k => x1 (ix2 r k))
      (fun k => x2 (ix2 r k)) (fun k => x3 (ix2 r k)))

/-- The block's modulated norm at token `r`. -/
def blockH2 (r : Fin 512) : Fin 1024 → EReal :=
  normed (fun k => x9 (ix2 0 k)) (fun k => x5 (ix3 0 0 ⟨3072 + k.val, by omega⟩)) (fun k => x5 (ix3 0 0 ⟨4096 + k.val, by omega⟩))
    (blockX1 x0 x1 x2 x3 x4 x5 x6 x7 x8 r)

theorem stream_apply (r : Fin 512) (ch : Fin 1024) :
    k0_pay30 x0 x1 x2 x3 x4 x5 x6 x7 x8 x9 x10 x11 (ix2 r ch) = blockX1 x0 x1 x2 x3 x4 x5 x6 x7 x8 r ch := by
  unfold k0_pay30 blockX1
  simp (disch := decide) only [r0_0, r0_1, r0_2, View.ld_unit_lit]
  rw [x1_apply]
  rw [show (fun k => View.ld x5 r0_3 (ix3 0 0 k)) = _ from funext fun k => mod_part x5 2048 (by decide) _ k]

theorem mean_read (r : Fin 512) :
    k0_pay31 x0 x1 x2 x3 x4 x5 x6 x7 x8 x9 x10 x11 (ix2 r 0) =
      Ideal.div (∑ k : Fin 1024, k0_pay30 x0 x1 x2 x3 x4 x5 x6 x7 x8 x9 x10 x11 (ix2 r k) * k0_pay30 x0 x1 x2 x3 x4 x5 x6 x7 x8 x9 x10 x11 (ix2 r k))
        (Ideal.ofBits .f32 0x44800000#32) :=
  mean_apply _ _ _ _ _ _ _ _ _ r

theorem norm_read (r : Fin 512) (ch : Fin 1024) :
    k0_pay7 (k0_pay30 x0 x1 x2 x3 x4 x5 x6 x7 x8 x9 x10 x11) (k0_pay31 x0 x1 x2 x3 x4 x5 x6 x7 x8 x9 x10 x11)
      (k0_pay32 x0 x1 x2 x3 x4 x5 x6 x7 x8 x9 x10 x11) (View.ld x9 r0_4) (View.ld x5 r0_5) (View.ld x5 r0_6) (ix2 r ch) =
      blockH2 x0 x1 x2 x3 x4 x5 x6 x7 x8 x9 r ch := by
  unfold k0_pay32
  refine (h2_apply _ _ _ _ _ r ch (mean_read x0 x1 x2 x3 x4 x5 x6 x7 x8 x9 x10 x11 r)).trans ?_
  unfold blockH2
  simp only [stream_apply]
  rw [show (fun k => View.ld x5 r0_5 (ix3 0 0 k)) = _ from funext fun k => mod_part x5 3072 (by decide) _ k,
    show (fun k => View.ld x5 r0_6 (ix3 0 0 k)) = _ from funext fun k => mod_part x5 4096 (by decide) _ k,
    show View.ld x9 r0_4 = x9 from View.ld_unit_lit _ _ (by decide)]

theorem out12_apply (r : Fin 512) (ch : Fin 1024) :
    out0_12 x0 x1 x2 x3 x4 x5 x6 x7 x8 x9 x10 x11 (ix2 r ch) = blockX1 x0 x1 x2 x3 x4 x5 x6 x7 x8 r ch := by
  unfold out0_12
  rw [View.canon_cons_unit_lit _ _ _ (by decide)]
  exact stream_apply x0 x1 x2 x3 x4 x5 x6 x7 x8 x9 x10 x11 r ch

theorem out13_apply (r : Fin 512) (ch : Fin 1024) :
    out0_13 x0 x1 x2 x3 x4 x5 x6 x7 x8 x9 x10 x11 (ix2 r ch) = blockH2 x0 x1 x2 x3 x4 x5 x6 x7 x8 x9 r ch := by
  unfold out0_13
  rw [View.canon_cons_unit_lit _ _ _ (by decide)]
  exact norm_read x0 x1 x2 x3 x4 x5 x6 x7 x8 x9 x10 x11 r ch

theorem out14_apply (p : Fin 16) (n : Fin 128) (r : Fin 512) :
    out0_14 x0 x1 x2 x3 x4 x5 x6 x7 x8 x9 x10 x11 (ix3 p n r) =
      ∑ k : Fin 128, x11 (ix3 p n k) * query (fun k j => x10 (ix2 k j)) (blockH2 x0 x1 x2 x3 x4 x5 x6 x7 x8 x9 r) ⟨128 * p.val + k.val, by omega⟩ := by
  rw [out14_eq, stored_apply]
  refine Finset.sum_congr rfl fun k _ => congrArg (_ * ·) ?_
  unfold k0_pay33
  rw [query_apply]
  simp only [norm_read]
  rw [show View.ld x10 r0_7 = x10 from View.ld_unit_lit _ _ (by decide)]

end Cert.Kernel2Ideal.Hand
-- ==== Proof.Merge.Points.lean ====
/-
  The grid of the merge: which block every point reads, and the three arrays the call leaves (`final12`, `final13`,
  `final14`), which are `Args.x1`, `Args.h2` and `Args.st` of the arguments.
-/
module

public import proofs.«01_k».proof.Proof.Merge.Block
public import Idealize.ShloMosaic.Lib.StableHlo.ReadAt
public import Idealize.ShloMosaic.Lib.Tactic

@[expose] public section

set_option maxRecDepth 16384

noncomputable section

namespace Cert.Kernel2Ideal.Hand

open Idealize.ShloMosaic Idealize.ShloMosaic.TcCoe Idealize.SL.Sem Cert.Kernel2Ideal Cert.Kernel2Ideal.Gen Cert.Merge

variable (m : (ℓ : Loc nD τ sig) → Buf (Elt Ideal) ℓ)

/-- The arguments a core finds. -/
def args (c : Dev nD) : Args where
  oa r k := m ((c : Thread nD τ).loc main_arg0) (ix2 r k)
  ob r k := m ((c : Thread nD τ).loc main_arg1) (ix2 r k)
  ga r ch := m ((c : Thread nD τ).loc main_arg2) (ix2 r ch)
  gb r ch := m ((c : Thread nD τ).loc main_arg3) (ix2 r ch)
  x r ch := m ((c : Thread nD τ).loc main_arg4) (ix2 r ch)
  mod b j := m ((c : Thread nD τ).loc main_arg5) (ix2 b j)
  wa k ch := m ((c : Thread nD τ).loc main_arg6) (ix2 k ch)
  wl k ch := m ((c : Thread nD τ).loc main_arg7) (ix2 k ch)
  wo k ch := m ((c : Thread nD τ).loc main_arg8) (ix2 k ch)
  w ch := m ((c : Thread nD τ).loc main_arg9) (ix1 ch)
  wq k j := m ((c : Thread nD τ).loc main_arg10) (ix2 k j)
  keys h p n k := m ((c : Thread nD τ).loc main_arg11) (ix4 h p n k)

/-! ## The prepared parameters -/

theorem V_keys (c : Dev nD) (p : Fin 16) (n k : Fin 128) : (V m c main_v1 : S16x128x128.Idx → EReal) (ix3 p n k) =
    (args m c).keys ⟨p.val / 2, by omega⟩ ⟨p.val % 2, by omega⟩ n k := by
  unfold V args
  after_reads_at

theorem V_mod (c : Dev nD) (b : Fin 8) (j : Fin 6144) :
    (V m c main_v2 : S8x1x6144.Idx → EReal) (ix3 b 0 j) = (args m c).mod b j := by
  unfold V args
  after_reads_at

theorem V_wa (c : Dev nD) (k : Fin 512) (ch : Fin 1024) :
    (V m c main_v3 : S512x1024.Idx → EReal) (ix2 k ch) = (args m c).wa k ch := by
  unfold V args
  after_reads_at

theorem V_wl (c : Dev nD) (k ch : Fin 1024) : (V m c main_v4 : S1024x1024.Idx → EReal) (ix2 k ch) = (args m c).wl k ch := by
  unfold V args
  after_reads_at

theorem V_wo (c : Dev nD) (k ch : Fin 1024) : (V m c main_v5 : S1024x1024.Idx → EReal) (ix2 k ch) = (args m c).wo k ch := by
  unfold V args
  after_reads_at

theorem V_w (c : Dev nD) (ch : Fin 1024) : (V m c main_v6 : S1x1024.Idx → EReal) (ix2 0 ch) = (args m c).w ch := by
  unfold V args
  after_reads_at

theorem V_wq (c : Dev nD) (k : Fin 1024) (j : Fin 2048) :
    (V m c main_v7 : S1024x2048.Idx → EReal) (ix2 k j) = (args m c).wq k j := by
  unfold V args
  after_reads_at

/-! ## The blocks -/

theorem index_oa : ∀ t : Fin grid0.N, win0_0.index t 0 = t.val ∧ win0_0.index t 1 = 0 := by decide +kernel
theorem index_ob : ∀ t : Fin grid0.N, win0_1.index t 0 = t.val ∧ win0_1.index t 1 = 0 := by decide +kernel
theorem index_ga : ∀ t : Fin grid0.N, win0_2.index t 0 = t.val ∧ win0_2.index t 1 = 0 := by decide +kernel
theorem index_gb : ∀ t : Fin grid0.N, win0_3.index t 0 = t.val ∧ win0_3.index t 1 = 0 := by decide +kernel
theorem index_x : ∀ t : Fin grid0.N, win0_4.index t 0 = t.val ∧ win0_4.index t 1 = 0 := by decide +kernel
theorem index_x1 : ∀ t : Fin grid0.N, win0_12.index t 0 = t.val ∧ win0_12.index t 1 = 0 := by decide +kernel
theorem index_h2 : ∀ t : Fin grid0.N, win0_13.index t 0 = t.val ∧ win0_13.index t 1 = 0 := by decide +kernel
theorem index_wa : ∀ t : Fin grid0.N, win0_6.index t 0 = 0 ∧ win0_6.index t 1 = 0 := by decide +kernel
theorem index_wl : ∀ t : Fin grid0.N, win0_7.index t 0 = 0 ∧ win0_7.index t 1 = 0 := by decide +kernel
theorem index_wo : ∀ t : Fin grid0.N, win0_8.index t 0 = 0 ∧ win0_8.index t 1 = 0 := by decide +kernel
theorem index_w : ∀ t : Fin grid0.N, win0_9.index t 0 = 0 ∧ win0_9.index t 1 = 0 := by decide +kernel
theorem index_wq : ∀ t : Fin grid0.N, win0_10.index t 0 = 0 ∧ win0_10.index t 1 = 0 := by decide +kernel
theorem index_keys : ∀ t : Fin grid0.N, win0_11.index t 0 = 0 ∧ win0_11.index t 1 = 0 ∧ win0_11.index t 2 = 0 := by decide +kernel
theorem index_mod : ∀ t : Fin grid0.N, win0_5.index t 0 = t.val / 8 ∧ win0_5.index t 1 = 0 ∧ win0_5.index t 2 = 0 := by decide +kernel
theorem index_st : ∀ t : Fin grid0.N, win0_14.index t 0 = 0 ∧ win0_14.index t 1 = 0 ∧ win0_14.index t 2 = t.val := by decide +kernel
theorem flush_x1 : ∀ t : Fin grid0.N, win0_12.flush t = true := by decide +kernel
theorem flush_h2 : ∀ t : Fin grid0.N, win0_13.flush t = true := by decide +kernel
theorem flush_st : ∀ t : Fin grid0.N, win0_14.flush t = true := by decide +kernel

variable (c : Dev nD) (t : Fin cfg0.N)

theorem lt_32 : t.val < 32 := lt_of_lt_of_eq t.isLt N_0

/-- The token of row `r` of a point's block. -/
def token (r : Fin 512) : Fin 16384 := ⟨512 * t.val + r.val, by have := lt_32 t; omega⟩

theorem blk_oa (r : Fin 512) (k : Fin 512) :
    (iblk m c 0 t : S512x512.Idx → EReal) (ix2 r k) = (args m c).oa (token t r) k := by
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * r.val = 512 * t.val + r.val; rw [(index_oa t).1]; omega
  | ⟨1, _⟩ => show win0_0.index t 1 * 512 + 1 * k.val = k.val; rw [(index_oa t).2]; omega

theorem blk_ob (r : Fin 512) (k : Fin 1024) :
    (iblk m c 1 t : S512x1024.Idx → EReal) (ix2 r k) = (args m c).ob (token t r) k := by
  unfold iblk
  rw [View.read_apply]
  show V m c main_arg1 _ = m (c.tc.loc main_arg1) _
  rw [V_main_arg1]
  congr 1
  funext a
  apply Fin.ext
  match a with
  | ⟨0, _⟩ => show win0_1.index t 0 * 512 + 1 * r.val = 512 * t.val + r.val; rw [(index_ob t).1]; omega
  | ⟨1, _⟩ => show win0_1.index t 1 * 1024 + 1 * k.val = k.val; rw [(index_ob t).2]; omega

theorem blk_ga (r : Fin 512) (k : Fin 1024) :
    (iblk m c 2 t : S512x1024.Idx → EReal) (ix2 r k) = (args m c).ga (token t r) k := by
  unfold iblk
  rw [View.read_apply]
  show V m c main_arg2 _ = m (c.tc.loc main_arg2) _
  rw [V_main_arg2]
  congr 1
  funext a
  apply Fin.ext
  match a with
  | ⟨0, _⟩ => show win0_2.index t 0 * 512 + 1 * r.val = 512 * t.val + r.val; rw [(index_ga t).1]; omega
  | ⟨1, _⟩ => show win0_2.index t 1 * 1024 + 1 * k.val = k.val; rw [(index_ga t).2]; omega

theorem blk_gb (r : Fin 512) (k : Fin 1024) :
    (iblk m c 3 t : S512x1024.Idx → EReal) (ix2 r k) = (args m c).gb (token t r) k := by
  unfold iblk
  rw [View.read_apply]
  show V m c main_arg3 _ = m (c.tc.loc main_arg3) _
  rw [V_main_arg3]
  congr 1
  funext a
  apply Fin.ext
  match a with
  | ⟨0, _⟩ => show win0_3.index t 0 * 512 + 1 * r.val = 512 * t.val + r.val; rw [(index_gb t).1]; omega
  | ⟨1, _⟩ => show win0_3.index t 1 * 1024 + 1 * k.val = k.val; rw [(index_gb t).2]; omega

theorem blk_x (r : Fin 512) (k : Fin 1024) :
    (iblk m c 4 t : S512x1024.Idx → EReal) (ix2 r k) = (args m c).x (token t r) k := by
  unfold iblk
  rw [View.read_apply]
  show V m c main_arg4 _ = m (c.tc.loc main_arg4) _
  rw [V_main_arg4]
  congr 1
  funext a
  apply Fin.ext
  match a with
  | ⟨0, _⟩ => show win0_4.index t 0 * 512 + 1 * r.val = 512 * t.val + r.val; rw [(index_x t).1]; omega
  | ⟨1, _⟩ => show win0_4.index t 1 * 1024 + 1 * k.val = k.val; rw [(index_x t).2]; omega

theorem blk_wa (k : Fin 512) (j : Fin 1024) : (iblk m c 6 t : S512x1024.Idx → EReal) (ix2 k j) = (args m c).wa k j := by
  refine Eq.trans ?_ (V_wa m c k j)
  unfold iblk
  rw [View.read_apply]
  show V m c main_v3 _ = V m c main_v3 _
  congr 1
  funext a
  apply Fin.ext
  match a with
  | ⟨0, _⟩ => show win0_6.index t 0 * 512 + 1 * k.val = k.val; rw [(index_wa t).1]; omega
  | ⟨1, _⟩ => show win0_6.index t 1 * 1024 + 1 * j.val = j.val; rw [(index_wa t).2]; omega

theorem blk_wl (k : Fin 1024) (j : Fin 1024) : (iblk m c 7 t : S1024x1024.Idx → EReal) (ix2 k j) = (args m c).wl k j := by
  refine Eq.trans ?_ (V_wl m c k j)
  unfold iblk
  rw [View.read_apply]
  show V m c main_v4 _ = V m c main_v4 _
  congr 1
  funext a
  apply Fin.ext
  match a with
  | ⟨0, _⟩ => show win0_7.index t 0 * 1024 + 1 * k.val = k.val; rw [(index_wl t).1]; omega
  | ⟨1, _⟩ => show win0_7.index t 1 * 1024 + 1 * j.val = j.val; rw [(index_wl t).2]; omega

theorem blk_wo (k : Fin 1024) (j : Fin 1024) : (iblk m c 8 t : S1024x1024.Idx → EReal) (ix2 k j) = (args m c).wo k j := by
  refine Eq.trans ?_ (V_wo m c k j)
  unfold iblk
  rw [View.read_apply]
  show V m c main_v5 _ = V m c main_v5 _
  congr 1
  funext a
  apply Fin.ext
  match a with
  | ⟨0, _⟩ => show win0_8.index t 0 * 1024 + 1 * k.val = k.val; rw [(index_wo t).1]; omega
  | ⟨1, _⟩ => show win0_8.index t 1 * 1024 + 1 * j.val = j.val; rw [(index_wo t).2]; omega

theorem blk_wq (k : Fin 1024) (j : Fin 2048) : (iblk m c 10 t : S1024x2048.Idx → EReal) (ix2 k j) = (args m c).wq k j := by
  refine Eq.trans ?_ (V_wq m c k j)
  unfold iblk
  rw [View.read_apply]
  show V m c main_v7 _ = V m c main_v7 _
  congr 1
  funext a
  apply Fin.ext
  match a with
  | ⟨0, _⟩ => show win0_10.index t 0 * 1024 + 1 * k.val = k.val; rw [(index_wq t).1]; omega
  | ⟨1, _⟩ => show win0_10.index t 1 * 2048 + 1 * j.val = j.val; rw [(index_wq t).2]; omega

theorem blk_w (ch : Fin 1024) : (iblk m c 9 t : S1x1024.Idx → EReal) (ix2 0 ch) = (args m c).w ch := by
  refine Eq.trans ?_ (V_w m c ch)
  unfold iblk
  rw [View.read_apply]
  show V m c main_v6 _ = V m c main_v6 _
  congr 1
  funext a
  apply Fin.ext
  match a with
  | ⟨0, _⟩ => show win0_9.index t 0 * 1 + 1 * 0 = 0; rw [(index_w t).1]
  | ⟨1, _⟩ => show win0_9.index t 1 * 1024 + 1 * ch.val = ch.val; rw [(index_w t).2]; omega

theorem blk_keys (p : Fin 16) (n k : Fin 128) : (iblk m c 11 t : S16x128x128.Idx → EReal) (ix3 p n k) =
    (args m c).keys ⟨p.val / 2, by omega⟩ ⟨p.val % 2, by omega⟩ n k := by
  refine Eq.trans ?_ (V_keys m c p n k)
  unfold iblk
  rw [View.read_apply]
  show V m c main_v1 _ = V m c main_v1 _
  congr 1
  funext a
  apply Fin.ext
  match a with
  | ⟨0, _⟩ => show win0_11.index t 0 * 16 + 1 * p.val = p.val; rw [(index_keys t).1]; omega
  | ⟨1, _⟩ => show win0_11.index t 1 * 128 + 1 * n.val = n.val; rw [(index_keys t).2.1]; omega
  | ⟨2, _⟩ => show win0_11.index t 2 * 128 + 1 * k.val = k.val; rw [(index_keys t).2.2]; omega

/-- A point's modulation row is its tokens' batch's. -/
theorem blk_mod (r : Fin 512) (j : Fin 6144) : (iblk m c 5 t : S1x1x6144.Idx → EReal) (ix3 0 0 j) =
    (args m c).mod ⟨(token t r).val / 4096, by have := (token t r).isLt; omega⟩ j := by
  refine Eq.trans ?_ (V_mod m c _ j)
  unfold iblk
  rw [View.read_apply]
  show V m c main_v2 _ = V m c main_v2 _
  congr 1
  funext a
  apply Fin.ext
  match a with
  | ⟨0, _⟩ => show win0_5.index t 0 * 1 + 1 * 0 = (512 * t.val + r.val) / 4096; rw [(index_mod t).1]; omega
  | ⟨1, _⟩ => show win0_5.index t 1 * 1 + 1 * 0 = 0; rw [(index_mod t).2.1]
  | ⟨2, _⟩ => show win0_5.index t 2 * 6144 + 1 * j.val = j.val; rw [(index_mod t).2.2]; omega

/-! ## What a point computes -/

/-- A block's residual stream, of blocks that hold token `R`'s rows and the parameters. -/
theorem blockX1_of (X : Args) (R : Fin 16384) (r : Fin 512) {x0 : Vec Ideal S512x512 .bf16}
    {x1 x2 x3 x4 : Vec Ideal S512x1024 .f32} {x5 : Vec Ideal S1x1x6144 .f32} {x6 : Vec Ideal S512x1024 .bf16}
    {x7 x8 : Vec Ideal S1024x1024 .bf16} (h0 : ∀ k, x0 (ix2 r k) = X.oa R k) (h1 : ∀ k, x1 (ix2 r k) = X.ob R k)
    (h2 : ∀ k, x2 (ix2 r k) = X.ga R k) (h3 : ∀ k, x3 (ix2 r k) = X.gb R k) (h4 : ∀ k, x4 (ix2 r k) = X.x R k)
    (h5 : ∀ j, x5 (ix3 0 0 j) = X.mod ⟨R.val / 4096, by omega⟩ j) (h6 : ∀ k j, x6 (ix2 k j) = X.wa k j)
    (h7 : ∀ k j, x7 (ix2 k j) = X.wl k j) (h8 : ∀ k j, x8 (ix2 k j) = X.wo k j) :
    blockX1 x0 x1 x2 x3 x4 x5 x6 x7 x8 r = X.x1 R := by
  unfold blockX1 Args.x1
  simp only [h0, h1, h2, h3, h4, h5, h6, h7, h8]
  rfl

/-- A block's modulated norm, of the same and the norm's weights. -/
theorem blockH2_of (X : Args) (R : Fin 16384) (r : Fin 512) {x0 : Vec Ideal S512x512 .bf16}
    {x1 x2 x3 x4 : Vec Ideal S512x1024 .f32} {x5 : Vec Ideal S1x1x6144 .f32} {x6 : Vec Ideal S512x1024 .bf16}
    {x7 x8 : Vec Ideal S1024x1024 .bf16} {x9 : Vec Ideal S1x1024 .f32} (hx : blockX1 x0 x1 x2 x3 x4 x5 x6 x7 x8 r = X.x1 R)
    (h5 : ∀ j, x5 (ix3 0 0 j) = X.mod ⟨R.val / 4096, by omega⟩ j) (h9 : ∀ k, x9 (ix2 0 k) = X.w k) :
    blockH2 x0 x1 x2 x3 x4 x5 x6 x7 x8 x9 r = X.h2 R := by
  unfold blockH2 Args.h2
  simp only [hx, h5, h9]
  rfl

/-- A block's scores, of the same, the query weights and the keys. -/
theorem scores_of (X : Args) (R : Fin 16384) (r : Fin 512) {x0 : Vec Ideal S512x512 .bf16}
    {x1 x2 x3 x4 : Vec Ideal S512x1024 .f32} {x5 : Vec Ideal S1x1x6144 .f32} {x6 : Vec Ideal S512x1024 .bf16}
    {x7 x8 : Vec Ideal S1024x1024 .bf16} {x9 : Vec Ideal S1x1024 .f32} {x10 : Vec Ideal S1024x2048 .bf16}
    {x11 : Vec Ideal S16x128x128 .bf16} (hx : blockH2 x0 x1 x2 x3 x4 x5 x6 x7 x8 x9 r = X.h2 R)
    (h10 : ∀ k j, x10 (ix2 k j) = X.wq k j)
    (h11 : ∀ p n k, x11 (ix3 p n k) = X.keys ⟨p.val / 2, by omega⟩ ⟨p.val % 2, by omega⟩ n k) (p : Fin 16) (n : Fin 128) :
    out0_14 x0 x1 x2 x3 x4 x5 x6 x7 x8 x9 x10 x11 (ix3 p n r) = X.st p n R := by
  rw [out14_apply]
  unfold Args.st score
  simp only [hx, h10, h11]

theorem block_x1 (r : Fin 512) :
    blockX1 (iblk m c 0 t) (iblk m c 1 t) (iblk m c 2 t) (iblk m c 3 t) (iblk m c 4 t) (iblk m c 5 t) (iblk m c 6 t) (iblk m c 7 t)
      (iblk m c 8 t) r = (args m c).x1 (token t r) :=
  blockX1_of (args m c) (token t r) r (blk_oa m c t r) (blk_ob m c t r) (blk_ga m c t r) (blk_gb m c t r) (blk_x m c t r)
    (blk_mod m c t r) (blk_wa m c t) (blk_wl m c t) (blk_wo m c t)

theorem block_h2 (r : Fin 512) :
    blockH2 (iblk m c 0 t) (iblk m c 1 t) (iblk m c 2 t) (iblk m c 3 t) (iblk m c 4 t) (iblk m c 5 t) (iblk m c 6 t) (iblk m c 7 t)
      (iblk m c 8 t) (iblk m c 9 t) r = (args m c).h2 (token t r) :=
  blockH2_of (args m c) (token t r) r (block_x1 m c t r) (blk_mod m c t r) (blk_w m c t)

/-! ## The arrays -/

/-- The array of the new latent stream. -/
def x1Arr : Buf (Elt Ideal) ((c : Thread nD τ).loc main_v8_0) := fun y : S16384x1024.Idx => (args m c).x1 (y 0) (y 1)

theorem flushed_x1 (_hf : (cfg0.win 12).flush t = true) :
    (dats m 0 c).flushed 12 t = ((cfg0.win 12).blk t).view.read (Elt Ideal) (x1Arr m c) := by
  rw [Cert.Kernel2Ideal.Value.flushed12]
  funext y
  obtain ⟨r, ch, rfl⟩ : ∃ (r : Fin 512) (ch : Fin 1024), y = (ix2 r ch : S512x1024.Idx) := ⟨y 0, y 1, eq_ix2 y⟩
  rw [View.read_apply]
  refine (out12_apply _ _ _ _ _ _ _ _ _ _ _ _ r ch).trans ((congrFun (block_x1 m c t r) ch).trans ?_)
  unfold x1Arr
  congr 1
  · apply Fin.ext
    show 512 * t.val + r.val = win0_12.index t 0 * 512 + 1 * r.val
    rw [(index_x1 t).1]
    omega
  · apply Fin.ext
    show ch.val = win0_12.index t 1 * 1024 + 1 * ch.val
    rw [(index_x1 t).2]
    omega

theorem final12 : (dats m 0 c).arrAt 12 cfg0.N = x1Arr m c :=
  (dats m 0 c).arrAt_eq_of_cover 12 (x1Arr m c) (flushed_x1 m c) fun i => by
    have h0 : (i 0 : ℕ) < 16384 := (i 0).isLt
    have h1 : (i 1 : ℕ) < 1024 := (i 1).isLt
    let t : Fin cfg0.N := ⟨(i 0 : ℕ) / 512, by rw [show cfg0.N = 32 from N_0]; omega⟩
    have ht : t.val = (i 0 : ℕ) / 512 := rfl
    refine ⟨t, flush_x1 t, ?_⟩
    show i ∈ ((View.whole main_v8_0).slice (win0_12.rect t)).set
    rw [View.set_slice_whole, Rect.mem_set_unit]
    intro a
    match a with
    | ⟨0, _⟩ =>
      show win0_12.index t 0 * 512 ≤ (i 0 : ℕ) ∧ (i 0 : ℕ) < win0_12.index t 0 * 512 + 512
      rw [(index_x1 t).1]
      omega
    | ⟨1, _⟩ =>
      show win0_12.index t 1 * 1024 ≤ (i 1 : ℕ) ∧ (i 1 : ℕ) < win0_12.index t 1 * 1024 + 1024
      rw [(index_x1 t).2]
      omega

/-- The array of what the experts read. -/
def h2Arr : Buf (Elt Ideal) ((c : Thread nD τ).loc main_v8_1) := fun y : S16384x1024.Idx => (args m c).h2 (y 0) (y 1)

theorem flushed_h2 (_hf : (cfg0.win 13).flush t = true) :
    (dats m 0 c).flushed 13 t = ((cfg0.win 13).blk t).view.read (Elt Ideal) (h2Arr m c) := by
  rw [Cert.Kernel2Ideal.Value.flushed13]
  funext y
  obtain ⟨r, ch, rfl⟩ : ∃ (r : Fin 512) (ch : Fin 1024), y = (ix2 r ch : S512x1024.Idx) := ⟨y 0, y 1, eq_ix2 y⟩
  rw [View.read_apply]
  refine (out13_apply _ _ _ _ _ _ _ _ _ _ _ _ r ch).trans ((congrFun (block_h2 m c t r) ch).trans ?_)
  unfold h2Arr
  congr 1
  · apply Fin.ext
    show 512 * t.val + r.val = win0_13.index t 0 * 512 + 1 * r.val
    rw [(index_h2 t).1]
    omega
  · apply Fin.ext
    show ch.val = win0_13.index t 1 * 1024 + 1 * ch.val
    rw [(index_h2 t).2]
    omega

theorem final13 : (dats m 0 c).arrAt 13 cfg0.N = h2Arr m c :=
  (dats m 0 c).arrAt_eq_of_cover 13 (h2Arr m c) (flushed_h2 m c) fun i => by
    have h0 : (i 0 : ℕ) < 16384 := (i 0).isLt
    have h1 : (i 1 : ℕ) < 1024 := (i 1).isLt
    let t : Fin cfg0.N := ⟨(i 0 : ℕ) / 512, by rw [show cfg0.N = 32 from N_0]; omega⟩
    have ht : t.val = (i 0 : ℕ) / 512 := rfl
    refine ⟨t, flush_h2 t, ?_⟩
    show i ∈ ((View.whole main_v8_1).slice (win0_13.rect t)).set
    rw [View.set_slice_whole, Rect.mem_set_unit]
    intro a
    match a with
    | ⟨0, _⟩ =>
      show win0_13.index t 0 * 512 ≤ (i 0 : ℕ) ∧ (i 0 : ℕ) < win0_13.index t 0 * 512 + 512
      rw [(index_h2 t).1]
      omega
    | ⟨1, _⟩ =>
      show win0_13.index t 1 * 1024 ≤ (i 1 : ℕ) ∧ (i 1 : ℕ) < win0_13.index t 1 * 1024 + 1024
      rw [(index_h2 t).2]
      omega

/-- The array of the scores. -/
def stArr : Buf (Elt Ideal) ((c : Thread nD τ).loc main_v8_2) := fun y : S16x128x16384.Idx => (args m c).st (y 0) (y 1) (y 2)

theorem flushed_st (_hf : (cfg0.win 14).flush t = true) :
    (dats m 0 c).flushed 14 t = ((cfg0.win 14).blk t).view.read (Elt Ideal) (stArr m c) := by
  rw [Cert.Kernel2Ideal.Value.flushed14]
  funext y
  obtain ⟨p, n, r, rfl⟩ : ∃ (p : Fin 16) (n : Fin 128) (r : Fin 512), y = (ix3 p n r : S16x128x512.Idx) := ⟨y 0, y 1, y 2, eq_ix3 y⟩
  rw [View.read_apply]
  refine (scores_of (args m c) (token t r) r (block_h2 m c t r) (blk_wq m c t) (blk_keys m c t) p n).trans ?_
  unfold stArr
  congr 1
  · apply Fin.ext
    show p.val = win0_14.index t 0 * 16 + 1 * p.val
    rw [(index_st t).1]
    omega
  · apply Fin.ext
    show n.val = win0_14.index t 1 * 128 + 1 * n.val
    rw [(index_st t).2.1]
    omega
  · apply Fin.ext
    show 512 * t.val + r.val = win0_14.index t 2 * 512 + 1 * r.val
    rw [(index_st t).2.2]
    omega

theorem final14 : (dats m 0 c).arrAt 14 cfg0.N = stArr m c :=
  (dats m 0 c).arrAt_eq_of_cover 14 (stArr m c) (flushed_st m c) fun i => by
    have h0 : (i 0 : ℕ) < 16 := (i 0).isLt
    have h1 : (i 1 : ℕ) < 128 := (i 1).isLt
    have h2 : (i 2 : ℕ) < 16384 := (i 2).isLt
    let t : Fin cfg0.N := ⟨(i 2 : ℕ) / 512, by rw [show cfg0.N = 32 from N_0]; omega⟩
    have ht : t.val = (i 2 : ℕ) / 512 := rfl
    refine ⟨t, flush_st t, ?_⟩
    show i ∈ ((View.whole main_v8_2).slice (win0_14.rect t)).set
    rw [View.set_slice_whole, Rect.mem_set_unit]
    intro a
    match a with
    | ⟨0, _⟩ =>
      show win0_14.index t 0 * 16 ≤ (i 0 : ℕ) ∧ (i 0 : ℕ) < win0_14.index t 0 * 16 + 16
      rw [(index_st t).1]
      omega
    | ⟨1, _⟩ =>
      show win0_14.index t 1 * 128 ≤ (i 1 : ℕ) ∧ (i 1 : ℕ) < win0_14.index t 1 * 128 + 128
      rw [(index_st t).2.1]
      omega
    | ⟨2, _⟩ =>
      show win0_14.index t 2 * 512 ≤ (i 2 : ℕ) ∧ (i 2 : ℕ) < win0_14.index t 2 * 512 + 512
      rw [(index_st t).2.2]
      omega

end Cert.Kernel2Ideal.Hand
-- ==== Proof.Merge.Reference.lean ====
/-
  The reference of the merge: its three results, which are `Args.x1`, `Args.h2` and `Args.st` of the arguments.
-/
module

public import proofs.«01_k».proof.Proof.Merge.Spec
public import proofs.«01_k».proof.Proof.Gen.Reference2Ideal.Run
public import Idealize.ShloMosaic.Lib.Pointwise
public import Idealize.ShloMosaic.Lib.Tactic

@[expose] public section

set_option maxRecDepth 16384

noncomputable section

namespace Cert.Reference2Ideal.Hand

open Idealize.ShloMosaic Idealize.ShloMosaic.TcCoe Idealize.SL.Sem Cert.Reference2Ideal Cert.Reference2Ideal.Gen Cert.Reference2Ideal.Value Cert.Merge

section Parts

variable {F : FTy → Type} [FloatOps F]

/-- The two branches merged. -/
def mergedVec (oa : Vec F S16384x512 .bf16) (ob ga gb : Vec F S16384x1024 .f32) (wa : Vec F S512x1024 .f32)
    (wl : Vec F S1024x1024 .f32) : Vec F S4x4096x1024 .f32 :=
  addf (mulf (shapeCast _ ga shapeCasts_S16384x1024_S4x4096x1024) (Host.dotGeneral dot_S4x4096x512_S512x1024_S4x4096x1024_2_0_01_1_n_n none (shapeCast _ (extf .f32 oa bitsLt_bf16_f32) shapeCasts_S16384x512_S4x4096x512) wa)) (mulf (shapeCast _ gb shapeCasts_S16384x1024_S4x4096x1024) (Host.dotGeneral dot_S4x4096x1024_S1024x1024_S4x4096x1024_2_0_01_1_n_n none (shapeCast _ ob shapeCasts_S16384x1024_S4x4096x1024) wl))

/-- The latent stream after the token mixing. -/
def streamVec (x : Vec F S16384x1024 .f32) (mod : Vec F S8x6144 .f32) (wo : Vec F S1024x1024 .f32)
    (v : Vec F S4x4096x1024 .f32) : Vec F S4x4096x1024 .f32 :=
  addf (shapeCast _ x shapeCasts_S16384x1024_S4x4096x1024) (mulf (broadcastInDim S4x4096x1024 ![0, 1, 2] bcast_S4x1x1024_S4x4096x1024_0_1_2 (broadcastInDim S4x1x1024 ![0, 2] bcast_S4x1024_S4x1x1024_0_2 (extractStridedSlice S4x1024 ![0, 2048] (extractStridedSlice S4x6144 ![0, 0] mod slices_S8x6144_S4x6144_0_0) slices_S4x6144_S4x1024_0_2048))) (Host.dotGeneral dot_S4x4096x1024_S1024x1024_S4x4096x1024_2_0_01_1_n_n none v wo))

/-- The mean square. -/
def meanVec (X : Vec F S4x4096x1024 .f32) : Vec F S4x4096x1 .f32 :=
  Host.divf (broadcastInDim S4x4096x1 ![0, 1] bcast_S4x4096_S4x4096x1_0_1 (Host.reduceAdd (mulf X X) (constant S_ .f32 0x00000000#32) reducesTo_S4x4096x1024_S4x4096_d2 h_S_)) (broadcastInDim S4x4096x1 ![] bcast_S_S4x4096x1 (constant S_ .f32 0x44800000#32))

/-- The norm, modulated. -/
def normVec (X : Vec F S4x4096x1024 .f32) (M : Vec F S4x4096x1 .f32) (mod : Vec F S8x6144 .f32) (w : Vec F S1024 .f32) :
    Vec F S4x4096x1024 .f32 :=
  addf (mulf (mulf (mulf X (broadcastInDim S4x4096x1024 ![0, 1, 2] bcast_S4x4096x1_S4x4096x1024_0_1_2 (Host.rsqrt (addf M (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 w))) (broadcastInDim S4x4096x1024 ![0, 1, 2] bcast_S4x1x1024_S4x4096x1024_0_1_2 (addf (broadcastInDim S4x1x1024 ![] bcast_S_S4x1x1024 (constant S_ .f32 0x3F800000#32)) (broadcastInDim S4x1x1024 ![0, 2] bcast_S4x1024_S4x1x1024_0_2 (extractStridedSlice S4x1024 ![0, 4096] (extractStridedSlice S4x6144 ![0, 0] mod slices_S8x6144_S4x6144_0_0) slices_S4x6144_S4x1024_0_4096))))) (broadcastInDim S4x4096x1024 ![0, 1, 2] bcast_S4x1x1024_S4x4096x1024_0_1_2 (broadcastInDim S4x1x1024 ![0, 2] bcast_S4x1024_S4x1x1024_0_2 (extractStridedSlice S4x1024 ![0, 3072] (extractStridedSlice S4x6144 ![0, 0] mod slices_S8x6144_S4x6144_0_0) slices_S4x6144_S4x1024_0_3072)))

/-- The queries. -/
def queryVec (H : Vec F S4x4096x1024 .f32) (wq : Vec F S1024x2048 .f32) : Vec F S4x4096x2048 .f32 :=
  Host.dotGeneral dot_S4x4096x1024_S1024x2048_S4x4096x2048_2_0_01_1_n_n none H wq

/-- The scores. -/
def scoreVec (Q : Vec F S4x4096x2048 .f32) (keys : Vec F S8x2x128x128 .f32) : Vec F S16x128x16384 .f32 :=
  transpose S16x128x16384 [1, 2, 0] (shapeCast _ (transpose S4x4096x8x2x128 [3, 4, 0, 1, 2] (Host.dotGeneral dot_S8x2x128x128_S4x4096x8x2x128_S8x2x128x4x4096_3_4_2_01_01_23 none keys (shapeCast _ Q shapeCasts_S4x4096x2048_S4x4096x8x2x128)) transposes_S8x2x128x4x4096_S4x4096x8x2x128_3_4_0_1_2) shapeCasts_S4x4096x8x2x128_S16384x16x128) transposes_S16384x16x128_S16x128x16384_1_2_0

end Parts

/-! ## The parts at an index -/

theorem merged_read (oa : Vec Ideal S16384x512 .bf16) (ob ga gb : Vec Ideal S16384x1024 .f32) (wa : Vec Ideal S512x1024 .f32)
    (wl : Vec Ideal S1024x1024 .f32) (b : Fin 4) (n : Fin 4096) (ch : Fin 1024) :
    mergedVec oa ob ga gb wa wl (ix3 b n ch) =
      ga (ix2 ⟨b.val * 4096 + n.val, by omega⟩ ch) * (∑ k : Fin 512, oa (ix2 ⟨b.val * 4096 + n.val, by omega⟩ k) * wa (ix2 k ch)) +
        gb (ix2 ⟨b.val * 4096 + n.val, by omega⟩ ch) * ∑ k : Fin 1024, ob (ix2 ⟨b.val * 4096 + n.val, by omega⟩ k) * wl (ix2 k ch) := by
  pointwise [mergedVec]

theorem stream_read (x : Vec Ideal S16384x1024 .f32) (mod : Vec Ideal S8x6144 .f32) (wo : Vec Ideal S1024x1024 .f32)
    (v : Vec Ideal S4x4096x1024 .f32) (b : Fin 4) (n : Fin 4096) (ch : Fin 1024) :
    streamVec x mod wo v (ix3 b n ch) = x (ix2 ⟨b.val * 4096 + n.val, by omega⟩ ch) +
      mod (ix2 ⟨b.val, by omega⟩ ⟨2048 + ch.val, by omega⟩) * ∑ k : Fin 1024, v (ix3 b n k) * wo (ix2 k ch) := by
  pointwise [streamVec]

theorem mean_read (X : Vec Ideal S4x4096x1024 .f32) (b : Fin 4) (n : Fin 4096) :
    meanVec X (ix3 b n 0) = Ideal.div (∑ k : Fin 1024, X (ix3 b n k) * X (ix3 b n k)) (Ideal.ofBits .f32 0x44800000#32) := by
  pointwise [meanVec]

theorem norm_read (X : Vec Ideal S4x4096x1024 .f32) (M : Vec Ideal S4x4096x1 .f32) (mod : Vec Ideal S8x6144 .f32)
    (w : Vec Ideal S1024 .f32) (b : Fin 4) (n : Fin 4096) (ch : Fin 1024) :
    normVec X M mod w (ix3 b n ch) = X (ix3 b n ch) * Ideal.rsqrt (M (ix3 b n 0) + Ideal.ofBits .f32 0x358637BD#32) * w (ix1 ch) *
      (1 + mod (ix2 ⟨b.val, by omega⟩ ⟨4096 + ch.val, by omega⟩)) + mod (ix2 ⟨b.val, by omega⟩ ⟨3072 + ch.val, by omega⟩) := by
  pointwise [normVec]

theorem query_read (H : Vec Ideal S4x4096x1024 .f32) (wq : Vec Ideal S1024x2048 .f32) (b : Fin 4) (n : Fin 4096) (j : Fin 2048) :
    queryVec H wq (ix3 b n j) = ∑ k : Fin 1024, H (ix3 b n k) * wq (ix2 k j) := by
  pointwise [queryVec]

theorem score_read (Q : Vec Ideal S4x4096x2048 .f32) (keys : Vec Ideal S8x2x128x128 .f32) (p : Fin 16) (n : Fin 128)
    (r : Fin 16384) : scoreVec Q keys (ix3 p n r) =
      ∑ k : Fin 128, keys (ix4 ⟨p.val / 2, by omega⟩ ⟨p.val % 2, by omega⟩ n k) *
        Q (ix3 ⟨r.val / 4096, by omega⟩ ⟨r.val % 4096, by omega⟩ ⟨128 * p.val + k.val, by omega⟩) := by
  pointwise [scoreVec]
  refine Finset.sum_congr rfl fun k _ => congrArg (_ * ·) (congrArg Q (congrArg (ix3 _ _) (Fin.ext ?_)))
  show p.val / 2 * 256 + p.val % 2 * 128 + k.val = 128 * p.val + k.val
  omega

/-- A token's row, read over a batch and a position in it. -/
theorem row_read (X : Vec Ideal S4x4096x1024 .f32) (r : Fin 16384) (ch : Fin 1024) :
    shapeCast S16384x1024 X shapeCasts_S4x4096x1024_S16384x1024 (ix2 r ch) =
      X (ix3 ⟨r.val / 4096, by omega⟩ ⟨r.val % 4096, by omega⟩ ch) := by
  pointwise

variable (m : (ℓ : Loc nD τ sig) → Buf (Elt Ideal) ℓ)

/-- The arguments a core finds. -/
def args (c : Dev nD) : Args where
  oa r k := m ((c : Thread nD τ).loc main_arg0) (ix2 r k)
  ob r k := m ((c : Thread nD τ).loc main_arg1) (ix2 r k)
  ga r ch := m ((c : Thread nD τ).loc main_arg2) (ix2 r ch)
  gb r ch := m ((c : Thread nD τ).loc main_arg3) (ix2 r ch)
  x r ch := m ((c : Thread nD τ).loc main_arg4) (ix2 r ch)
  mod b j := m ((c : Thread nD τ).loc main_arg5) (ix2 b j)
  wa k ch := m ((c : Thread nD τ).loc main_arg6) (ix2 k ch)
  wl k ch := m ((c : Thread nD τ).loc main_arg7) (ix2 k ch)
  wo k ch := m ((c : Thread nD τ).loc main_arg8) (ix2 k ch)
  w ch := m ((c : Thread nD τ).loc main_arg9) (ix1 ch)
  wq k j := m ((c : Thread nD τ).loc main_arg10) (ix2 k j)
  keys h p n k := m ((c : Thread nD τ).loc main_arg11) (ix4 h p n k)

variable (c : Dev nD)

/-! ## The program's vectors, of a core's arguments -/

/-- The latent stream after the token mixing. -/
def stream : Vec Ideal S4x4096x1024 .f32 :=
  streamVec (m (c.tc.loc main_arg4)) (m (c.tc.loc main_arg5)) (m (c.tc.loc main_arg8))
    (mergedVec (m (c.tc.loc main_arg0)) (m (c.tc.loc main_arg1)) (m (c.tc.loc main_arg2)) (m (c.tc.loc main_arg3))
      (m (c.tc.loc main_arg6)) (m (c.tc.loc main_arg7)))

/-- Its norm, modulated. -/
def normedStream : Vec Ideal S4x4096x1024 .f32 :=
  normVec (stream m c) (meanVec (stream m c)) (m (c.tc.loc main_arg5)) (m (c.tc.loc main_arg9))

theorem out1_eq : (res_main_v50 m c : S16384x1024.Idx → EReal) =
    shapeCast S16384x1024 (normedStream m c) shapeCasts_S4x4096x1024_S16384x1024 := rfl

theorem out2_eq : (res_main_v52 m c : S16x128x16384.Idx → EReal) =
    scoreVec (queryVec (normedStream m c) (m (c.tc.loc main_arg10))) (m (c.tc.loc main_arg11)) := rfl

/-- A token's number from its batch and its position. -/
theorem token_eq (b : Fin 4) (n : Fin 4096) (r : Fin 16384) (h : r.val = b.val * 4096 + n.val) :
    (⟨b.val * 4096 + n.val, by omega⟩ : Fin 16384) = r := Fin.ext h.symm

theorem merged_args (b : Fin 4) (n : Fin 4096) (r : Fin 16384) (h : r.val = b.val * 4096 + n.val) (ch : Fin 1024) :
    mergedVec (m (c.tc.loc main_arg0)) (m (c.tc.loc main_arg1)) (m (c.tc.loc main_arg2)) (m (c.tc.loc main_arg3))
      (m (c.tc.loc main_arg6)) (m (c.tc.loc main_arg7)) (ix3 b n ch) =
      merged (args m c).wa (args m c).wl ((args m c).oa r) ((args m c).ob r) ((args m c).ga r) ((args m c).gb r) ch := by
  rw [merged_read, token_eq b n r h]
  rfl

theorem stream_args (b : Fin 4) (n : Fin 4096) (r : Fin 16384) (h : r.val = b.val * 4096 + n.val) (ch : Fin 1024) :
    stream m c (ix3 b n ch) = (args m c).x1 r ch := by
  unfold stream
  rw [stream_read, token_eq b n r h]
  unfold Args.x1 Cert.Merge.residual
  have hb : (⟨b.val, by omega⟩ : Fin 8) = ⟨r.val / 4096, by omega⟩ := Fin.ext (by show b.val = r.val / 4096; omega)
  rw [hb]
  exact congrArg₂ (· + ·) rfl (congrArg₂ (· * ·) rfl
    (Finset.sum_congr rfl fun k _ => congrArg (· * _) (merged_args m c b n r h k)))

theorem normed_args (b : Fin 4) (n : Fin 4096) (r : Fin 16384) (h : r.val = b.val * 4096 + n.val) (ch : Fin 1024) :
    normedStream m c (ix3 b n ch) = (args m c).h2 r ch := by
  unfold normedStream
  rw [norm_read, mean_read]
  simp only [stream_args m c b n r h]
  have hb : (⟨b.val, by omega⟩ : Fin 8) = ⟨r.val / 4096, by omega⟩ := Fin.ext (by show b.val = r.val / 4096; omega)
  rw [hb]
  rfl

/-! ## The results -/

/-- Scores, of a token's queries and the keys. -/
theorem scores_of (X : Args) (r : Fin 16384) {Q : Vec Ideal S4x4096x2048 .f32} {keys : Vec Ideal S8x2x128x128 .f32}
    (hQ : ∀ j, Q (ix3 ⟨r.val / 4096, by omega⟩ ⟨r.val % 4096, by omega⟩ j) = query X.wq (X.h2 r) j)
    (hk : ∀ h p n k, keys (ix4 h p n k) = X.keys h p n k) (p : Fin 16) (n : Fin 128) :
    scoreVec Q keys (ix3 p n r) = X.st p n r := by
  rw [score_read]
  unfold Args.st score
  simp only [hQ, hk]

theorem out0_args (r : Fin 16384) (ch : Fin 1024) :
    shapeCast S16384x1024 (stream m c) shapeCasts_S4x4096x1024_S16384x1024 (ix2 r ch) = (args m c).x1 r ch :=
  (row_read _ r ch).trans (stream_args m c _ _ r (by show r.val = r.val / 4096 * 4096 + r.val % 4096; omega) ch)

theorem out1_args (r : Fin 16384) (ch : Fin 1024) : (res_main_v50 m c : S16384x1024.Idx → EReal) (ix2 r ch) = (args m c).h2 r ch := by
  rw [out1_eq]
  exact (row_read _ r ch).trans (normed_args m c _ _ r (by show r.val = r.val / 4096 * 4096 + r.val % 4096; omega) ch)

theorem out2_args (p : Fin 16) (n : Fin 128) (r : Fin 16384) : (res_main_v52 m c : S16x128x16384.Idx → EReal) (ix3 p n r) = (args m c).st p n r := by
  rw [out2_eq]
  exact scores_of (args m c) r (fun j => (query_read _ _ _ _ j).trans (Finset.sum_congr rfl fun i _ => congrArg (· * _)
    (normed_args m c _ _ r (by show r.val = r.val / 4096 * 4096 + r.val % 4096; omega) i))) (fun _ _ _ _ => rfl) p n

end Cert.Reference2Ideal.Hand
-- ==== Proof.Inproj.Spec.lean ====
/-
  What the input projection computes of one token: the modulated norm (`Cert.Merge.normed`) times the input weights,
  and its six parts: the queries and the keys, each head over its root mean square, the values, the recurrence's
  input, its gate through the GELU, and the two branches' gates through the logistic function.
-/
module

public import proofs.«01_k».proof.Proof.Merge.Spec

@[expose] public section

noncomputable section

namespace Cert.Inproj

open Idealize.ShloMosaic

/-- The mean square of the head that lane `j` belongs to. -/
def headMean (z : Fin 512 → EReal) (j : Fin 512) : EReal :=
  Ideal.div (∑ d : Fin 64, z ⟨64 * (j.val / 64) + d.val, by omega⟩ * z ⟨64 * (j.val / 64) + d.val, by omega⟩)
    (Ideal.ofBits .f32 0x42800000#32)

/-- One over the root of the mean square. -/
def headScale (z : Fin 512 → EReal) (j : Fin 512) : EReal := Ideal.rsqrt (headMean z j + Ideal.ofBits .f32 0x358637BD#32)

/-- The head's norm, scaled. -/
def headNorm (w : Fin 64 → EReal) (z : Fin 512 → EReal) (j : Fin 512) : EReal :=
  z j * headScale z j * w ⟨j.val % 64, by omega⟩

/-- The GELU by the hyperbolic tangent. -/
def gelu (z : EReal) : EReal :=
  z * (Ideal.ofBits .f32 0x3F000000#32 * (Ideal.ofBits .f32 0x3F800000#32 + Ideal.tanh (Ideal.ofBits .f32 0x3F4C422A#32 *
    (z + Ideal.ofBits .f32 0x3D372713#32 * (z * (z * z))))))

/-- The input projection's arguments, as functions of their indices. -/
structure Args where
  x : Fin 16384 → Fin 1024 → EReal
  mod : Fin 8 → Fin 6144 → EReal
  w : Fin 1024 → EReal
  win : Fin 1024 → Fin 5632 → EReal
  qw : Fin 64 → EReal
  kw : Fin 64 → EReal

namespace Args

variable (X : Args)

/-- Part `i` of the modulation of token `r`'s batch. -/
def modOf (i : Fin 6) (r : Fin 16384) (ch : Fin 1024) : EReal := X.mod ⟨r.val / 4096, by omega⟩ ⟨1024 * i.val + ch.val, by omega⟩

/-- The token, normed and modulated. -/
def h (r : Fin 16384) : Fin 1024 → EReal := Merge.normed X.w (X.modOf 0 r) (X.modOf 1 r) (X.x r)

/-- Its projection. -/
def z (r : Fin 16384) (j : Fin 5632) : EReal := ∑ k, X.h r k * X.win k j

/-- The queries before their norm. -/
def zq (r : Fin 16384) (j : Fin 512) : EReal := X.z r ⟨j.val, by omega⟩

/-- The keys before their norm. -/
def zk (r : Fin 16384) (j : Fin 512) : EReal := X.z r ⟨512 + j.val, by omega⟩

/-- The queries, over the root of a head's width. -/
def q (r : Fin 16384) (j : Fin 512) : EReal := headNorm X.qw (X.zq r) j * Ideal.ofBits .f32 0x3E000000#32

/-- The keys. -/
def k (r : Fin 16384) (j : Fin 512) : EReal := headNorm X.kw (X.zk r) j

/-- The values. -/
def v (r : Fin 16384) (j : Fin 512) : EReal := X.z r ⟨1024 + j.val, by omega⟩

/-- Queries, keys and values side by side. -/
def qkv (r : Fin 16384) (j : Fin 1536) : EReal :=
  if h : j.val < 512 then X.q r ⟨j.val, h⟩
  else if h' : j.val < 1024 then X.k r ⟨j.val - 512, by omega⟩
  else X.v r ⟨j.val - 1024, by omega⟩

/-- The recurrence's input. -/
def xr (r : Fin 16384) (ch : Fin 1024) : EReal := X.z r ⟨1536 + ch.val, by omega⟩

/-- The recurrence's output gate. -/
def gy (r : Fin 16384) (ch : Fin 1024) : EReal := gelu (X.z r ⟨2560 + ch.val, by omega⟩)

/-- The attention branch's gate. -/
def sga (r : Fin 16384) (ch : Fin 1024) : EReal := Ideal.logistic (X.z r ⟨3584 + ch.val, by omega⟩)

/-- The recurrence branch's gate. -/
def sgb (r : Fin 16384) (ch : Fin 1024) : EReal := Ideal.logistic (X.z r ⟨4608 + ch.val, by omega⟩)

/-- The arguments whose finiteness makes the queries and keys finite before their norm: the tokens, the shifts and
    the scales, the norm's weight, and the input weights' columns of queries and keys. -/
structure Finite : Prop where
  x : ∀ r k, ∃ a : ℝ, X.x r k = (a : EReal)
  mod : ∀ (b : Fin 8) (j : Fin 6144), b.val < 4 → j.val < 2048 → ∃ a : ℝ, X.mod b j = (a : EReal)
  w : ∀ k, ∃ a : ℝ, X.w k = (a : EReal)
  win : ∀ k (j : Fin 5632), j.val < 1024 → ∃ a : ℝ, X.win k j = (a : EReal)

end Args

end Cert.Inproj
-- ==== Proof.Inproj.Head.lean ====
/-
  The head's mean square by a product with the matrix of heads: of real entries, the sum over the lanes of the same
  head divided by its width; the part below the squares' precision is zero where the squares are finite. And real
  arguments give real projections.
-/
module

public import proofs.«01_k».proof.Proof.Inproj.Spec
public import Idealize.ShloMosaic.PureOps

@[expose] public section

noncomputable section

namespace Cert.Inproj

open Idealize.ShloMosaic

/-- A real value. -/
def IsReal (a : EReal) : Prop := ∃ r : ℝ, a = (r : EReal)

theorem IsReal.mul {a b : EReal} : IsReal a → IsReal b → IsReal (a * b) := by
  rintro ⟨x, rfl⟩ ⟨y, rfl⟩
  exact ⟨x * y, (EReal.coe_mul x y).symm⟩

theorem IsReal.add {a b : EReal} : IsReal a → IsReal b → IsReal (a + b) := by
  rintro ⟨x, rfl⟩ ⟨y, rfl⟩
  exact ⟨x + y, (EReal.coe_add x y).symm⟩

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

theorem IsReal.sum {n : ℕ} {f : Fin n → EReal} (h : ∀ i, IsReal (f i)) : IsReal (∑ i, f i) := by
  choose g hg using h
  exact ⟨∑ i, g i, by rw [← coe_sum]; exact Finset.sum_congr rfl fun i _ => hg i⟩

theorem ofBits_1024 : Ideal.ofBits .f32 0x44800000#32 = ((1024 : ℝ) : EReal) := by
  simp [Ideal.ofBits, Ideal.ieee, -EReal.coe_mul]; norm_num

theorem ofBits_64 : Ideal.ofBits .f32 0x42800000#32 = ((64 : ℝ) : EReal) := by
  simp [Ideal.ofBits, Ideal.ieee, -EReal.coe_mul]; norm_num

theorem ofBits_eighth : Ideal.ofBits .f32 0x3E000000#32 = ((1 / 8 : ℝ) : EReal) := by
  simp [Ideal.ofBits, Ideal.ieee, -EReal.coe_mul]; norm_num

theorem ofBits_inv64 : Ideal.ofBits .bf16 0x3C80#16 = ((1 / 64 : ℝ) : EReal) := by
  simp [Ideal.ofBits, Ideal.ieee, -EReal.coe_mul]; norm_num

theorem ofBits_eps : ∃ e : ℝ, 0 < e ∧ Ideal.ofBits .f32 0x358637BD#32 = (e : EReal) := by
  refine ⟨8796093 * 2 ^ (-43 : ℤ), by positivity, ?_⟩
  simp [Ideal.ofBits, Ideal.ieee, -EReal.coe_mul]

/-- The root of a mean square of real values and a positive number is real. -/
theorem scale_real (x : Fin 1024 → EReal) (h : ∀ k, IsReal (x k)) :
    IsReal (Ideal.rsqrt (Ideal.div (∑ k, x k * x k) (Ideal.ofBits .f32 0x44800000#32) + Ideal.ofBits .f32 0x358637BD#32)) := by
  choose g hg using h
  obtain ⟨e, he, ee⟩ := ofBits_eps
  have hs : (∑ k, x k * x k) = ((∑ k, g k * g k : ℝ) : EReal) := by
    rw [← coe_sum]
    exact Finset.sum_congr rfl fun k _ => by rw [hg k, EReal.coe_mul]
  have hp : 0 < (∑ k, g k * g k) * (1 / 1024) + e :=
    add_pos_of_nonneg_of_pos (mul_nonneg (Finset.sum_nonneg fun k _ => mul_self_nonneg _) (by norm_num)) he
  rw [hs, ofBits_1024, ee, Ideal.div_coe (by norm_num), ← EReal.coe_mul, ← EReal.coe_add, Ideal.rsqrt_coe, if_neg (not_lt.2 hp.le),
    if_neg hp.ne']
  exact ⟨_, rfl⟩

theorem normed_real {w shift scale x : Fin 1024 → EReal} (hw : ∀ k, IsReal (w k)) (hs : ∀ k, IsReal (shift k))
    (hc : ∀ k, IsReal (scale k)) (hx : ∀ k, IsReal (x k)) (ch : Fin 1024) : IsReal (Merge.normed w shift scale x ch) :=
  ((((hx ch).mul (scale_real x hx)).mul (hw ch)).mul (IsReal.add ⟨1, EReal.coe_one.symm⟩ (hc ch))).add (hs ch)

namespace Args

variable {X : Args} (hX : X.Finite)

include hX

theorem z_real (r : Fin 16384) (j : Fin 5632) (hj : j.val < 1024) : IsReal (X.z r j) :=
  IsReal.sum fun k => (normed_real hX.w
    (fun i => hX.mod _ _ (by show r.val / 4096 < 4; omega) (by show 1024 * 0 + i.val < 2048; omega))
    (fun i => hX.mod _ _ (by show r.val / 4096 < 4; omega) (by show 1024 * 1 + i.val < 2048; omega)) (hX.x r) k).mul (hX.win k j hj)

theorem zq_real (r : Fin 16384) (j : Fin 512) : IsReal (X.zq r j) := z_real hX r _ (by show j.val < 1024; omega)

theorem zk_real (r : Fin 16384) (j : Fin 512) : IsReal (X.zk r j) := z_real hX r _ (by show 512 + j.val < 1024; omega)

end Args

/-- The sum over all lanes of those in one head is the sum over the head. -/
theorem sum_head (f : Fin 512 → ℝ) (c : ℝ) (j : Fin 512) :
    ∑ i : Fin 512, f i * (if i.val / 64 = j.val / 64 then c else 0) =
      (∑ d : Fin 64, f ⟨64 * (j.val / 64) + d.val, by omega⟩) * c := by
  have e : ∑ i : Fin 512, f i * (if i.val / 64 = j.val / 64 then c else 0) =
      ∑ p : Fin 8 × Fin 64, f ⟨64 * p.1.val + p.2.val, by omega⟩ * (if p.1.val = j.val / 64 then c else 0) := by
    refine (Fintype.sum_equiv (finProdFinEquiv (m := 8) (n := 64)) _ _ fun p => ?_).symm
    have hv : (finProdFinEquiv p).val = p.2.val + 64 * p.1.val := rfl
    have h1 : (⟨64 * p.1.val + p.2.val, by omega⟩ : Fin 512) = finProdFinEquiv p := Fin.ext (by rw [hv]; show 64 * p.1.val + p.2.val = _; omega)
    have h2 : (finProdFinEquiv p).val / 64 = p.1.val := by rw [hv]; omega
    rw [h1, h2]
  rw [e, Fintype.sum_prod_type]
  rw [Finset.sum_eq_single (⟨j.val / 64, by omega⟩ : Fin 8)]
  · simp only [if_true, Finset.sum_mul]
  · intro b _ hb
    have : ¬ b.val = j.val / 64 := fun h => hb (Fin.ext h)
    simp [this]
  · simp

/-- The mean square by two products with the matrix of heads, of the squares and of what is left below them. -/
theorem headMean_eq {z : Fin 512 → EReal} (hz : ∀ i, IsReal (z i)) {g : Fin 512 → Fin 512 → EReal}
    (hg : ∀ i j, g i j = if i.val / 64 = j.val / 64 then Ideal.ofBits .bf16 0x3C80#16 else 0) (j : Fin 512) :
    (∑ i, z i * z i * g i j) + (∑ i, (z i * z i - z i * z i) * g i j) = headMean z j := by
  choose y hy using hz
  have hg' : ∀ i j, g i j = ((if i.val / 64 = j.val / 64 then (1 / 64 : ℝ) else 0 : ℝ) : EReal) := fun i j => by
    rw [hg, ofBits_inv64]
    split <;> simp
  have h0 : (∑ i, (z i * z i - z i * z i) * g i j) = 0 := by
    refine Finset.sum_eq_zero fun i _ => ?_
    rw [hy i, ← EReal.coe_mul, ← EReal.coe_sub, sub_self, EReal.coe_zero, zero_mul]
  have h1 : (∑ i, z i * z i * g i j) =
      ((∑ i, y i * y i * (if i.val / 64 = j.val / 64 then (1 / 64 : ℝ) else 0) : ℝ) : EReal) := by
    rw [← coe_sum]
    exact Finset.sum_congr rfl fun i _ => by rw [hy i, hg', EReal.coe_mul, EReal.coe_mul]
  have h2 : (∑ d : Fin 64, z ⟨64 * (j.val / 64) + d.val, by omega⟩ * z ⟨64 * (j.val / 64) + d.val, by omega⟩) =
      ((∑ d : Fin 64, y ⟨64 * (j.val / 64) + d.val, by omega⟩ * y ⟨64 * (j.val / 64) + d.val, by omega⟩ : ℝ) : EReal) := by
    rw [← coe_sum]
    exact Finset.sum_congr rfl fun d _ => by rw [hy, EReal.coe_mul]
  rw [h0, add_zero, h1, sum_head (fun i => y i * y i) (1 / 64) j, headMean, h2, ofBits_64, Ideal.div_coe (by norm_num), EReal.coe_mul]

end Cert.Inproj
-- ==== Proof.Inproj.Block.lean ====
/-
  What one grid point of the input projection leaves in its five output blocks, token by token.
-/
module

public import proofs.«01_k».proof.Proof.Inproj.Head
public import proofs.«01_k».proof.Proof.Gen.Kernel3Ideal.Value
public import Idealize.ShloMosaic.Lib.Pointwise
public import Idealize.ShloMosaic.Lib.Pipeline.ValueKit.Basic

@[expose] public section

set_option maxRecDepth 16384

noncomputable section

namespace Cert.Kernel3Ideal.Hand

open Idealize.ShloMosaic Idealize.ShloMosaic.Pipeline Idealize.SL.Sem Cert.Kernel3Ideal Cert.Kernel3Ideal.Gen Cert.Inproj

/-! ## The vectors of the body -/

theorem normed_apply (v0 : Vec Ideal S512x1024 .f32) (v11 : Vec Ideal S1x1024 .f32) (v15 v17 : Vec Ideal S1x1x1024 .f32)
    (r : Fin 512) (ch : Fin 1024) :
    k0_pay2 v0 v11 v15 v17 (ix2 r ch) =
      Merge.normed (fun k => v11 (ix2 0 k)) (fun k => v15 (ix3 0 0 k)) (fun k => v17 (ix3 0 0 k)) (fun k => v0 (ix2 r k)) ch := by
  unfold Merge.normed
  pointwise [k0_pay2]

theorem q_apply (v0 : Vec Ideal S512x1024 .f32) (v11 : Vec Ideal S1x1024 .f32) (v15 v17 : Vec Ideal S1x1x1024 .f32)
    (v26 : Vec Ideal S1024x512 .bf16) (r : Fin 512) (j : Fin 512) :
    k0_pay3 v0 v11 v15 v17 v26 (ix2 r j) = ∑ k : Fin 1024, k0_pay2 v0 v11 v15 v17 (ix2 r k) * v26 (ix2 k j) := by
  pointwise [k0_pay3]

theorem square_apply (v0 : Vec Ideal S512x1024 .f32) (v11 : Vec Ideal S1x1024 .f32) (v15 v17 : Vec Ideal S1x1x1024 .f32)
    (v26 : Vec Ideal S1024x512 .bf16) (r : Fin 512) (j : Fin 512) :
    k0_pay6 v0 v11 v15 v17 v26 (ix2 r j) = k0_pay3 v0 v11 v15 v17 v26 (ix2 r j) * k0_pay3 v0 v11 v15 v17 v26 (ix2 r j) := by
  pointwise [k0_pay6, k0_pay5]

theorem below_apply (v0 : Vec Ideal S512x1024 .f32) (v11 : Vec Ideal S1x1024 .f32) (v15 v17 : Vec Ideal S1x1x1024 .f32)
    (v26 : Vec Ideal S1024x512 .bf16) (r : Fin 512) (j : Fin 512) :
    k0_pay7 v0 v11 v15 v17 v26 (ix2 r j) = k0_pay3 v0 v11 v15 v17 v26 (ix2 r j) * k0_pay3 v0 v11 v15 v17 v26 (ix2 r j) -
      k0_pay3 v0 v11 v15 v17 v26 (ix2 r j) * k0_pay3 v0 v11 v15 v17 v26 (ix2 r j) := by
  pointwise [k0_pay7, k0_pay6, k0_pay5]

theorem qnorm_apply (z : FVec Ideal S512x512 .f32) (w : Vec Ideal S1x512 .f32) (hi lo : FVec Ideal S512x512 .bf16) (g g' : Vec Ideal S512x512 .bf16)
    (r : Fin 512) (j : Fin 512) :
    k0_pay9 z (k0_pay4 w) hi lo (k0_pay8 g) g' (ix2 r j) =
      z (ix2 r j) * Ideal.rsqrt ((∑ i : Fin 512, hi (ix2 r i) * g (ix2 i j)) + (∑ i : Fin 512, lo (ix2 r i) * g' (ix2 i j)) +
        Ideal.ofBits .f32 0x358637BD#32) * w (ix2 0 j) := by
  pointwise [k0_pay9, k0_pay8, k0_pay4]

/-- The keys' norm in two steps: the product, and the norm of it. -/
theorem knorm_apply (h : FVec Ideal S512x1024 .bf16) (wk : Vec Ideal S1024x512 .bf16) (w : Vec Ideal S1x512 .f32) (g g' : Vec Ideal S512x512 .bf16)
    {z : Fin 512 → EReal} (r : Fin 512) (hz : ∀ j, z j = ∑ k : Fin 1024, h (ix2 r k) * wk (ix2 k j)) (j : Fin 512) :
    k0_pay10 h wk w g g' (ix2 r j) =
      z j * Ideal.rsqrt ((∑ i : Fin 512, z i * z i * g (ix2 i j)) + (∑ i : Fin 512, (z i * z i - z i * z i) * g' (ix2 i j)) +
        Ideal.ofBits .f32 0x358637BD#32) * w (ix2 0 j) := by
  simp only [hz]
  pointwise [k0_pay10]

theorem v_apply (h : FVec Ideal S512x1024 .bf16) (w : Vec Ideal S1024x512 .bf16) (r : Fin 512) (j : Fin 512) :
    k0_pay11 h w (ix2 r j) = ∑ k : Fin 1024, h (ix2 r k) * w (ix2 k j) := by
  pointwise [k0_pay11]

theorem xr_apply (h : FVec Ideal S512x1024 .bf16) (w : Vec Ideal S1024x1024 .bf16) (r : Fin 512) (j : Fin 1024) :
    k0_pay12 h w (ix2 r j) = ∑ k : Fin 1024, h (ix2 r k) * w (ix2 k j) := by
  pointwise [k0_pay12]

theorem gy_apply (h : FVec Ideal S512x1024 .bf16) (w : Vec Ideal S1024x1024 .bf16) (r : Fin 512) (j : Fin 1024) :
    k0_pay13 h w (ix2 r j) = gelu (∑ k : Fin 1024, h (ix2 r k) * w (ix2 k j)) := by
  unfold gelu
  pointwise [k0_pay13]

theorem sga_apply (h : FVec Ideal S512x1024 .bf16) (w : Vec Ideal S1024x1024 .bf16) (r : Fin 512) (j : Fin 1024) :
    k0_pay14 h w (ix2 r j) = Ideal.logistic (∑ k : Fin 1024, h (ix2 r k) * w (ix2 k j)) := by
  pointwise [k0_pay14]

theorem sgb_apply (h : FVec Ideal S512x1024 .bf16) (w : Vec Ideal S1024x1024 .bf16) (r : Fin 512) (j : Fin 1024) :
    k0_pay1 h w (ix2 r j) = Ideal.logistic (∑ k : Fin 1024, h (ix2 r k) * w (ix2 k j)) := by
  pointwise [k0_pay1]

/-! ## The rectangles read -/

/-- A part of the modulation row. -/
theorem mod_part (x : Vec Ideal S1x1x6144 .f32) (o : ℕ) (ho : o + 1024 ≤ 6144) (inb) (k : Fin 1024) :
    View.ld x (Rect.unit (s := S1x1x6144) ![0, 0, o] S1x1x1024.size inb) (ix3 0 0 k) = x (ix3 0 0 ⟨o + k.val, by omega⟩) := by
  unfold View.ld
  refine congrArg x ?_
  funext a
  apply Fin.ext
  fin_cases a
  · rfl
  · rfl
  · exact (by omega : o + 1 * k.val = o + k.val)

/-- Columns of the weights, 512 of them. -/
theorem columns (x : Vec Ideal S1024x5632 .bf16) (o : ℕ) (ho : o + 512 ≤ 5632) (inb) (k : Fin 1024) (j : Fin 512) :
    View.ld x (Rect.unit (s := S1024x5632) ![0, o] S1024x512.size inb) (ix2 k j) = x (ix2 k ⟨o + j.val, by omega⟩) := by
  unfold View.ld
  refine congrArg x ?_
  funext a
  apply Fin.ext
  fin_cases a
  · exact (by omega : 0 + 1 * k.val = k.val)
  · exact (by omega : o + 1 * j.val = o + j.val)

/-- Columns of the weights, 1024 of them. -/
theorem wide_columns (x : Vec Ideal S1024x5632 .bf16) (o : ℕ) (ho : o + 1024 ≤ 5632) (inb) (k : Fin 1024) (j : Fin 1024) :
    View.ld x (Rect.unit (s := S1024x5632) ![0, o] S1024x1024.size inb) (ix2 k j) = x (ix2 k ⟨o + j.val, by omega⟩) := by
  unfold View.ld
  refine congrArg x ?_
  funext a
  apply Fin.ext
  fin_cases a
  · exact (by omega : 0 + 1 * k.val = k.val)
  · exact (by omega : o + 1 * j.val = o + j.val)

/-- Three stores side by side, read. -/
theorem stored_apply {p0 p1 p2 : Vec Ideal S512x512 .bf16} (G : Fin 512 → Fin 1536 → EReal)
    (h0 : ∀ r (j : Fin 512), p0 (ix2 r j) = G r ⟨1024 + j.val, by omega⟩)
    (h1 : ∀ r (j : Fin 512), p1 (ix2 r j) = G r ⟨512 + j.val, by omega⟩)
    (h2 : ∀ r (j : Fin 512), p2 (ix2 r j) = G r ⟨j.val, by omega⟩) (r : Fin 512) (j : Fin 1536) :
    View.canon (Val := Elt Ideal) [⟨r0_11, p0⟩, ⟨r0_9, p1⟩, ⟨r0_7, p2⟩] (ix2 r j) = G r j := by
  refine View.canon_apply_of_pieces (Val := Elt Ideal) (fun y : S512x1536.Idx => G (y 0) (y 1)) _ ?_ _ (cover0_7 p0 p1 p2 _)
  intro p hp
  rcases List.mem_cons.1 hp with rfl | hp
  · intro x
    obtain ⟨r, j, rfl⟩ : ∃ (r j : Fin 512), x = ix2 r j := ⟨x 0, x 1, eq_ix2 x⟩
    refine (h0 r j).trans ?_
    have e : r0_11.emb (ix2 r j) = (ix2 r ⟨1024 + j.val, by omega⟩ : S512x1536.Idx) := by
      funext a
      apply Fin.ext
      fin_cases a
      · exact (by omega : 0 + 1 * r.val = r.val)
      · exact (by omega : 1024 + 1 * j.val = 1024 + j.val)
    show _ = G (r0_11.emb (ix2 r j) 0) (r0_11.emb (ix2 r j) 1)
    rw [e]
    rfl
  rcases List.mem_cons.1 hp with rfl | hp
  · intro x
    obtain ⟨r, j, rfl⟩ : ∃ (r j : Fin 512), x = ix2 r j := ⟨x 0, x 1, eq_ix2 x⟩
    refine (h1 r j).trans ?_
    have e : r0_9.emb (ix2 r j) = (ix2 r ⟨512 + j.val, by omega⟩ : S512x1536.Idx) := by
      funext a
      apply Fin.ext
      fin_cases a
      · exact (by omega : 0 + 1 * r.val = r.val)
      · exact (by omega : 512 + 1 * j.val = 512 + j.val)
    show _ = G (r0_9.emb (ix2 r j) 0) (r0_9.emb (ix2 r j) 1)
    rw [e]
    rfl
  rcases List.mem_cons.1 hp with rfl | hp
  · intro x
    obtain ⟨r, j, rfl⟩ : ∃ (r j : Fin 512), x = ix2 r j := ⟨x 0, x 1, eq_ix2 x⟩
    refine (h2 r j).trans ?_
    have e : r0_7.emb (ix2 r j) = (ix2 r ⟨j.val, by omega⟩ : S512x1536.Idx) := by
      funext a
      apply Fin.ext
      fin_cases a
      · exact (by omega : 0 + 1 * r.val = r.val)
      · exact (by omega : 0 + 1 * j.val = j.val)
    show _ = G (r0_7.emb (ix2 r j) 0) (r0_7.emb (ix2 r j) 1)
    rw [e]
    rfl
  simp at hp

/-! ## The output blocks, of blocks that hold the tokens' rows and the parameters -/

/-- The blocks of a grid point hold the rows of the tokens `R` and the parameters. -/
structure Holds (X : Args) (R : Fin 512 → Fin 16384) (x0 : Vec Ideal S512x1024 .f32) (x1 : Vec Ideal S1x1x6144 .f32)
    (x2 : Vec Ideal S1x1024 .f32) (x3 : Vec Ideal S1024x5632 .bf16) (x4 : Vec Ideal S512x512 .bf16) (x5 x6 : Vec Ideal S1x512 .f32) :
    Prop where
  x : ∀ r k, x0 (ix2 r k) = X.x (R r) k
  mod : ∀ r j, x1 (ix3 0 0 j) = X.mod ⟨(R r).val / 4096, by omega⟩ j
  w : ∀ k, x2 (ix2 0 k) = X.w k
  win : ∀ k j, x3 (ix2 k j) = X.win k j
  g : ∀ i j, x4 (ix2 i j) = if i.val / 64 = j.val / 64 then Ideal.ofBits .bf16 0x3C80#16 else 0
  qw : ∀ j, x5 (ix2 0 j) = X.qw ⟨j.val % 64, by omega⟩ * Ideal.ofBits .f32 0x3E000000#32
  kw : ∀ j, x6 (ix2 0 j) = X.kw ⟨j.val % 64, by omega⟩

variable {X : Args} {R : Fin 512 → Fin 16384} {x0 : Vec Ideal S512x1024 .f32} {x1 : Vec Ideal S1x1x6144 .f32}
  {x2 : Vec Ideal S1x1024 .f32} {x3 : Vec Ideal S1024x5632 .bf16} {x4 : Vec Ideal S512x512 .bf16} {x5 x6 : Vec Ideal S1x512 .f32}
  (H : Holds X R x0 x1 x2 x3 x4 x5 x6)

include H

theorem h_of (r : Fin 512) (ch : Fin 1024) :
    k0_pay2 (View.ld x0 r0_0) (View.ld x2 r0_1) (View.ld x1 r0_2) (View.ld x1 r0_3) (ix2 r ch) = X.h (R r) ch := by
  rw [normed_apply]
  unfold Args.h Args.modOf
  rw [show (fun k => View.ld x1 r0_2 (ix3 0 0 k)) = fun k : Fin 1024 => X.mod ⟨(R r).val / 4096, by omega⟩ ⟨1024 * 0 + k.val, by omega⟩ from
      funext fun k => (mod_part x1 0 (by decide) _ k).trans ((H.mod r _).trans (congrArg (X.mod _) (Fin.ext (by show 0 + k.val = 1024 * 0 + k.val; omega)))),
    show (fun k => View.ld x1 r0_3 (ix3 0 0 k)) = fun k : Fin 1024 => X.mod ⟨(R r).val / 4096, by omega⟩ ⟨1024 * 1 + k.val, by omega⟩ from
      funext fun k => (mod_part x1 1024 (by decide) _ k).trans ((H.mod r _).trans (congrArg (X.mod _) (Fin.ext (by show 1024 + k.val = 1024 * 1 + k.val; omega)))),
    show View.ld x0 r0_0 = x0 from View.ld_unit_lit _ _ (by decide), show View.ld x2 r0_1 = x2 from View.ld_unit_lit _ _ (by decide)]
  simp only [H.x, H.w]
  rfl

theorem h15_of (r : Fin 512) (ch : Fin 1024) : k0_pay15 x0 x1 x2 x3 x4 x5 x6 (ix2 r ch) = X.h (R r) ch := h_of H r ch

/-- A product with columns of the weights. -/
theorem z_of (o : ℕ) (ho : o + 512 ≤ 5632) (inb) (r : Fin 512) (j : Fin 512) :
    (∑ k : Fin 1024, k0_pay15 x0 x1 x2 x3 x4 x5 x6 (ix2 r k) *
      View.ld x3 (Rect.unit (s := S1024x5632) ![0, o] S1024x512.size inb) (ix2 k j)) = X.z (R r) ⟨o + j.val, by omega⟩ := by
  unfold Args.z
  exact Finset.sum_congr rfl fun k _ => by rw [h15_of H, columns x3 o ho, H.win]

theorem wide_z_of (o : ℕ) (ho : o + 1024 ≤ 5632) (inb) (r : Fin 512) (j : Fin 1024) :
    (∑ k : Fin 1024, k0_pay15 x0 x1 x2 x3 x4 x5 x6 (ix2 r k) *
      View.ld x3 (Rect.unit (s := S1024x5632) ![0, o] S1024x1024.size inb) (ix2 k j)) = X.z (R r) ⟨o + j.val, by omega⟩ := by
  unfold Args.z
  exact Finset.sum_congr rfl fun k _ => by rw [h15_of H, wide_columns x3 o ho, H.win]

theorem zq_of (r : Fin 512) (j : Fin 512) :
    k0_pay3 (View.ld x0 r0_0) (View.ld x2 r0_1) (View.ld x1 r0_2) (View.ld x1 r0_3) (View.ld x3 r0_4) (ix2 r j) = X.zq (R r) j := by
  rw [q_apply]
  refine (z_of H 0 (by decide) _ r j).trans (congrArg (X.z (R r)) (Fin.ext ?_))
  show 0 + j.val = j.val
  omega

theorem v_of (r : Fin 512) (j : Fin 512) : k0_pay11 (k0_pay15 x0 x1 x2 x3 x4 x5 x6) (View.ld x3 r0_10) (ix2 r j) = X.v (R r) j := by
  rw [v_apply]
  exact z_of H 1024 (by decide) _ r j

theorem k_of (hX : X.Finite) (r : Fin 512) (j : Fin 512) :
    k0_pay10 (k0_pay15 x0 x1 x2 x3 x4 x5 x6) (View.ld x3 r0_8) (View.ld x6 r0_5) (View.ld x4 r0_6) (View.ld x4 r0_6) (ix2 r j) =
      X.k (R r) j := by
  rw [knorm_apply _ _ _ _ _ (z := X.zk (R r)) r (fun j => (z_of H 512 (by decide) _ r j).symm) j,
    show View.ld x6 r0_5 = x6 from View.ld_unit_lit _ _ (by decide), show View.ld x4 r0_6 = x4 from View.ld_unit_lit _ _ (by decide),
    headMean_eq (Args.zk_real hX (R r)) H.g, H.kw]
  rfl

theorem q_of (hX : X.Finite) (r : Fin 512) (j : Fin 512) :
    k0_pay9 (k0_pay3 (View.ld x0 r0_0) (View.ld x2 r0_1) (View.ld x1 r0_2) (View.ld x1 r0_3) (View.ld x3 r0_4)) (k0_pay4 (View.ld x5 r0_5))
      (k0_pay6 (View.ld x0 r0_0) (View.ld x2 r0_1) (View.ld x1 r0_2) (View.ld x1 r0_3) (View.ld x3 r0_4))
      (k0_pay7 (View.ld x0 r0_0) (View.ld x2 r0_1) (View.ld x1 r0_2) (View.ld x1 r0_3) (View.ld x3 r0_4)) (k0_pay8 (View.ld x4 r0_6))
      (View.ld x4 r0_6) (ix2 r j) = X.q (R r) j := by
  rw [qnorm_apply]
  simp only [square_apply, below_apply, zq_of H]
  rw [show View.ld x5 r0_5 = x5 from View.ld_unit_lit _ _ (by decide), show View.ld x4 r0_6 = x4 from View.ld_unit_lit _ _ (by decide),
    headMean_eq (Args.zq_real hX (R r)) H.g, H.qw, ← mul_assoc]
  rfl

theorem qkv_of (hX : X.Finite) (r : Fin 512) (j : Fin 1536) : out0_7 x0 x1 x2 x3 x4 x5 x6 (ix2 r j) = X.qkv (R r) j := by
  unfold out0_7
  refine stored_apply (fun r j => X.qkv (R r) j) (fun r j => (v_of H r j).trans ?_) (fun r j => (k_of H hX r j).trans ?_)
    (fun r j => (q_of H hX r j).trans ?_) r j
  · unfold Args.qkv
    rw [dif_neg (by show ¬ 1024 + j.val < 512; omega), dif_neg (by show ¬ 1024 + j.val < 1024; omega)]
    exact congrArg (X.v (R r)) (Fin.ext (by show j.val = 1024 + j.val - 1024; omega))
  · unfold Args.qkv
    rw [dif_neg (by show ¬ 512 + j.val < 512; omega), dif_pos (by show 512 + j.val < 1024; omega)]
    exact congrArg (X.k (R r)) (Fin.ext (by show j.val = 512 + j.val - 512; omega))
  · unfold Args.qkv
    rw [dif_pos j.isLt]

theorem xr_of (r : Fin 512) (j : Fin 1024) : out0_8 x0 x1 x2 x3 x4 x5 x6 (ix2 r j) = X.xr (R r) j := by
  unfold out0_8
  rw [View.canon_cons_unit_lit _ _ _ (by decide)]
  exact (xr_apply _ _ r j).trans (wide_z_of H 1536 (by decide) _ r j)

theorem gy_of (r : Fin 512) (j : Fin 1024) : out0_9 x0 x1 x2 x3 x4 x5 x6 (ix2 r j) = X.gy (R r) j := by
  unfold out0_9
  rw [View.canon_cons_unit_lit _ _ _ (by decide)]
  exact (gy_apply _ _ r j).trans (congrArg gelu (wide_z_of H 2560 (by decide) _ r j))

theorem sga_of (r : Fin 512) (j : Fin 1024) : out0_10 x0 x1 x2 x3 x4 x5 x6 (ix2 r j) = X.sga (R r) j := by
  unfold out0_10
  rw [View.canon_cons_unit_lit _ _ _ (by decide)]
  exact (sga_apply _ _ r j).trans (congrArg Ideal.logistic (wide_z_of H 3584 (by decide) _ r j))

theorem sgb_of (r : Fin 512) (j : Fin 1024) : out0_11 x0 x1 x2 x3 x4 x5 x6 (ix2 r j) = X.sgb (R r) j := by
  unfold out0_11
  rw [View.canon_cons_unit_lit _ _ _ (by decide)]
  exact (sgb_apply _ _ r j).trans (congrArg Ideal.logistic (wide_z_of H 4608 (by decide) _ r j))

end Cert.Kernel3Ideal.Hand
-- ==== Proof.Inproj.Points.lean ====
/-
  The grid of the input projection: which block every point reads, and the five arrays the call leaves, which are
  `Args.qkv`, `Args.xr`, `Args.gy`, `Args.sga` and `Args.sgb` of the arguments.
-/
module

public import proofs.«01_k».proof.Proof.Inproj.Block
public import Idealize.ShloMosaic.Lib.StableHlo.ReadAt
public import Idealize.ShloMosaic.Lib.Tactic

@[expose] public section

set_option maxRecDepth 16384

noncomputable section

namespace Cert.Kernel3Ideal.Hand

open Idealize.ShloMosaic Idealize.ShloMosaic.TcCoe Idealize.SL.Sem Cert.Kernel3Ideal Cert.Kernel3Ideal.Gen Cert.Inproj

variable (m : (ℓ : Loc nD τ sig) → Buf (Elt Ideal) ℓ)

/-- The arguments a core finds. -/
def args (c : Dev nD) : Args where
  x r k := m ((c : Thread nD τ).loc main_arg0) (ix2 r k)
  mod b j := m ((c : Thread nD τ).loc main_arg1) (ix2 b j)
  w ch := m ((c : Thread nD τ).loc main_arg2) (ix1 ch)
  win k j := m ((c : Thread nD τ).loc main_arg3) (ix2 k j)
  qw d := m ((c : Thread nD τ).loc main_arg4) (ix1 d)
  kw d := m ((c : Thread nD τ).loc main_arg5) (ix1 d)

/-! ## The prepared parameters -/

theorem V_mod (c : Dev nD) (b : Fin 8) (j : Fin 6144) :
    (V m c main_v10 : S8x1x6144.Idx → EReal) (ix3 b 0 j) = (args m c).mod b j := by
  unfold V args
  after_reads_at

theorem V_w (c : Dev nD) (ch : Fin 1024) : (V m c main_v11 : S1x1024.Idx → EReal) (ix2 0 ch) = (args m c).w ch := by
  unfold V args
  after_reads_at

theorem V_win (c : Dev nD) (k : Fin 1024) (j : Fin 5632) :
    (V m c main_v12 : S1024x5632.Idx → EReal) (ix2 k j) = (args m c).win k j := by
  unfold V args
  after_reads_at

theorem V_qw (c : Dev nD) (j : Fin 512) : (V m c main_v5 : S1x512.Idx → EReal) (ix2 0 j) =
    (args m c).qw ⟨j.val % 64, by omega⟩ * Ideal.ofBits .f32 0x3E000000#32 := by
  unfold V args
  after_reads_at

theorem V_kw (c : Dev nD) (j : Fin 512) : (V m c main_v9 : S1x512.Idx → EReal) (ix2 0 j) =
    (args m c).kw ⟨j.val % 64, by omega⟩ := by
  unfold V args
  after_reads_at

/-- The head of a lane, as the program divides: rounded down, whatever the signs. -/
def headOf (i : Fin 512) : BitVec 32 :=
  Scalar.select
    (IntOp.andi
      (IntOp.cmpi CmpIPredicate.ne
        (if BitVec.ofNat 32 i.val = 0 then 0 else if (BitVec.ofNat 32 i.val).msb = true then -1 else 1)
        (if (64#32 : BitVec 32) = 0 then 0 else if BitVec.msb (64#32 : BitVec 32) = true then -1 else (1 : BitVec 32)))
      (IntOp.cmpi CmpIPredicate.ne (IntOp.remsi ArithUnit.host (BitVec.ofNat 32 i.val) 64#32) 0#32))
    (IntOp.subi (IntOp.divsi ArithUnit.host (BitVec.ofNat 32 i.val) 64#32) 1#32)
    (IntOp.divsi ArithUnit.host (BitVec.ofNat 32 i.val) 64#32)

theorem headOf_eq : ∀ i : Fin 512, headOf i = BitVec.ofNat 32 (i.val / 64) := by decide +kernel

/-- Two lanes are of one head or not. -/
theorem same_head (i j : Fin 512) : IntOp.cmpi CmpIPredicate.eq (headOf i) (headOf j) = if i.val / 64 = j.val / 64 then 1#1 else 0#1 := by
  rw [headOf_eq, headOf_eq]
  by_cases h : i.val / 64 = j.val / 64
  · rw [if_pos h, h]
    simp [IntOp.cmpi]
  · rw [if_neg h]
    have hne : BitVec.ofNat 32 (i.val / 64) ≠ BitVec.ofNat 32 (j.val / 64) := fun e => h (by
      have e' := congrArg BitVec.toNat e
      simp only [BitVec.toNat_ofNat] at e'
      omega)
    show BitVec.ofBool (BitVec.ofNat 32 (i.val / 64) == BitVec.ofNat 32 (j.val / 64)) = 0#1
    rw [beq_eq_false_iff_ne.mpr hne]
    rfl

theorem over_64 : Ideal.div (FloatOps.uitofp (F := Ideal) FTy.f32 1#1 : EReal) (Ideal.ofBits FTy.f32 0x42800000#32) = Ideal.ofBits .bf16 0x3C80#16 := by
  rw [ofBits_64, ofBits_inv64, Ideal.div_coe (by norm_num)]
  show ((((1#1 : BitVec 1).toNat : ℝ)) : EReal) * _ = _
  simp

theorem zero_over_64 : Ideal.div (FloatOps.uitofp (F := Ideal) FTy.f32 0#1 : EReal) (Ideal.ofBits FTy.f32 0x42800000#32) = 0 := by
  rw [ofBits_64, Ideal.div_coe (by norm_num)]
  show ((((0#1 : BitVec 1).toNat : ℝ)) : EReal) * _ = _
  simp

theorem V_g (c : Dev nD) (i j : Fin 512) : (V m c main_v23 : S512x512.Idx → EReal) (ix2 i j) =
    if i.val / 64 = j.val / 64 then Ideal.ofBits .bf16 0x3C80#16 else 0 := by
  unfold V
  after_reads_at
  refine (show _ = Ideal.div (FloatOps.uitofp (F := Ideal) FTy.f32 (IntOp.cmpi CmpIPredicate.eq (headOf i) (headOf j)) : EReal)
    (Ideal.ofBits FTy.f32 0x42800000#32) from rfl).trans ?_
  rw [same_head]
  split
  · exact over_64
  · exact zero_over_64

/-! ## The blocks -/

theorem index_x : ∀ t : Fin grid0.N, win0_0.index t 0 = t.val ∧ win0_0.index t 1 = 0 := by decide +kernel
theorem index_mod : ∀ t : Fin grid0.N, win0_1.index t 0 = t.val / 8 ∧ win0_1.index t 1 = 0 ∧ win0_1.index t 2 = 0 := by decide +kernel
theorem index_w : ∀ t : Fin grid0.N, win0_2.index t 0 = 0 ∧ win0_2.index t 1 = 0 := by decide +kernel
theorem index_win : ∀ t : Fin grid0.N, win0_3.index t 0 = 0 ∧ win0_3.index t 1 = 0 := by decide +kernel
theorem index_g : ∀ t : Fin grid0.N, win0_4.index t 0 = 0 ∧ win0_4.index t 1 = 0 := by decide +kernel
theorem index_qw : ∀ t : Fin grid0.N, win0_5.index t 0 = 0 ∧ win0_5.index t 1 = 0 := by decide +kernel
theorem index_kw : ∀ t : Fin grid0.N, win0_6.index t 0 = 0 ∧ win0_6.index t 1 = 0 := by decide +kernel
theorem index_qkv : ∀ t : Fin grid0.N, win0_7.index t 0 = t.val ∧ win0_7.index t 1 = 0 := by decide +kernel
theorem index_xr : ∀ t : Fin grid0.N, win0_8.index t 0 = t.val ∧ win0_8.index t 1 = 0 := by decide +kernel
theorem index_gy : ∀ t : Fin grid0.N, win0_9.index t 0 = t.val ∧ win0_9.index t 1 = 0 := by decide +kernel
theorem index_sga : ∀ t : Fin grid0.N, win0_10.index t 0 = t.val ∧ win0_10.index t 1 = 0 := by decide +kernel
theorem index_sgb : ∀ t : Fin grid0.N, win0_11.index t 0 = t.val ∧ win0_11.index t 1 = 0 := by decide +kernel
theorem flush_qkv : ∀ t : Fin grid0.N, win0_7.flush t = true := by decide +kernel
theorem flush_xr : ∀ t : Fin grid0.N, win0_8.flush t = true := by decide +kernel
theorem flush_gy : ∀ t : Fin grid0.N, win0_9.flush t = true := by decide +kernel
theorem flush_sga : ∀ t : Fin grid0.N, win0_10.flush t = true := by decide +kernel
theorem flush_sgb : ∀ t : Fin grid0.N, win0_11.flush t = true := by decide +kernel

variable (c : Dev nD) (t : Fin cfg0.N)

theorem lt_32 : t.val < 32 := lt_of_lt_of_eq t.isLt N_0

/-- The token of row `r` of a point's block. -/
def token (r : Fin 512) : Fin 16384 := ⟨512 * t.val + r.val, by have := lt_32 t; omega⟩

theorem blk_x (r : Fin 512) (k : Fin 1024) :
    (iblk m c 0 t : S512x1024.Idx → EReal) (ix2 r k) = (args m c).x (token t r) k := by
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * r.val = 512 * t.val + r.val; rw [(index_x t).1]; omega
  | ⟨1, _⟩ => show win0_0.index t 1 * 1024 + 1 * k.val = k.val; rw [(index_x t).2]; omega

/-- A point's modulation row is its tokens' batch's. -/
theorem blk_mod (r : Fin 512) (j : Fin 6144) : (iblk m c 1 t : S1x1x6144.Idx → EReal) (ix3 0 0 j) =
    (args m c).mod ⟨(token t r).val / 4096, by have := (token t r).isLt; omega⟩ j := by
  refine Eq.trans ?_ (V_mod m c _ j)
  unfold iblk
  rw [View.read_apply]
  show V m c main_v10 _ = V m c main_v10 _
  congr 1
  funext a
  apply Fin.ext
  match a with
  | ⟨0, _⟩ => show win0_1.index t 0 * 1 + 1 * 0 = (512 * t.val + r.val) / 4096; rw [(index_mod t).1]; omega
  | ⟨1, _⟩ => show win0_1.index t 1 * 1 + 1 * 0 = 0; rw [(index_mod t).2.1]
  | ⟨2, _⟩ => show win0_1.index t 2 * 6144 + 1 * j.val = j.val; rw [(index_mod t).2.2]; omega

theorem blk_w (j : Fin 1024) : (iblk m c 2 t : S1x1024.Idx → EReal) (ix2 0 j) = (args m c).w j := by
  refine Eq.trans ?_ (V_w m c j)
  unfold iblk
  rw [View.read_apply]
  show V m c main_v11 _ = V m c main_v11 _
  congr 1
  funext a
  apply Fin.ext
  match a with
  | ⟨0, _⟩ => show win0_2.index t 0 * 1 + 1 * 0 = 0; rw [(index_w t).1]
  | ⟨1, _⟩ => show win0_2.index t 1 * 1024 + 1 * j.val = j.val; rw [(index_w t).2]; omega

theorem blk_win (k : Fin 1024) (j : Fin 5632) : (iblk m c 3 t : S1024x5632.Idx → EReal) (ix2 k j) = (args m c).win k j := by
  refine Eq.trans ?_ (V_win m c k j)
  unfold iblk
  rw [View.read_apply]
  show V m c main_v12 _ = V m c main_v12 _
  congr 1
  funext a
  apply Fin.ext
  match a with
  | ⟨0, _⟩ => show win0_3.index t 0 * 1024 + 1 * k.val = k.val; rw [(index_win t).1]; omega
  | ⟨1, _⟩ => show win0_3.index t 1 * 5632 + 1 * j.val = j.val; rw [(index_win t).2]; omega

theorem blk_g (k : Fin 512) (j : Fin 512) : (iblk m c 4 t : S512x512.Idx → EReal) (ix2 k j) = if k.val / 64 = j.val / 64 then Ideal.ofBits .bf16 0x3C80#16 else 0 := by
  refine Eq.trans ?_ (V_g m c k j)
  unfold iblk
  rw [View.read_apply]
  show V m c main_v23 _ = V m c main_v23 _
  congr 1
  funext a
  apply Fin.ext
  match a with
  | ⟨0, _⟩ => show win0_4.index t 0 * 512 + 1 * k.val = k.val; rw [(index_g t).1]; omega
  | ⟨1, _⟩ => show win0_4.index t 1 * 512 + 1 * j.val = j.val; rw [(index_g t).2]; omega

theorem blk_qw (j : Fin 512) : (iblk m c 5 t : S1x512.Idx → EReal) (ix2 0 j) = (args m c).qw ⟨j.val % 64, by omega⟩ * Ideal.ofBits .f32 0x3E000000#32 := by
  refine Eq.trans ?_ (V_qw m c j)
  unfold iblk
  rw [View.read_apply]
  show V m c main_v5 _ = V m c main_v5 _
  congr 1
  funext a
  apply Fin.ext
  match a with
  | ⟨0, _⟩ => show win0_5.index t 0 * 1 + 1 * 0 = 0; rw [(index_qw t).1]
  | ⟨1, _⟩ => show win0_5.index t 1 * 512 + 1 * j.val = j.val; rw [(index_qw t).2]; omega

theorem blk_kw (j : Fin 512) : (iblk m c 6 t : S1x512.Idx → EReal) (ix2 0 j) = (args m c).kw ⟨j.val % 64, by omega⟩ := by
  refine Eq.trans ?_ (V_kw m c j)
  unfold iblk
  rw [View.read_apply]
  show V m c main_v9 _ = V m c main_v9 _
  congr 1
  funext a
  apply Fin.ext
  match a with
  | ⟨0, _⟩ => show win0_6.index t 0 * 1 + 1 * 0 = 0; rw [(index_kw t).1]
  | ⟨1, _⟩ => show win0_6.index t 1 * 512 + 1 * j.val = j.val; rw [(index_kw t).2]; omega

/-- What a point's blocks hold. -/
theorem holds : Holds (args m c) (token t) (iblk m c 0 t) (iblk m c 1 t) (iblk m c 2 t) (iblk m c 3 t) (iblk m c 4 t) (iblk m c 5 t) (iblk m c 6 t) where
  x := blk_x m c t
  mod := blk_mod m c t
  w := blk_w m c t
  win := blk_win m c t
  g := blk_g m c t
  qw := blk_qw m c t
  kw := blk_kw m c t

/-! ## The arrays -/

/-- The array of the queries, keys and values. -/
def qkvArr : Buf (Elt Ideal) ((c : Thread nD τ).loc main_v24_0) := fun y : S16384x1536.Idx => (args m c).qkv (y 0) (y 1)

theorem flushed_qkv (hX : (args m c).Finite) (_hf : (cfg0.win 7).flush t = true) :
    (dats m 0 c).flushed 7 t = ((cfg0.win 7).blk t).view.read (Elt Ideal) (qkvArr m c) := by
  rw [Cert.Kernel3Ideal.Value.flushed7]
  funext y
  obtain ⟨r, j, rfl⟩ : ∃ (r : Fin 512) (j : Fin 1536), y = (ix2 r j : S512x1536.Idx) := ⟨y 0, y 1, eq_ix2 y⟩
  rw [View.read_apply]
  refine (qkv_of (holds m c t) hX r j).trans ?_
  unfold qkvArr
  congr 1
  · apply Fin.ext
    show 512 * t.val + r.val = win0_7.index t 0 * 512 + 1 * r.val
    rw [(index_qkv t).1]
    omega
  · apply Fin.ext
    show j.val = win0_7.index t 1 * 1536 + 1 * j.val
    rw [(index_qkv t).2]
    omega

theorem final7 (hX : (args m c).Finite) : (dats m 0 c).arrAt 7 cfg0.N = qkvArr m c :=
  (dats m 0 c).arrAt_eq_of_cover 7 (qkvArr m c) (fun t => flushed_qkv m c t hX) fun i => by
    have h0 : (i 0 : ℕ) < 16384 := (i 0).isLt
    have h1 : (i 1 : ℕ) < 1536 := (i 1).isLt
    let t : Fin cfg0.N := ⟨(i 0 : ℕ) / 512, by rw [show cfg0.N = 32 from N_0]; omega⟩
    have ht : t.val = (i 0 : ℕ) / 512 := rfl
    refine ⟨t, flush_qkv t, ?_⟩
    show i ∈ ((View.whole main_v24_0).slice (win0_7.rect t)).set
    rw [View.set_slice_whole, Rect.mem_set_unit]
    intro a
    match a with
    | ⟨0, _⟩ =>
      show win0_7.index t 0 * 512 ≤ (i 0 : ℕ) ∧ (i 0 : ℕ) < win0_7.index t 0 * 512 + 512
      rw [(index_qkv t).1]
      omega
    | ⟨1, _⟩ =>
      show win0_7.index t 1 * 1536 ≤ (i 1 : ℕ) ∧ (i 1 : ℕ) < win0_7.index t 1 * 1536 + 1536
      rw [(index_qkv t).2]
      omega

/-- The array of the recurrence's input. -/
def xrArr : Buf (Elt Ideal) ((c : Thread nD τ).loc main_v24_1) := fun y : S16384x1024.Idx => (args m c).xr (y 0) (y 1)

theorem flushed_xr (_hf : (cfg0.win 8).flush t = true) :
    (dats m 0 c).flushed 8 t = ((cfg0.win 8).blk t).view.read (Elt Ideal) (xrArr m c) := by
  rw [Cert.Kernel3Ideal.Value.flushed8]
  funext y
  obtain ⟨r, j, rfl⟩ : ∃ (r : Fin 512) (j : Fin 1024), y = (ix2 r j : S512x1024.Idx) := ⟨y 0, y 1, eq_ix2 y⟩
  rw [View.read_apply]
  refine (xr_of (holds m c t) r j).trans ?_
  unfold xrArr
  congr 1
  · apply Fin.ext
    show 512 * t.val + r.val = win0_8.index t 0 * 512 + 1 * r.val
    rw [(index_xr t).1]
    omega
  · apply Fin.ext
    show j.val = win0_8.index t 1 * 1024 + 1 * j.val
    rw [(index_xr t).2]
    omega

theorem final8 : (dats m 0 c).arrAt 8 cfg0.N = xrArr m c :=
  (dats m 0 c).arrAt_eq_of_cover 8 (xrArr m c) (fun t => flushed_xr m c t) fun i => by
    have h0 : (i 0 : ℕ) < 16384 := (i 0).isLt
    have h1 : (i 1 : ℕ) < 1024 := (i 1).isLt
    let t : Fin cfg0.N := ⟨(i 0 : ℕ) / 512, by rw [show cfg0.N = 32 from N_0]; omega⟩
    have ht : t.val = (i 0 : ℕ) / 512 := rfl
    refine ⟨t, flush_xr t, ?_⟩
    show i ∈ ((View.whole main_v24_1).slice (win0_8.rect t)).set
    rw [View.set_slice_whole, Rect.mem_set_unit]
    intro a
    match a with
    | ⟨0, _⟩ =>
      show win0_8.index t 0 * 512 ≤ (i 0 : ℕ) ∧ (i 0 : ℕ) < win0_8.index t 0 * 512 + 512
      rw [(index_xr t).1]
      omega
    | ⟨1, _⟩ =>
      show win0_8.index t 1 * 1024 ≤ (i 1 : ℕ) ∧ (i 1 : ℕ) < win0_8.index t 1 * 1024 + 1024
      rw [(index_xr t).2]
      omega

/-- The array of the recurrence's output gate. -/
def gyArr : Buf (Elt Ideal) ((c : Thread nD τ).loc main_v24_2) := fun y : S16384x1024.Idx => (args m c).gy (y 0) (y 1)

theorem flushed_gy (_hf : (cfg0.win 9).flush t = true) :
    (dats m 0 c).flushed 9 t = ((cfg0.win 9).blk t).view.read (Elt Ideal) (gyArr m c) := by
  rw [Cert.Kernel3Ideal.Value.flushed9]
  funext y
  obtain ⟨r, j, rfl⟩ : ∃ (r : Fin 512) (j : Fin 1024), y = (ix2 r j : S512x1024.Idx) := ⟨y 0, y 1, eq_ix2 y⟩
  rw [View.read_apply]
  refine (gy_of (holds m c t) r j).trans ?_
  unfold gyArr
  congr 1
  · apply Fin.ext
    show 512 * t.val + r.val = win0_9.index t 0 * 512 + 1 * r.val
    rw [(index_gy t).1]
    omega
  · apply Fin.ext
    show j.val = win0_9.index t 1 * 1024 + 1 * j.val
    rw [(index_gy t).2]
    omega

theorem final9 : (dats m 0 c).arrAt 9 cfg0.N = gyArr m c :=
  (dats m 0 c).arrAt_eq_of_cover 9 (gyArr m c) (fun t => flushed_gy m c t) fun i => by
    have h0 : (i 0 : ℕ) < 16384 := (i 0).isLt
    have h1 : (i 1 : ℕ) < 1024 := (i 1).isLt
    let t : Fin cfg0.N := ⟨(i 0 : ℕ) / 512, by rw [show cfg0.N = 32 from N_0]; omega⟩
    have ht : t.val = (i 0 : ℕ) / 512 := rfl
    refine ⟨t, flush_gy t, ?_⟩
    show i ∈ ((View.whole main_v24_2).slice (win0_9.rect t)).set
    rw [View.set_slice_whole, Rect.mem_set_unit]
    intro a
    match a with
    | ⟨0, _⟩ =>
      show win0_9.index t 0 * 512 ≤ (i 0 : ℕ) ∧ (i 0 : ℕ) < win0_9.index t 0 * 512 + 512
      rw [(index_gy t).1]
      omega
    | ⟨1, _⟩ =>
      show win0_9.index t 1 * 1024 ≤ (i 1 : ℕ) ∧ (i 1 : ℕ) < win0_9.index t 1 * 1024 + 1024
      rw [(index_gy t).2]
      omega

/-- The array of the attention branch's gate. -/
def sgaArr : Buf (Elt Ideal) ((c : Thread nD τ).loc main_v24_3) := fun y : S16384x1024.Idx => (args m c).sga (y 0) (y 1)

theorem flushed_sga (_hf : (cfg0.win 10).flush t = true) :
    (dats m 0 c).flushed 10 t = ((cfg0.win 10).blk t).view.read (Elt Ideal) (sgaArr m c) := by
  rw [Cert.Kernel3Ideal.Value.flushed10]
  funext y
  obtain ⟨r, j, rfl⟩ : ∃ (r : Fin 512) (j : Fin 1024), y = (ix2 r j : S512x1024.Idx) := ⟨y 0, y 1, eq_ix2 y⟩
  rw [View.read_apply]
  refine (sga_of (holds m c t) r j).trans ?_
  unfold sgaArr
  congr 1
  · apply Fin.ext
    show 512 * t.val + r.val = win0_10.index t 0 * 512 + 1 * r.val
    rw [(index_sga t).1]
    omega
  · apply Fin.ext
    show j.val = win0_10.index t 1 * 1024 + 1 * j.val
    rw [(index_sga t).2]
    omega

theorem final10 : (dats m 0 c).arrAt 10 cfg0.N = sgaArr m c :=
  (dats m 0 c).arrAt_eq_of_cover 10 (sgaArr m c) (fun t => flushed_sga m c t) fun i => by
    have h0 : (i 0 : ℕ) < 16384 := (i 0).isLt
    have h1 : (i 1 : ℕ) < 1024 := (i 1).isLt
    let t : Fin cfg0.N := ⟨(i 0 : ℕ) / 512, by rw [show cfg0.N = 32 from N_0]; omega⟩
    have ht : t.val = (i 0 : ℕ) / 512 := rfl
    refine ⟨t, flush_sga t, ?_⟩
    show i ∈ ((View.whole main_v24_3).slice (win0_10.rect t)).set
    rw [View.set_slice_whole, Rect.mem_set_unit]
    intro a
    match a with
    | ⟨0, _⟩ =>
      show win0_10.index t 0 * 512 ≤ (i 0 : ℕ) ∧ (i 0 : ℕ) < win0_10.index t 0 * 512 + 512
      rw [(index_sga t).1]
      omega
    | ⟨1, _⟩ =>
      show win0_10.index t 1 * 1024 ≤ (i 1 : ℕ) ∧ (i 1 : ℕ) < win0_10.index t 1 * 1024 + 1024
      rw [(index_sga t).2]
      omega

/-- The array of the recurrence branch's gate. -/
def sgbArr : Buf (Elt Ideal) ((c : Thread nD τ).loc main_v24_4) := fun y : S16384x1024.Idx => (args m c).sgb (y 0) (y 1)

theorem flushed_sgb (_hf : (cfg0.win 11).flush t = true) :
    (dats m 0 c).flushed 11 t = ((cfg0.win 11).blk t).view.read (Elt Ideal) (sgbArr m c) := by
  rw [Cert.Kernel3Ideal.Value.flushed11]
  funext y
  obtain ⟨r, j, rfl⟩ : ∃ (r : Fin 512) (j : Fin 1024), y = (ix2 r j : S512x1024.Idx) := ⟨y 0, y 1, eq_ix2 y⟩
  rw [View.read_apply]
  refine (sgb_of (holds m c t) r j).trans ?_
  unfold sgbArr
  congr 1
  · apply Fin.ext
    show 512 * t.val + r.val = win0_11.index t 0 * 512 + 1 * r.val
    rw [(index_sgb t).1]
    omega
  · apply Fin.ext
    show j.val = win0_11.index t 1 * 1024 + 1 * j.val
    rw [(index_sgb t).2]
    omega

theorem final11 : (dats m 0 c).arrAt 11 cfg0.N = sgbArr m c :=
  (dats m 0 c).arrAt_eq_of_cover 11 (sgbArr m c) (fun t => flushed_sgb m c t) fun i => by
    have h0 : (i 0 : ℕ) < 16384 := (i 0).isLt
    have h1 : (i 1 : ℕ) < 1024 := (i 1).isLt
    let t : Fin cfg0.N := ⟨(i 0 : ℕ) / 512, by rw [show cfg0.N = 32 from N_0]; omega⟩
    have ht : t.val = (i 0 : ℕ) / 512 := rfl
    refine ⟨t, flush_sgb t, ?_⟩
    show i ∈ ((View.whole main_v24_4).slice (win0_11.rect t)).set
    rw [View.set_slice_whole, Rect.mem_set_unit]
    intro a
    match a with
    | ⟨0, _⟩ =>
      show win0_11.index t 0 * 512 ≤ (i 0 : ℕ) ∧ (i 0 : ℕ) < win0_11.index t 0 * 512 + 512
      rw [(index_sgb t).1]
      omega
    | ⟨1, _⟩ =>
      show win0_11.index t 1 * 1024 ≤ (i 1 : ℕ) ∧ (i 1 : ℕ) < win0_11.index t 1 * 1024 + 1024
      rw [(index_sgb t).2]
      omega

end Cert.Kernel3Ideal.Hand
-- ==== Proof.Inproj.Reference.lean ====
/-
  The reference of the input projection: its five results, which are `Args.qkv`, `Args.xr`, `Args.gy`, `Args.sga` and
  `Args.sgb` of the arguments.
-/
module

public import proofs.«01_k».proof.Proof.Inproj.Spec
public import proofs.«01_k».proof.Proof.Gen.Reference3Ideal.Run
public import Idealize.ShloMosaic.Lib.Pointwise
public import Idealize.ShloMosaic.Lib.Tactic

@[expose] public section

set_option maxRecDepth 16384

noncomputable section

namespace Cert.Reference3Ideal.Hand

open Idealize.ShloMosaic Idealize.ShloMosaic.TcCoe Idealize.SL.Sem Cert.Reference3Ideal Cert.Reference3Ideal.Gen Cert.Reference3Ideal.Value Cert.Inproj

section Parts

variable {F : FTy → Type} [FloatOps F]

/-- The mean square. -/
def meanVec (X : Vec F S4x4096x1024 .f32) : Vec F S4x4096x1 .f32 :=
  Host.divf (broadcastInDim S4x4096x1 ![0, 1] bcast_S4x4096_S4x4096x1_0_1 (Host.reduceAdd (mulf X X) (constant S_ .f32 0x00000000#32) reducesTo_S4x4096x1024_S4x4096_d2 h_S_)) (broadcastInDim S4x4096x1 ![] bcast_S_S4x4096x1 (constant S_ .f32 0x44800000#32))

/-- The norm, modulated. -/
def normVec (X : Vec F S4x4096x1024 .f32) (M : Vec F S4x4096x1 .f32) (mod : Vec F S8x6144 .f32) (w : Vec F S1024 .f32) :
    Vec F S4x4096x1024 .f32 :=
  addf (mulf (mulf (mulf X (broadcastInDim S4x4096x1024 ![0, 1, 2] bcast_S4x4096x1_S4x4096x1024_0_1_2 (Host.rsqrt (addf M (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 w))) (broadcastInDim S4x4096x1024 ![0, 1, 2] bcast_S4x1x1024_S4x4096x1024_0_1_2 (addf (broadcastInDim S4x1x1024 ![] bcast_S_S4x1x1024 (constant S_ .f32 0x3F800000#32)) (broadcastInDim S4x1x1024 ![0, 2] bcast_S4x1024_S4x1x1024_0_2 (extractStridedSlice S4x1024 ![0, 1024] (extractStridedSlice S4x6144 ![0, 0] mod slices_S8x6144_S4x6144_0_0) slices_S4x6144_S4x1024_0_1024))))) (broadcastInDim S4x4096x1024 ![0, 1, 2] bcast_S4x1x1024_S4x4096x1024_0_1_2 (broadcastInDim S4x1x1024 ![0, 2] bcast_S4x1024_S4x1x1024_0_2 (extractStridedSlice S4x1024 ![0, 0] (extractStridedSlice S4x6144 ![0, 0] mod slices_S8x6144_S4x6144_0_0) slices_S4x6144_S4x1024_0_0)))

/-- The projection. -/
def projVec (H : Vec F S4x4096x1024 .f32) (w : Vec F S1024x5632 .f32) : Vec F S4x4096x5632 .f32 :=
  Host.dotGeneral dot_S4x4096x1024_S1024x5632_S4x4096x5632_2_0_01_1_n_n none H w

/-- The queries' columns, by heads. -/
def qVec (Z : Vec F S4x4096x5632 .f32) : Vec F S4x4096x8x64 .f32 :=
  shapeCast _ (extractStridedSlice S4x4096x512 ![0, 0, 0] Z slices_S4x4096x5632_S4x4096x512_0_0_0) shapeCasts_S4x4096x512_S4x4096x8x64

/-- The keys' columns, by heads. -/
def kVec (Z : Vec F S4x4096x5632 .f32) : Vec F S4x4096x8x64 .f32 :=
  shapeCast _ (extractStridedSlice S4x4096x512 ![0, 0, 512] Z slices_S4x4096x5632_S4x4096x512_0_0_512) shapeCasts_S4x4096x512_S4x4096x8x64

/-- The values' columns, by heads. -/
def vVec (Z : Vec F S4x4096x5632 .f32) : Vec F S4x4096x8x64 .f32 :=
  shapeCast _ (extractStridedSlice S4x4096x512 ![0, 0, 1024] Z slices_S4x4096x5632_S4x4096x512_0_0_1024) shapeCasts_S4x4096x512_S4x4096x8x64

/-- The mean square of a head. -/
def headMeanVec (Q : Vec F S4x4096x8x64 .f32) : Vec F S4x4096x8x1 .f32 :=
  Host.divf (broadcastInDim S4x4096x8x1 ![0, 1, 2] bcast_S4x4096x8_S4x4096x8x1_0_1_2 (Host.reduceAdd (mulf Q Q) (constant S_ .f32 0x00000000#32) reducesTo_S4x4096x8x64_S4x4096x8_d3 h_S_)) (broadcastInDim S4x4096x8x1 ![] bcast_S_S4x4096x8x1 (constant S_ .f32 0x42800000#32))

/-- The norm of a head. -/
def headNormVec (Q : Vec F S4x4096x8x64 .f32) (M : Vec F S4x4096x8x1 .f32) (w : Vec F S64 .f32) : Vec F S4x4096x8x64 .f32 :=
  mulf (mulf Q (broadcastInDim S4x4096x8x64 ![0, 1, 2, 3] bcast_S4x4096x8x1_S4x4096x8x64_0_1_2_3 (Host.rsqrt (addf M (broadcastInDim S4x4096x8x1 ![] bcast_S_S4x4096x8x1 (constant S_ .f32 0x358637BD#32)))))) (broadcastInDim S4x4096x8x64 ![0, 1, 2, 3] bcast_S1x1x1x64_S4x4096x8x64_0_1_2_3 (broadcastInDim S1x1x1x64 ![3] bcast_S64_S1x1x1x64_3 w))

/-- The queries over the root of a head's width. -/
def scaledVec (Q : Vec F S4x4096x8x64 .f32) : Vec F S4x4096x8x64 .f32 :=
  mulf Q (broadcastInDim S4x4096x8x64 ![] bcast_S_S4x4096x8x64 (constant S_ .f32 0x3E000000#32))

/-- Queries, keys and values, stacked. -/
def stackVec (Q K V : Vec F S4x4096x8x64 .f32) : Vec F S4x4096x3x8x64 .f32 :=
  concatenate S4x4096x3x8x64 2 [⟨S4x4096x1x8x64, ((broadcastInDim S4x4096x1x8x64 ![0, 1, 3, 4] bcast_S4x4096x8x64_S4x4096x1x8x64_0_1_3_4 Q) : (⟨S4x4096x1x8x64, .f32⟩ : BufTy).Contents (Elt F))⟩, ⟨S4x4096x1x8x64, ((broadcastInDim S4x4096x1x8x64 ![0, 1, 3, 4] bcast_S4x4096x8x64_S4x4096x1x8x64_0_1_3_4 K) : (⟨S4x4096x1x8x64, .f32⟩ : BufTy).Contents (Elt F))⟩, ⟨S4x4096x1x8x64, ((broadcastInDim S4x4096x1x8x64 ![0, 1, 3, 4] bcast_S4x4096x8x64_S4x4096x1x8x64_0_1_3_4 V) : (⟨S4x4096x1x8x64, .f32⟩ : BufTy).Contents (Elt F))⟩] concatenates_S4x4096x1x8x64_S4x4096x1x8x64_S4x4096x1x8x64_S4x4096x3x8x64_d2

/-- The stack as rows of tokens. -/
def rowsVec (S : Vec F S4x4096x3x8x64 .f32) : Vec F S16384x1536 .bf16 :=
  shapeCast _ (truncf .bf16 S bitsLt_bf16_f32) shapeCasts_S4x4096x3x8x64_S16384x1536

/-- The recurrence's input. -/
def xrVec (Z : Vec F S4x4096x5632 .f32) : Vec F S16384x1024 .f32 :=
  shapeCast _ (extractStridedSlice S4x4096x1024 ![0, 0, 1536] Z slices_S4x4096x5632_S4x4096x1024_0_0_1536) shapeCasts_S4x4096x1024_S16384x1024

/-- The gate's columns. -/
def gateVec (Z : Vec F S4x4096x5632 .f32) : Vec F S4x4096x1024 .f32 :=
  extractStridedSlice S4x4096x1024 ![0, 0, 2560] Z slices_S4x4096x5632_S4x4096x1024_0_0_2560

/-- The GELU. -/
def geluVec (G : Vec F S4x4096x1024 .f32) : Vec F S16384x1024 .f32 :=
  shapeCast _ (mulf G (mulf (broadcastInDim S4x4096x1024 ![] bcast_S_S4x4096x1024 (constant S_ .f32 0x3F000000#32)) (addf (broadcastInDim S4x4096x1024 ![] bcast_S_S4x4096x1024 (constant S_ .f32 0x3F800000#32)) (Host.tanh (mulf (broadcastInDim S4x4096x1024 ![] bcast_S_S4x4096x1024 (constant S_ .f32 0x3F4C422A#32)) (addf G (mulf (broadcastInDim S4x4096x1024 ![] bcast_S_S4x4096x1024 (constant S_ .f32 0x3D372713#32)) (mulf (mulf G G) G)))))))) shapeCasts_S4x4096x1024_S16384x1024

/-- The logistic function. -/
def logisticVec (G : Vec F S4x4096x1024 .f32) : Vec F S16384x1024 .f32 :=
  shapeCast _ (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf G)))) shapeCasts_S4x4096x1024_S16384x1024

/-- The attention branch's gate. -/
def sgaVec (Z : Vec F S4x4096x5632 .f32) : Vec F S16384x1024 .f32 :=
  logisticVec (extractStridedSlice S4x4096x1024 ![0, 0, 3584] Z slices_S4x4096x5632_S4x4096x1024_0_0_3584)

/-- The recurrence branch's gate. -/
def sgbVec (Z : Vec F S4x4096x5632 .f32) : Vec F S16384x1024 .f32 :=
  logisticVec (extractStridedSlice S4x4096x1024 ![0, 0, 4608] Z slices_S4x4096x5632_S4x4096x1024_0_0_4608)

end Parts

/-! ## The parts at an index -/

theorem cast_read (x : Vec Ideal S16384x1024 .f32) (b : Fin 4) (n : Fin 4096) (k : Fin 1024) :
    shapeCast S4x4096x1024 x shapeCasts_S16384x1024_S4x4096x1024 (ix3 b n k) = x (ix2 ⟨b.val * 4096 + n.val, by omega⟩ k) := by
  pointwise

theorem mean_read (X : Vec Ideal S4x4096x1024 .f32) (b : Fin 4) (n : Fin 4096) :
    meanVec X (ix3 b n 0) = Ideal.div (∑ k : Fin 1024, X (ix3 b n k) * X (ix3 b n k)) (Ideal.ofBits .f32 0x44800000#32) := by
  pointwise [meanVec]

theorem norm_read (X : Vec Ideal S4x4096x1024 .f32) (M : Vec Ideal S4x4096x1 .f32) (mod : Vec Ideal S8x6144 .f32)
    (w : Vec Ideal S1024 .f32) (b : Fin 4) (n : Fin 4096) (ch : Fin 1024) :
    normVec X M mod w (ix3 b n ch) = X (ix3 b n ch) * Ideal.rsqrt (M (ix3 b n 0) + Ideal.ofBits .f32 0x358637BD#32) * w (ix1 ch) *
      (1 + mod (ix2 ⟨b.val, by omega⟩ ⟨1024 + ch.val, by omega⟩)) + mod (ix2 ⟨b.val, by omega⟩ ⟨ch.val, by omega⟩) := by
  pointwise [normVec]

theorem proj_read (H : Vec Ideal S4x4096x1024 .f32) (w : Vec Ideal S1024x5632 .f32) (b : Fin 4) (n : Fin 4096) (j : Fin 5632) :
    projVec H w (ix3 b n j) = ∑ k : Fin 1024, H (ix3 b n k) * w (ix2 k j) := by
  pointwise [projVec]

theorem q_read (Z : Vec Ideal S4x4096x5632 .f32) (b : Fin 4) (n : Fin 4096) (h : Fin 8) (d : Fin 64) :
    qVec Z (ix4 b n h d) = Z (ix3 b n ⟨64 * h.val + d.val, by omega⟩) := by
  pointwise [qVec]
  exact congrArg Z (congrArg (ix3 b n) (Fin.ext (by show h.val * 64 + d.val = 64 * h.val + d.val; omega)))

theorem k_read (Z : Vec Ideal S4x4096x5632 .f32) (b : Fin 4) (n : Fin 4096) (h : Fin 8) (d : Fin 64) :
    kVec Z (ix4 b n h d) = Z (ix3 b n ⟨512 + (64 * h.val + d.val), by omega⟩) := by
  pointwise [kVec]
  exact congrArg Z (congrArg (ix3 b n) (Fin.ext (by show 512 + (h.val * 64 + d.val) = 512 + (64 * h.val + d.val); omega)))

theorem v_read (Z : Vec Ideal S4x4096x5632 .f32) (b : Fin 4) (n : Fin 4096) (h : Fin 8) (d : Fin 64) :
    vVec Z (ix4 b n h d) = Z (ix3 b n ⟨1024 + (64 * h.val + d.val), by omega⟩) := by
  pointwise [vVec]
  exact congrArg Z (congrArg (ix3 b n) (Fin.ext (by show 1024 + (h.val * 64 + d.val) = 1024 + (64 * h.val + d.val); omega)))

theorem headMean_read (Q : Vec Ideal S4x4096x8x64 .f32) (b : Fin 4) (n : Fin 4096) (h : Fin 8) :
    headMeanVec Q (ix4 b n h 0) = Ideal.div (∑ d : Fin 64, Q (ix4 b n h d) * Q (ix4 b n h d)) (Ideal.ofBits .f32 0x42800000#32) := by
  pointwise [headMeanVec]

theorem headNorm_read (Q : Vec Ideal S4x4096x8x64 .f32) (M : Vec Ideal S4x4096x8x1 .f32) (w : Vec Ideal S64 .f32) (b : Fin 4)
    (n : Fin 4096) (h : Fin 8) (d : Fin 64) :
    headNormVec Q M w (ix4 b n h d) =
      Q (ix4 b n h d) * Ideal.rsqrt (M (ix4 b n h 0) + Ideal.ofBits .f32 0x358637BD#32) * w (ix1 d) := by
  pointwise [headNormVec]

theorem scaled_read (Q : Vec Ideal S4x4096x8x64 .f32) (b : Fin 4) (n : Fin 4096) (h : Fin 8) (d : Fin 64) :
    scaledVec Q (ix4 b n h d) = Q (ix4 b n h d) * Ideal.ofBits .f32 0x3E000000#32 := by
  pointwise [scaledVec]

theorem rows_read (S : Vec Ideal S4x4096x3x8x64 .f32) (r : Fin 16384) (j : Fin 1536) :
    rowsVec S (ix2 r j) = S (ix5 ⟨r.val / 4096, by omega⟩ ⟨r.val % 4096, by omega⟩ ⟨j.val / 512, by omega⟩
      ⟨j.val / 64 % 8, by omega⟩ ⟨j.val % 64, by omega⟩) := by
  pointwise [rowsVec]

theorem stack_q (Q K V : Vec Ideal S4x4096x8x64 .f32) (b : Fin 4) (n : Fin 4096) (h : Fin 8) (d : Fin 64) :
    stackVec Q K V (ix5 b n 0 h d) = Q (ix4 b n h d) := by
  pointwise [stackVec]

theorem stack_k (Q K V : Vec Ideal S4x4096x8x64 .f32) (b : Fin 4) (n : Fin 4096) (h : Fin 8) (d : Fin 64) :
    stackVec Q K V (ix5 b n 1 h d) = K (ix4 b n h d) := by
  pointwise [stackVec]

theorem stack_v (Q K V : Vec Ideal S4x4096x8x64 .f32) (b : Fin 4) (n : Fin 4096) (h : Fin 8) (d : Fin 64) :
    stackVec Q K V (ix5 b n 2 h d) = V (ix4 b n h d) := by
  pointwise [stackVec]

theorem xr_read (Z : Vec Ideal S4x4096x5632 .f32) (r : Fin 16384) (ch : Fin 1024) :
    xrVec Z (ix2 r ch) = Z (ix3 ⟨r.val / 4096, by omega⟩ ⟨r.val % 4096, by omega⟩ ⟨1536 + ch.val, by omega⟩) := by
  pointwise [xrVec]

theorem gelu_read (Z : Vec Ideal S4x4096x5632 .f32) (r : Fin 16384) (ch : Fin 1024) :
    geluVec (gateVec Z) (ix2 r ch) = gelu (Z (ix3 ⟨r.val / 4096, by omega⟩ ⟨r.val % 4096, by omega⟩ ⟨2560 + ch.val, by omega⟩)) := by
  unfold gelu
  rw [← mul_assoc (Z _) (Z _) (Z _)]
  pointwise [geluVec, gateVec]

theorem sga_read (Z : Vec Ideal S4x4096x5632 .f32) (r : Fin 16384) (ch : Fin 1024) :
    sgaVec Z (ix2 r ch) = Ideal.logistic (Z (ix3 ⟨r.val / 4096, by omega⟩ ⟨r.val % 4096, by omega⟩ ⟨3584 + ch.val, by omega⟩)) := by
  unfold Ideal.logistic
  pointwise [sgaVec, logisticVec]

theorem sgb_read (Z : Vec Ideal S4x4096x5632 .f32) (r : Fin 16384) (ch : Fin 1024) :
    sgbVec Z (ix2 r ch) = Ideal.logistic (Z (ix3 ⟨r.val / 4096, by omega⟩ ⟨r.val % 4096, by omega⟩ ⟨4608 + ch.val, by omega⟩)) := by
  unfold Ideal.logistic
  pointwise [sgbVec, logisticVec]

variable (m : (ℓ : Loc nD τ sig) → Buf (Elt Ideal) ℓ)

/-- The arguments a core finds. -/
def args (c : Dev nD) : Args where
  x r k := m ((c : Thread nD τ).loc main_arg0) (ix2 r k)
  mod b j := m ((c : Thread nD τ).loc main_arg1) (ix2 b j)
  w ch := m ((c : Thread nD τ).loc main_arg2) (ix1 ch)
  win k j := m ((c : Thread nD τ).loc main_arg3) (ix2 k j)
  qw d := m ((c : Thread nD τ).loc main_arg4) (ix1 d)
  kw d := m ((c : Thread nD τ).loc main_arg5) (ix1 d)

variable (c : Dev nD)

/-! ## The program's vectors, of a core's arguments -/

/-- The tokens by batch. -/
def tokens : Vec Ideal S4x4096x1024 .f32 := shapeCast _ (m (c.tc.loc main_arg0)) shapeCasts_S16384x1024_S4x4096x1024

/-- Their modulated norm. -/
def normedTokens : Vec Ideal S4x4096x1024 .f32 :=
  normVec (tokens m c) (meanVec (tokens m c)) (m (c.tc.loc main_arg1)) (m (c.tc.loc main_arg2))

/-- Its projection. -/
def proj : Vec Ideal S4x4096x5632 .f32 := projVec (normedTokens m c) (m (c.tc.loc main_arg3))

theorem out0_eq : (res_main_v69 m c : S16384x1536.Idx → EReal) =
    rowsVec (stackVec (scaledVec (headNormVec (qVec (proj m c)) (headMeanVec (qVec (proj m c))) (m (c.tc.loc main_arg4))))
      (headNormVec (kVec (proj m c)) (headMeanVec (kVec (proj m c))) (m (c.tc.loc main_arg5))) (vVec (proj m c))) := rfl

theorem out2_eq : (res_main_v86 m c : S16384x1024.Idx → EReal) = geluVec (gateVec (proj m c)) := rfl

theorem tokens_args (b : Fin 4) (n : Fin 4096) (r : Fin 16384) (h : r.val = b.val * 4096 + n.val) (k : Fin 1024) :
    tokens m c (ix3 b n k) = (args m c).x r k := by
  unfold tokens
  rw [cast_read, show (⟨b.val * 4096 + n.val, by omega⟩ : Fin 16384) = r from Fin.ext h.symm]
  rfl

/-- The modulated norm, of the tokens' values. -/
theorem norm_of (X : Args) (b : Fin 4) (n : Fin 4096) (r : Fin 16384) (h : r.val = b.val * 4096 + n.val) (ch : Fin 1024)
    {T : Vec Ideal S4x4096x1024 .f32} {mod : Vec Ideal S8x6144 .f32} {w : Vec Ideal S1024 .f32}
    (hT : ∀ k, T (ix3 b n k) = X.x r k) (hm : ∀ i j, mod (ix2 i j) = X.mod i j) (hw : ∀ k, w (ix1 k) = X.w k) :
    normVec T (meanVec T) mod w (ix3 b n ch) = X.h r ch := by
  rw [norm_read, mean_read]
  unfold Args.h Cert.Merge.normed Args.modOf
  have hb : (⟨b.val, by omega⟩ : Fin 8) = ⟨r.val / 4096, by omega⟩ := Fin.ext (by show b.val = r.val / 4096; omega)
  have h0 : (⟨1024 * (0 : Fin 6).val + ch.val, by have := ch.isLt; show 1024 * 0 + ch.val < 6144; omega⟩ : Fin 6144) = ⟨ch.val, by omega⟩ :=
    Fin.ext (by show 1024 * 0 + ch.val = ch.val; omega)
  simp only [hT, hm, hw, hb, h0]
  rfl

theorem normed_args (b : Fin 4) (n : Fin 4096) (r : Fin 16384) (h : r.val = b.val * 4096 + n.val) (ch : Fin 1024) :
    normedTokens m c (ix3 b n ch) = (args m c).h r ch :=
  norm_of (args m c) b n r h ch (tokens_args m c b n r h) (fun _ _ => rfl) (fun _ => rfl)

theorem proj_args (r : Fin 16384) (j : Fin 5632) :
    proj m c (ix3 ⟨r.val / 4096, by omega⟩ ⟨r.val % 4096, by omega⟩ j) = (args m c).z r j := by
  unfold proj
  rw [proj_read]
  exact Finset.sum_congr rfl fun k _ => congrArg (· * _)
    (normed_args m c _ _ r (by show r.val = r.val / 4096 * 4096 + r.val % 4096; omega) k)

/-! ## The results -/

/-- A head's norm, of the head's values before it. -/
theorem headNorm_of {z : Fin 512 → EReal} {w : Fin 64 → EReal} (b : Fin 4) (n : Fin 4096) (j : Fin 512)
    {Q : Vec Ideal S4x4096x8x64 .f32} {W : Vec Ideal S64 .f32}
    (hQ : ∀ (h : Fin 8) (d : Fin 64), Q (ix4 b n h d) = z ⟨64 * h.val + d.val, by omega⟩) (hW : ∀ d, W (ix1 d) = w d) :
    headNormVec Q (headMeanVec Q) W (ix4 b n ⟨j.val / 64, by omega⟩ ⟨j.val % 64, by omega⟩) = headNorm w z j := by
  rw [headNorm_read, headMean_read]
  unfold headNorm headScale headMean
  have hj : (⟨64 * (j.val / 64) + j.val % 64, by omega⟩ : Fin 512) = j := Fin.ext (by show 64 * (j.val / 64) + j.val % 64 = j.val; omega)
  simp only [hQ, hW, hj]

/-- The stacked rows, of the three projections. -/
theorem qkv_of (X : Args) (r : Fin 16384) (j : Fin 1536) {Q K V : Vec Ideal S4x4096x8x64 .f32}
    (hQ : ∀ j : Fin 512, Q (ix4 ⟨r.val / 4096, by omega⟩ ⟨r.val % 4096, by omega⟩ ⟨j.val / 64, by omega⟩ ⟨j.val % 64, by omega⟩) = X.q r j)
    (hK : ∀ j : Fin 512, K (ix4 ⟨r.val / 4096, by omega⟩ ⟨r.val % 4096, by omega⟩ ⟨j.val / 64, by omega⟩ ⟨j.val % 64, by omega⟩) = X.k r j)
    (hV : ∀ j : Fin 512, V (ix4 ⟨r.val / 4096, by omega⟩ ⟨r.val % 4096, by omega⟩ ⟨j.val / 64, by omega⟩ ⟨j.val % 64, by omega⟩) = X.v r j) :
    rowsVec (stackVec Q K V) (ix2 r j) = X.qkv r j := by
  rw [rows_read]
  unfold Args.qkv
  split
  · rename_i h
    rw [← hQ, show (⟨j.val / 512, by omega⟩ : Fin 3) = 0 from Fin.ext (by show j.val / 512 = 0; omega), stack_q]
    congr 2
    exact Fin.ext (by show j.val / 64 % 8 = j.val / 64; omega)
  · split
    · rename_i h h'
      rw [← hK, show (⟨j.val / 512, by omega⟩ : Fin 3) = 1 from Fin.ext (by show j.val / 512 = 1; omega), stack_k]
      congr 2
      · exact Fin.ext (by show j.val / 64 % 8 = (j.val - 512) / 64; omega)
      · exact Fin.ext (by show j.val % 64 = (j.val - 512) % 64; omega)
    · rename_i h h'
      rw [← hV, show (⟨j.val / 512, by omega⟩ : Fin 3) = 2 from Fin.ext (by show j.val / 512 = 2; omega), stack_v]
      congr 2
      · exact Fin.ext (by show j.val / 64 % 8 = (j.val - 1024) / 64; omega)
      · exact Fin.ext (by show j.val % 64 = (j.val - 1024) % 64; omega)

theorem out0_args (r : Fin 16384) (j : Fin 1536) : (res_main_v69 m c : S16384x1536.Idx → EReal) (ix2 r j) = (args m c).qkv r j := by
  rw [out0_eq]
  refine qkv_of (args m c) r j (fun j => ?_) (fun j => ?_) (fun j => ?_)
  · rw [scaled_read]
    exact congrArg (· * _) (headNorm_of _ _ j (fun h d => (q_read _ _ _ h d).trans (proj_args m c r _)) (fun _ => rfl))
  · exact headNorm_of _ _ j (fun h d => (k_read _ _ _ h d).trans (proj_args m c r _)) (fun _ => rfl)
  · rw [v_read]
    refine (proj_args m c r _).trans (congrArg ((args m c).z r) (Fin.ext ?_))
    show 1024 + (64 * (j.val / 64) + j.val % 64) = 1024 + j.val
    omega

theorem out1_args (r : Fin 16384) (ch : Fin 1024) : xrVec (proj m c) (ix2 r ch) = (args m c).xr r ch :=
  (xr_read _ r ch).trans (proj_args m c r _)

theorem out2_args (r : Fin 16384) (ch : Fin 1024) : (res_main_v86 m c : S16384x1024.Idx → EReal) (ix2 r ch) = (args m c).gy r ch := by
  rw [out2_eq]
  exact (gelu_read _ r ch).trans (congrArg gelu (proj_args m c r _))

theorem out3_args (r : Fin 16384) (ch : Fin 1024) : sgaVec (proj m c) (ix2 r ch) = (args m c).sga r ch :=
  (sga_read _ r ch).trans (congrArg Ideal.logistic (proj_args m c r _))

theorem out4_args (r : Fin 16384) (ch : Fin 1024) : sgbVec (proj m c) (ix2 r ch) = (args m c).sgb r ch :=
  (sgb_read _ r ch).trans (congrArg Ideal.logistic (proj_args m c r _))

end Cert.Reference3Ideal.Hand
-- ==== Proof.Inproj.Finite.lean ====
/-
  What the precondition of the input projection says: its arguments are finite where it compares them.
-/
module

public import proofs.«01_k».proof.Proof.Inproj.Spec
public import proofs.«01_k».proof.Proof.Gen.Pre_finite
public import Idealize.ShloMosaic.Lib.Pointwise
public import Idealize.ShloMosaic.Lib.Tactic

@[expose] public section

set_option maxRecDepth 16384

noncomputable section

namespace Cert.Pre_finite.Hand

open Idealize.ShloMosaic Cert.Pre_finite Cert.Pre_finite.Gen Cert.Inproj

theorem ofBits_infinity : (Ideal.ofBits .f32 0x7F800000#32 : EReal) = ⊤ := by
  simp [Ideal.ofBits, Ideal.ieee]

/-- What is less than infinity in size is a number. -/
theorem number_of {x : EReal} (h : max x (-x) < ⊤) : ∃ a : ℝ, x = (a : EReal) := by
  induction x with
  | bot => simp at h
  | coe a => exact ⟨a, rfl⟩
  | top => simp at h

/-- A mask that is set says its comparison holds. -/
theorem number_of_mask {x : EReal} (h : BitVec.ofBool (decide (max x (-x) < Ideal.ofBits .f32 0x7F800000#32)) = 1#1) :
    ∃ a : ℝ, x = (a : EReal) := by
  rw [ofBits_infinity] at h
  refine number_of ?_
  by_contra hn
  rw [decide_eq_false hn] at h
  exact absurd h (by decide)

variable (a0 : FVec Ideal S16384x1024 .f32) (a1 : FVec Ideal S8x6144 .f32) (a2 : FVec Ideal S1024 .f32)
  (a3 : FVec Ideal S1024x5632 .f32) (a4 : FVec Ideal S64 .f32) (a5 : FVec Ideal S64 .f32)

theorem number_x (h : (fn a0 a1 a2 a3 a4 a5).1 = fun _ => 1#1) (r : Fin 16384) (k : Fin 1024) :
    ∃ a : ℝ, (a0 (ix2 r k) : EReal) = (a : EReal) := by
  have e := congrFun h (ix2 r k)
  exact number_of_mask e

theorem number_mod (h : (fn a0 a1 a2 a3 a4 a5).2.1 = fun _ => 1#1) (b : Fin 8) (j : Fin 6144) (hb : b.val < 4) (hj : j.val < 2048) :
    ∃ a : ℝ, (a1 (ix2 b j) : EReal) = (a : EReal) := by
  have e := congrFun h (ix2 ⟨b.val, hb⟩ ⟨j.val, hj⟩ : S4x2048.Idx)
  have hs : (extractStridedSlice S4x2048 ![0, 0] a1 slices_S8x6144_S4x2048_0_0 : S4x2048.Idx → EReal)
      (ix2 ⟨b.val, hb⟩ ⟨j.val, hj⟩) = a1 (ix2 b j) := by
    rw [Pointwise.extractStridedSlice_apply]
    congr 1
    funext a
    apply Fin.ext
    match a with
    | ⟨0, _⟩ => show 0 + b.val = b.val; omega
    | ⟨1, _⟩ => show 0 + j.val = j.val; omega
  exact hs ▸ number_of_mask e

theorem number_w (h : (fn a0 a1 a2 a3 a4 a5).2.2.1 = fun _ => 1#1) (k : Fin 1024) :
    ∃ a : ℝ, (a2 (ix1 k) : EReal) = (a : EReal) := by
  have e := congrFun h (ix1 k)
  exact number_of_mask e

theorem number_win (h : (fn a0 a1 a2 a3 a4 a5).2.2.2 = fun _ => 1#1) (k : Fin 1024) (j : Fin 5632) (hj : j.val < 1024) :
    ∃ a : ℝ, (a3 (ix2 k j) : EReal) = (a : EReal) := by
  have e := congrFun h (ix2 k ⟨j.val, hj⟩ : S1024x1024.Idx)
  have hs : (extractStridedSlice S1024x1024 ![0, 0] a3 slices_S1024x5632_S1024x1024_0_0 : S1024x1024.Idx → EReal)
      (ix2 k ⟨j.val, hj⟩) = a3 (ix2 k j) := by
    rw [Pointwise.extractStridedSlice_apply]
    congr 1
    funext a
    apply Fin.ext
    match a with
    | ⟨0, _⟩ => show 0 + k.val = k.val; omega
    | ⟨1, _⟩ => show 0 + j.val = j.val; omega
  exact hs ▸ number_of_mask e

end Cert.Pre_finite.Hand
-- ==== Proof.Ctx.Spec.lean ====
/-
  What the context's input projection computes of one token: the modulated norm (`Cert.Merge.normed`) times the input
  weights, and its three parts: the keys, each head over its root mean square, the values, and the recurrence's input.
  The modulation is the row after the batches' own.
-/
module

public import proofs.«01_k».proof.Proof.Inproj.Head

@[expose] public section

noncomputable section

namespace Cert.Ctx

open Idealize.ShloMosaic Cert.Inproj

/-- The arguments, as functions of their indices. -/
structure Args where
  x : Fin 1024 → Fin 1024 → EReal
  mod : Fin 8 → Fin 6144 → EReal
  w : Fin 1024 → EReal
  win : Fin 1024 → Fin 5632 → EReal
  kw : Fin 64 → EReal

namespace Args

variable (X : Args)

/-- Part `i` of the context's modulation. -/
def modOf (i : Fin 6) (ch : Fin 1024) : EReal := X.mod 4 ⟨1024 * i.val + ch.val, by omega⟩

/-- The token, normed and modulated. -/
def h (r : Fin 1024) : Fin 1024 → EReal := Merge.normed X.w (X.modOf 0) (X.modOf 1) (X.x r)

/-- Its projection. -/
def z (r : Fin 1024) (j : Fin 5632) : EReal := ∑ k, X.h r k * X.win k j

/-- The keys before their norm. -/
def zk (r : Fin 1024) (j : Fin 512) : EReal := X.z r ⟨512 + j.val, by omega⟩

/-- The keys. -/
def k (r : Fin 1024) (j : Fin 512) : EReal := headNorm X.kw (X.zk r) j

/-- The values. -/
def v (r : Fin 1024) (j : Fin 512) : EReal := X.z r ⟨1024 + j.val, by omega⟩

/-- Keys and values side by side. -/
def kv (r : Fin 1024) (j : Fin 1024) : EReal :=
  if h : j.val < 512 then X.k r ⟨j.val, h⟩ else X.v r ⟨j.val - 512, by omega⟩

/-- The recurrence's input. -/
def xr (r : Fin 1024) (ch : Fin 1024) : EReal := X.z r ⟨1536 + ch.val, by omega⟩

/-- The arguments whose finiteness makes the keys finite before their norm: the tokens, their shift and scale, the
    norm's weight, and the input weights' columns of keys. -/
structure Finite : Prop where
  x : ∀ r k, ∃ a : ℝ, X.x r k = (a : EReal)
  mod : ∀ j : Fin 6144, j.val < 2048 → ∃ a : ℝ, X.mod 4 j = (a : EReal)
  w : ∀ k, ∃ a : ℝ, X.w k = (a : EReal)
  win : ∀ (k : Fin 1024) (j : Fin 512), ∃ a : ℝ, X.win k ⟨512 + j.val, by omega⟩ = (a : EReal)

variable {X}

theorem zk_real (hX : X.Finite) (r : Fin 1024) (j : Fin 512) : IsReal (X.zk r j) :=
  IsReal.sum fun k => (normed_real hX.w
    (fun i => hX.mod _ (by show 1024 * 0 + i.val < 2048; omega))
    (fun i => hX.mod _ (by show 1024 * 1 + i.val < 2048; omega)) (hX.x r) k).mul (hX.win k j)

end Args

end Cert.Ctx
-- ==== Proof.Ctx.Block.lean ====
/-
  What one grid point of the context's input projection leaves in its two output blocks, token by token.
-/
module

public import proofs.«01_k».proof.Proof.Ctx.Spec
public import proofs.«01_k».proof.Proof.Gen.Kernel4Ideal.Value
public import Idealize.ShloMosaic.Lib.Pointwise
public import Idealize.ShloMosaic.Lib.Pipeline.ValueKit.Basic

@[expose] public section

set_option maxRecDepth 16384

noncomputable section

namespace Cert.Kernel4Ideal.Hand

open Cert.Inproj (headMean_eq)
open Idealize.ShloMosaic Idealize.ShloMosaic.Pipeline Idealize.SL.Sem Cert.Kernel4Ideal Cert.Kernel4Ideal.Gen Cert.Ctx

/-! ## The vectors of the body -/

theorem normed_apply (v0 : Vec Ideal S512x1024 .f32) (v11 : Vec Ideal S1x1024 .f32) (v15 v17 : Vec Ideal S1x1x1024 .f32)
    (r : Fin 512) (ch : Fin 1024) :
    k0_pay4 v0 v11 v15 v17 (ix2 r ch) =
      Merge.normed (fun k => v11 (ix2 0 k)) (fun k => v15 (ix3 0 0 k)) (fun k => v17 (ix3 0 0 k)) (fun k => v0 (ix2 r k)) ch := by
  unfold Merge.normed
  pointwise [k0_pay4]

theorem keys_apply (v0 : Vec Ideal S512x1024 .f32) (v11 : Vec Ideal S1x1024 .f32) (v15 v17 : Vec Ideal S1x1x1024 .f32)
    (v26 : Vec Ideal S1024x512 .bf16) (r : Fin 512) (j : Fin 512) :
    k0_pay5 v0 v11 v15 v17 v26 (ix2 r j) = ∑ k : Fin 1024, k0_pay4 v0 v11 v15 v17 (ix2 r k) * v26 (ix2 k j) := by
  pointwise [k0_pay5]

theorem square_apply (v0 : Vec Ideal S512x1024 .f32) (v11 : Vec Ideal S1x1024 .f32) (v15 v17 : Vec Ideal S1x1x1024 .f32)
    (v26 : Vec Ideal S1024x512 .bf16) (r : Fin 512) (j : Fin 512) :
    k0_pay8 v0 v11 v15 v17 v26 (ix2 r j) = k0_pay5 v0 v11 v15 v17 v26 (ix2 r j) * k0_pay5 v0 v11 v15 v17 v26 (ix2 r j) := by
  pointwise [k0_pay8, k0_pay7]

theorem below_apply (v0 : Vec Ideal S512x1024 .f32) (v11 : Vec Ideal S1x1024 .f32) (v15 v17 : Vec Ideal S1x1x1024 .f32)
    (v26 : Vec Ideal S1024x512 .bf16) (r : Fin 512) (j : Fin 512) :
    k0_pay9 v0 v11 v15 v17 v26 (ix2 r j) = k0_pay5 v0 v11 v15 v17 v26 (ix2 r j) * k0_pay5 v0 v11 v15 v17 v26 (ix2 r j) -
      k0_pay5 v0 v11 v15 v17 v26 (ix2 r j) * k0_pay5 v0 v11 v15 v17 v26 (ix2 r j) := by
  pointwise [k0_pay9, k0_pay8, k0_pay7]

theorem knorm_apply (z : FVec Ideal S512x512 .f32) (w : Vec Ideal S1x512 .f32) (hi lo : FVec Ideal S512x512 .bf16) (g g' : Vec Ideal S512x512 .bf16)
    (r : Fin 512) (j : Fin 512) :
    k0_pay1 z (k0_pay6 w) hi lo (k0_pay10 g) g' (ix2 r j) =
      z (ix2 r j) * Ideal.rsqrt ((∑ i : Fin 512, hi (ix2 r i) * g (ix2 i j)) + (∑ i : Fin 512, lo (ix2 r i) * g' (ix2 i j)) +
        Ideal.ofBits .f32 0x358637BD#32) * w (ix2 0 j) := by
  pointwise [k0_pay1, k0_pay10, k0_pay6]

theorem v_apply (h : FVec Ideal S512x1024 .bf16) (w : Vec Ideal S1024x512 .bf16) (r : Fin 512) (j : Fin 512) :
    k0_pay2 h w (ix2 r j) = ∑ k : Fin 1024, h (ix2 r k) * w (ix2 k j) := by
  pointwise [k0_pay2]

theorem xr_apply (h : FVec Ideal S512x1024 .bf16) (w : Vec Ideal S1024x1024 .bf16) (r : Fin 512) (j : Fin 1024) :
    k0_pay3 h w (ix2 r j) = ∑ k : Fin 1024, h (ix2 r k) * w (ix2 k j) := by
  pointwise [k0_pay3]

/-! ## The rectangles read -/

/-- A part of the modulation row. -/
theorem mod_part (x : Vec Ideal S1x1x6144 .f32) (o : ℕ) (ho : o + 1024 ≤ 6144) (inb) (k : Fin 1024) :
    View.ld x (Rect.unit (s := S1x1x6144) ![0, 0, o] S1x1x1024.size inb) (ix3 0 0 k) = x (ix3 0 0 ⟨o + k.val, by omega⟩) := by
  unfold View.ld
  refine congrArg x ?_
  funext a
  apply Fin.ext
  fin_cases a
  · rfl
  · rfl
  · exact (by omega : o + 1 * k.val = o + k.val)

/-- Columns of the weights, 512 of them. -/
theorem columns (x : Vec Ideal S1024x5632 .bf16) (o : ℕ) (ho : o + 512 ≤ 5632) (inb) (k : Fin 1024) (j : Fin 512) :
    View.ld x (Rect.unit (s := S1024x5632) ![0, o] S1024x512.size inb) (ix2 k j) = x (ix2 k ⟨o + j.val, by omega⟩) := by
  unfold View.ld
  refine congrArg x ?_
  funext a
  apply Fin.ext
  fin_cases a
  · exact (by omega : 0 + 1 * k.val = k.val)
  · exact (by omega : o + 1 * j.val = o + j.val)

/-- Columns of the weights, 1024 of them. -/
theorem wide_columns (x : Vec Ideal S1024x5632 .bf16) (o : ℕ) (ho : o + 1024 ≤ 5632) (inb) (k : Fin 1024) (j : Fin 1024) :
    View.ld x (Rect.unit (s := S1024x5632) ![0, o] S1024x1024.size inb) (ix2 k j) = x (ix2 k ⟨o + j.val, by omega⟩) := by
  unfold View.ld
  refine congrArg x ?_
  funext a
  apply Fin.ext
  fin_cases a
  · exact (by omega : 0 + 1 * k.val = k.val)
  · exact (by omega : o + 1 * j.val = o + j.val)

/-- Two stores side by side, read. -/
theorem stored_apply {p0 p1 : Vec Ideal S512x512 .bf16} (G : Fin 512 → Fin 1024 → EReal)
    (h0 : ∀ r (j : Fin 512), p0 (ix2 r j) = G r ⟨512 + j.val, by omega⟩)
    (h1 : ∀ r (j : Fin 512), p1 (ix2 r j) = G r ⟨j.val, by omega⟩) (r : Fin 512) (j : Fin 1024) :
    View.canon (Val := Elt Ideal) [⟨r0_9, p0⟩, ⟨r0_7, p1⟩] (ix2 r j) = G r j := by
  refine View.canon_apply_of_pieces (Val := Elt Ideal) (fun y : S512x1024.Idx => G (y 0) (y 1)) _ ?_ _ (cover0_6 p0 p1 _)
  intro p hp
  rcases List.mem_cons.1 hp with rfl | hp
  · intro x
    obtain ⟨r, j, rfl⟩ : ∃ (r j : Fin 512), x = ix2 r j := ⟨x 0, x 1, eq_ix2 x⟩
    refine (h0 r j).trans ?_
    have e : r0_9.emb (ix2 r j) = (ix2 r ⟨512 + j.val, by omega⟩ : S512x1024.Idx) := by
      funext a
      apply Fin.ext
      fin_cases a
      · exact (by omega : 0 + 1 * r.val = r.val)
      · exact (by omega : 512 + 1 * j.val = 512 + j.val)
    show _ = G (r0_9.emb (ix2 r j) 0) (r0_9.emb (ix2 r j) 1)
    rw [e]
    rfl
  rcases List.mem_cons.1 hp with rfl | hp
  · intro x
    obtain ⟨r, j, rfl⟩ : ∃ (r j : Fin 512), x = ix2 r j := ⟨x 0, x 1, eq_ix2 x⟩
    refine (h1 r j).trans ?_
    have e : r0_7.emb (ix2 r j) = (ix2 r ⟨j.val, by omega⟩ : S512x1024.Idx) := by
      funext a
      apply Fin.ext
      fin_cases a
      · exact (by omega : 0 + 1 * r.val = r.val)
      · exact (by omega : 0 + 1 * j.val = j.val)
    show _ = G (r0_7.emb (ix2 r j) 0) (r0_7.emb (ix2 r j) 1)
    rw [e]
    rfl
  simp at hp

/-! ## The output blocks, of blocks that hold the tokens' rows and the parameters -/

/-- The blocks of a grid point hold the rows of the tokens `R` and the parameters. -/
structure Holds (X : Args) (R : Fin 512 → Fin 1024) (x0 : Vec Ideal S512x1024 .f32) (x1 : Vec Ideal S1x1x6144 .f32)
    (x2 : Vec Ideal S1x1024 .f32) (x3 : Vec Ideal S1024x5632 .bf16) (x4 : Vec Ideal S512x512 .bf16) (x5 : Vec Ideal S1x512 .f32) :
    Prop where
  x : ∀ r k, x0 (ix2 r k) = X.x (R r) k
  mod : ∀ j, x1 (ix3 0 0 j) = X.mod 4 j
  w : ∀ k, x2 (ix2 0 k) = X.w k
  win : ∀ k j, x3 (ix2 k j) = X.win k j
  g : ∀ i j, x4 (ix2 i j) = if i.val / 64 = j.val / 64 then Ideal.ofBits .bf16 0x3C80#16 else 0
  kw : ∀ j, x5 (ix2 0 j) = X.kw ⟨j.val % 64, by omega⟩

variable {X : Args} {R : Fin 512 → Fin 1024} {x0 : Vec Ideal S512x1024 .f32} {x1 : Vec Ideal S1x1x6144 .f32}
  {x2 : Vec Ideal S1x1024 .f32} {x3 : Vec Ideal S1024x5632 .bf16} {x4 : Vec Ideal S512x512 .bf16} {x5 : Vec Ideal S1x512 .f32}
  (H : Holds X R x0 x1 x2 x3 x4 x5)

include H

theorem h_of (r : Fin 512) (ch : Fin 1024) :
    k0_pay4 (View.ld x0 r0_0) (View.ld x2 r0_1) (View.ld x1 r0_2) (View.ld x1 r0_3) (ix2 r ch) = X.h (R r) ch := by
  rw [normed_apply]
  unfold Args.h Args.modOf
  rw [show (fun k => View.ld x1 r0_2 (ix3 0 0 k)) = fun k : Fin 1024 => X.mod 4 ⟨1024 * 0 + k.val, by omega⟩ from
      funext fun k => (mod_part x1 0 (by decide) _ k).trans ((H.mod _).trans (congrArg (X.mod _) (Fin.ext (by show 0 + k.val = 1024 * 0 + k.val; omega)))),
    show (fun k => View.ld x1 r0_3 (ix3 0 0 k)) = fun k : Fin 1024 => X.mod 4 ⟨1024 * 1 + k.val, by omega⟩ from
      funext fun k => (mod_part x1 1024 (by decide) _ k).trans ((H.mod _).trans (congrArg (X.mod _) (Fin.ext (by show 1024 + k.val = 1024 * 1 + k.val; omega)))),
    show View.ld x0 r0_0 = x0 from View.ld_unit_lit _ _ (by decide), show View.ld x2 r0_1 = x2 from View.ld_unit_lit _ _ (by decide)]
  simp only [H.x, H.w]
  rfl

theorem h11_of (r : Fin 512) (ch : Fin 1024) : k0_pay11 x0 x1 x2 x3 x4 x5 (ix2 r ch) = X.h (R r) ch := h_of H r ch

/-- A product with columns of the weights. -/
theorem z_of (o : ℕ) (ho : o + 512 ≤ 5632) (inb) (r : Fin 512) (j : Fin 512) :
    (∑ k : Fin 1024, k0_pay11 x0 x1 x2 x3 x4 x5 (ix2 r k) *
      View.ld x3 (Rect.unit (s := S1024x5632) ![0, o] S1024x512.size inb) (ix2 k j)) = X.z (R r) ⟨o + j.val, by omega⟩ := by
  unfold Args.z
  exact Finset.sum_congr rfl fun k _ => by rw [h11_of H, columns x3 o ho, H.win]

theorem wide_z_of (o : ℕ) (ho : o + 1024 ≤ 5632) (inb) (r : Fin 512) (j : Fin 1024) :
    (∑ k : Fin 1024, k0_pay11 x0 x1 x2 x3 x4 x5 (ix2 r k) *
      View.ld x3 (Rect.unit (s := S1024x5632) ![0, o] S1024x1024.size inb) (ix2 k j)) = X.z (R r) ⟨o + j.val, by omega⟩ := by
  unfold Args.z
  exact Finset.sum_congr rfl fun k _ => by rw [h11_of H, wide_columns x3 o ho, H.win]

theorem zk_of (r : Fin 512) (j : Fin 512) :
    k0_pay5 (View.ld x0 r0_0) (View.ld x2 r0_1) (View.ld x1 r0_2) (View.ld x1 r0_3) (View.ld x3 r0_4) (ix2 r j) = X.zk (R r) j := by
  rw [keys_apply]
  exact z_of H 512 (by decide) _ r j

theorem v_of (r : Fin 512) (j : Fin 512) : k0_pay2 (k0_pay11 x0 x1 x2 x3 x4 x5) (View.ld x3 r0_8) (ix2 r j) = X.v (R r) j := by
  rw [v_apply]
  exact z_of H 1024 (by decide) _ r j

theorem k_of (hX : X.Finite) (r : Fin 512) (j : Fin 512) :
    k0_pay1 (k0_pay5 (View.ld x0 r0_0) (View.ld x2 r0_1) (View.ld x1 r0_2) (View.ld x1 r0_3) (View.ld x3 r0_4)) (k0_pay6 (View.ld x5 r0_5))
      (k0_pay8 (View.ld x0 r0_0) (View.ld x2 r0_1) (View.ld x1 r0_2) (View.ld x1 r0_3) (View.ld x3 r0_4))
      (k0_pay9 (View.ld x0 r0_0) (View.ld x2 r0_1) (View.ld x1 r0_2) (View.ld x1 r0_3) (View.ld x3 r0_4)) (k0_pay10 (View.ld x4 r0_6))
      (View.ld x4 r0_6) (ix2 r j) = X.k (R r) j := by
  rw [knorm_apply]
  simp only [square_apply, below_apply, zk_of H]
  rw [show View.ld x5 r0_5 = x5 from View.ld_unit_lit _ _ (by decide), show View.ld x4 r0_6 = x4 from View.ld_unit_lit _ _ (by decide),
    headMean_eq (Args.zk_real hX (R r)) H.g, H.kw]
  rfl

theorem kv_of (hX : X.Finite) (r : Fin 512) (j : Fin 1024) : out0_6 x0 x1 x2 x3 x4 x5 (ix2 r j) = X.kv (R r) j := by
  unfold out0_6
  refine stored_apply (fun r j => X.kv (R r) j) (fun r j => (v_of H r j).trans ?_) (fun r j => (k_of H hX r j).trans ?_) r j
  · unfold Args.kv
    rw [dif_neg (by show ¬ 512 + j.val < 512; omega)]
    exact congrArg (X.v (R r)) (Fin.ext (by show j.val = 512 + j.val - 512; omega))
  · unfold Args.kv
    rw [dif_pos j.isLt]

theorem xr_of (r : Fin 512) (j : Fin 1024) : out0_7 x0 x1 x2 x3 x4 x5 (ix2 r j) = X.xr (R r) j := by
  unfold out0_7
  rw [View.canon_cons_unit_lit _ _ _ (by decide)]
  exact (xr_apply _ _ r j).trans (wide_z_of H 1536 (by decide) _ r j)

end Cert.Kernel4Ideal.Hand
-- ==== Proof.Ctx.Points.lean ====
/-
  The grid of the context's input projection: which block every point reads, and the two arrays the call leaves, which
  are `Args.kv` and `Args.xr` of the arguments. The matrix of heads is the tokens' projection's.
-/
module

public import proofs.«01_k».proof.Proof.Ctx.Block
public import proofs.«01_k».proof.Proof.Inproj.Points
public import Idealize.ShloMosaic.Lib.StableHlo.ReadAt
public import Idealize.ShloMosaic.Lib.Tactic

@[expose] public section

set_option maxRecDepth 16384

noncomputable section

namespace Cert.Kernel4Ideal.Hand

open Cert.Kernel3Ideal.Hand (headOf same_head over_64 zero_over_64)
open Idealize.ShloMosaic Idealize.ShloMosaic.TcCoe Idealize.SL.Sem Cert.Kernel4Ideal Cert.Kernel4Ideal.Gen Cert.Ctx

variable (m : (ℓ : Loc nD τ sig) → Buf (Elt Ideal) ℓ)

/-- The arguments a core finds. -/
def args (c : Dev nD) : Args where
  x r k := m ((c : Thread nD τ).loc main_arg0) (ix2 r k)
  mod b j := m ((c : Thread nD τ).loc main_arg1) (ix2 b j)
  w ch := m ((c : Thread nD τ).loc main_arg2) (ix1 ch)
  win k j := m ((c : Thread nD τ).loc main_arg3) (ix2 k j)
  kw d := m ((c : Thread nD τ).loc main_arg4) (ix1 d)

/-! ## The prepared parameters -/

theorem V_mod (c : Dev nD) (b : Fin 8) (j : Fin 6144) :
    (V m c main_v4 : S8x1x6144.Idx → EReal) (ix3 b 0 j) = (args m c).mod b j := by
  unfold V args
  after_reads_at

theorem V_w (c : Dev nD) (ch : Fin 1024) : (V m c main_v5 : S1x1024.Idx → EReal) (ix2 0 ch) = (args m c).w ch := by
  unfold V args
  after_reads_at

theorem V_win (c : Dev nD) (k : Fin 1024) (j : Fin 5632) :
    (V m c main_v6 : S1024x5632.Idx → EReal) (ix2 k j) = (args m c).win k j := by
  unfold V args
  after_reads_at

theorem V_kw (c : Dev nD) (j : Fin 512) : (V m c main_v3 : S1x512.Idx → EReal) (ix2 0 j) =
    (args m c).kw ⟨j.val % 64, by omega⟩ := by
  unfold V args
  after_reads_at

theorem V_g (c : Dev nD) (i j : Fin 512) : (V m c main_v17 : S512x512.Idx → EReal) (ix2 i j) =
    if i.val / 64 = j.val / 64 then Ideal.ofBits .bf16 0x3C80#16 else 0 := by
  unfold V
  after_reads_at
  refine (show _ = Ideal.div (FloatOps.uitofp (F := Ideal) FTy.f32 (IntOp.cmpi CmpIPredicate.eq (headOf i) (headOf j)) : EReal)
    (Ideal.ofBits FTy.f32 0x42800000#32) from rfl).trans ?_
  rw [same_head]
  split
  · exact over_64
  · exact zero_over_64

/-! ## The blocks -/

theorem index_x : ∀ t : Fin grid0.N, win0_0.index t 0 = t.val ∧ win0_0.index t 1 = 0 := by decide +kernel
theorem index_mod : ∀ t : Fin grid0.N, win0_1.index t 0 = 4 ∧ win0_1.index t 1 = 0 ∧ win0_1.index t 2 = 0 := by decide +kernel
theorem index_w : ∀ t : Fin grid0.N, win0_2.index t 0 = 0 ∧ win0_2.index t 1 = 0 := by decide +kernel
theorem index_win : ∀ t : Fin grid0.N, win0_3.index t 0 = 0 ∧ win0_3.index t 1 = 0 := by decide +kernel
theorem index_g : ∀ t : Fin grid0.N, win0_4.index t 0 = 0 ∧ win0_4.index t 1 = 0 := by decide +kernel
theorem index_kw : ∀ t : Fin grid0.N, win0_5.index t 0 = 0 ∧ win0_5.index t 1 = 0 := by decide +kernel
theorem index_kv : ∀ t : Fin grid0.N, win0_6.index t 0 = t.val ∧ win0_6.index t 1 = 0 := by decide +kernel
theorem index_xr : ∀ t : Fin grid0.N, win0_7.index t 0 = t.val ∧ win0_7.index t 1 = 0 := by decide +kernel
theorem flush_kv : ∀ t : Fin grid0.N, win0_6.flush t = true := by decide +kernel
theorem flush_xr : ∀ t : Fin grid0.N, win0_7.flush t = true := by decide +kernel

variable (c : Dev nD) (t : Fin cfg0.N)

theorem lt_2 : t.val < 2 := lt_of_lt_of_eq t.isLt N_0

/-- The token of row `r` of a point's block. -/
def token (r : Fin 512) : Fin 1024 := ⟨512 * t.val + r.val, by have := lt_2 t; omega⟩

theorem blk_x (r : Fin 512) (k : Fin 1024) :
    (iblk m c 0 t : S512x1024.Idx → EReal) (ix2 r k) = (args m c).x (token t r) k := by
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * r.val = 512 * t.val + r.val; rw [(index_x t).1]; omega
  | ⟨1, _⟩ => show win0_0.index t 1 * 1024 + 1 * k.val = k.val; rw [(index_x t).2]; omega

/-- The modulation row is the context's at every point. -/
theorem blk_mod (j : Fin 6144) : (iblk m c 1 t : S1x1x6144.Idx → EReal) (ix3 0 0 j) = (args m c).mod 4 j := by
  refine Eq.trans ?_ (V_mod m c 4 j)
  unfold iblk
  rw [View.read_apply]
  show V m c main_v4 _ = V m c main_v4 _
  congr 1
  funext a
  apply Fin.ext
  match a with
  | ⟨0, _⟩ => show win0_1.index t 0 * 1 + 1 * 0 = 4; rw [(index_mod t).1]
  | ⟨1, _⟩ => show win0_1.index t 1 * 1 + 1 * 0 = 0; rw [(index_mod t).2.1]
  | ⟨2, _⟩ => show win0_1.index t 2 * 6144 + 1 * j.val = j.val; rw [(index_mod t).2.2]; omega

theorem blk_w (j : Fin 1024) : (iblk m c 2 t : S1x1024.Idx → EReal) (ix2 0 j) = (args m c).w j := by
  refine Eq.trans ?_ (V_w m c j)
  unfold iblk
  rw [View.read_apply]
  show V m c main_v5 _ = V m c main_v5 _
  congr 1
  funext a
  apply Fin.ext
  match a with
  | ⟨0, _⟩ => show win0_2.index t 0 * 1 + 1 * 0 = 0; rw [(index_w t).1]
  | ⟨1, _⟩ => show win0_2.index t 1 * 1024 + 1 * j.val = j.val; rw [(index_w t).2]; omega

theorem blk_win (k : Fin 1024) (j : Fin 5632) : (iblk m c 3 t : S1024x5632.Idx → EReal) (ix2 k j) = (args m c).win k j := by
  refine Eq.trans ?_ (V_win m c k j)
  unfold iblk
  rw [View.read_apply]
  show V m c main_v6 _ = V m c main_v6 _
  congr 1
  funext a
  apply Fin.ext
  match a with
  | ⟨0, _⟩ => show win0_3.index t 0 * 1024 + 1 * k.val = k.val; rw [(index_win t).1]; omega
  | ⟨1, _⟩ => show win0_3.index t 1 * 5632 + 1 * j.val = j.val; rw [(index_win t).2]; omega

theorem blk_g (k : Fin 512) (j : Fin 512) : (iblk m c 4 t : S512x512.Idx → EReal) (ix2 k j) = if k.val / 64 = j.val / 64 then Ideal.ofBits .bf16 0x3C80#16 else 0 := by
  refine Eq.trans ?_ (V_g m c k j)
  unfold iblk
  rw [View.read_apply]
  show V m c main_v17 _ = V m c main_v17 _
  congr 1
  funext a
  apply Fin.ext
  match a with
  | ⟨0, _⟩ => show win0_4.index t 0 * 512 + 1 * k.val = k.val; rw [(index_g t).1]; omega
  | ⟨1, _⟩ => show win0_4.index t 1 * 512 + 1 * j.val = j.val; rw [(index_g t).2]; omega

theorem blk_kw (j : Fin 512) : (iblk m c 5 t : S1x512.Idx → EReal) (ix2 0 j) = (args m c).kw ⟨j.val % 64, by omega⟩ := by
  refine Eq.trans ?_ (V_kw m c j)
  unfold iblk
  rw [View.read_apply]
  show V m c main_v3 _ = V m c main_v3 _
  congr 1
  funext a
  apply Fin.ext
  match a with
  | ⟨0, _⟩ => show win0_5.index t 0 * 1 + 1 * 0 = 0; rw [(index_kw t).1]
  | ⟨1, _⟩ => show win0_5.index t 1 * 512 + 1 * j.val = j.val; rw [(index_kw t).2]; omega

/-- What a point's blocks hold. -/
theorem holds : Holds (args m c) (token t) (iblk m c 0 t) (iblk m c 1 t) (iblk m c 2 t) (iblk m c 3 t) (iblk m c 4 t) (iblk m c 5 t) where
  x := blk_x m c t
  mod := blk_mod m c t
  w := blk_w m c t
  win := blk_win m c t
  g := blk_g m c t
  kw := blk_kw m c t

/-! ## The arrays -/

/-- The array of the keys and values. -/
def kvArr : Buf (Elt Ideal) ((c : Thread nD τ).loc main_v18_0) := fun y : S1024x1024.Idx => (args m c).kv (y 0) (y 1)

theorem flushed_kv (hX : (args m c).Finite) (_hf : (cfg0.win 6).flush t = true) :
    (dats m 0 c).flushed 6 t = ((cfg0.win 6).blk t).view.read (Elt Ideal) (kvArr m c) := by
  rw [Cert.Kernel4Ideal.Value.flushed6]
  funext y
  obtain ⟨r, j, rfl⟩ : ∃ (r : Fin 512) (j : Fin 1024), y = (ix2 r j : S512x1024.Idx) := ⟨y 0, y 1, eq_ix2 y⟩
  rw [View.read_apply]
  refine (kv_of (holds m c t) hX r j).trans ?_
  unfold kvArr
  congr 1
  · apply Fin.ext
    show 512 * t.val + r.val = win0_6.index t 0 * 512 + 1 * r.val
    rw [(index_kv t).1]
    omega
  · apply Fin.ext
    show j.val = win0_6.index t 1 * 1024 + 1 * j.val
    rw [(index_kv t).2]
    omega

theorem final6 (hX : (args m c).Finite) : (dats m 0 c).arrAt 6 cfg0.N = kvArr m c :=
  (dats m 0 c).arrAt_eq_of_cover 6 (kvArr m c) (fun t => flushed_kv m c t hX) fun i => by
    have h0 : (i 0 : ℕ) < 1024 := (i 0).isLt
    have h1 : (i 1 : ℕ) < 1024 := (i 1).isLt
    let t : Fin cfg0.N := ⟨(i 0 : ℕ) / 512, by rw [show cfg0.N = 2 from N_0]; omega⟩
    have ht : t.val = (i 0 : ℕ) / 512 := rfl
    refine ⟨t, flush_kv t, ?_⟩
    show i ∈ ((View.whole main_v18_0).slice (win0_6.rect t)).set
    rw [View.set_slice_whole, Rect.mem_set_unit]
    intro a
    match a with
    | ⟨0, _⟩ =>
      show win0_6.index t 0 * 512 ≤ (i 0 : ℕ) ∧ (i 0 : ℕ) < win0_6.index t 0 * 512 + 512
      rw [(index_kv t).1]
      omega
    | ⟨1, _⟩ =>
      show win0_6.index t 1 * 1024 ≤ (i 1 : ℕ) ∧ (i 1 : ℕ) < win0_6.index t 1 * 1024 + 1024
      rw [(index_kv t).2]
      omega

/-- The array of the recurrence's input. -/
def xrArr : Buf (Elt Ideal) ((c : Thread nD τ).loc main_v18_1) := fun y : S1024x1024.Idx => (args m c).xr (y 0) (y 1)

theorem flushed_xr (_hf : (cfg0.win 7).flush t = true) :
    (dats m 0 c).flushed 7 t = ((cfg0.win 7).blk t).view.read (Elt Ideal) (xrArr m c) := by
  rw [Cert.Kernel4Ideal.Value.flushed7]
  funext y
  obtain ⟨r, j, rfl⟩ : ∃ (r : Fin 512) (j : Fin 1024), y = (ix2 r j : S512x1024.Idx) := ⟨y 0, y 1, eq_ix2 y⟩
  rw [View.read_apply]
  refine (xr_of (holds m c t) r j).trans ?_
  unfold xrArr
  congr 1
  · apply Fin.ext
    show 512 * t.val + r.val = win0_7.index t 0 * 512 + 1 * r.val
    rw [(index_xr t).1]
    omega
  · apply Fin.ext
    show j.val = win0_7.index t 1 * 1024 + 1 * j.val
    rw [(index_xr t).2]
    omega

theorem final7 : (dats m 0 c).arrAt 7 cfg0.N = xrArr m c :=
  (dats m 0 c).arrAt_eq_of_cover 7 (xrArr m c) (fun t => flushed_xr m c t) fun i => by
    have h0 : (i 0 : ℕ) < 1024 := (i 0).isLt
    have h1 : (i 1 : ℕ) < 1024 := (i 1).isLt
    let t : Fin cfg0.N := ⟨(i 0 : ℕ) / 512, by rw [show cfg0.N = 2 from N_0]; omega⟩
    have ht : t.val = (i 0 : ℕ) / 512 := rfl
    refine ⟨t, flush_xr t, ?_⟩
    show i ∈ ((View.whole main_v18_1).slice (win0_7.rect t)).set
    rw [View.set_slice_whole, Rect.mem_set_unit]
    intro a
    match a with
    | ⟨0, _⟩ =>
      show win0_7.index t 0 * 512 ≤ (i 0 : ℕ) ∧ (i 0 : ℕ) < win0_7.index t 0 * 512 + 512
      rw [(index_xr t).1]
      omega
    | ⟨1, _⟩ =>
      show win0_7.index t 1 * 1024 ≤ (i 1 : ℕ) ∧ (i 1 : ℕ) < win0_7.index t 1 * 1024 + 1024
      rw [(index_xr t).2]
      omega

end Cert.Kernel4Ideal.Hand
-- ==== Proof.Ctx.Reference.lean ====
/-
  The reference of the context's input projection: its two results, which are `Args.kv` and `Args.xr` of the arguments.
-/
module

public import proofs.«01_k».proof.Proof.Ctx.Spec
public import proofs.«01_k».proof.Proof.Gen.Reference4Ideal.Run
public import Idealize.ShloMosaic.Lib.Pointwise
public import Idealize.ShloMosaic.Lib.Tactic

@[expose] public section

set_option maxRecDepth 16384

noncomputable section

namespace Cert.Reference4Ideal.Hand

open Cert.Inproj (headNorm headScale headMean)
open Idealize.ShloMosaic Idealize.ShloMosaic.TcCoe Idealize.SL.Sem Cert.Reference4Ideal Cert.Reference4Ideal.Gen Cert.Reference4Ideal.Value Cert.Ctx

section Parts

variable {F : FTy → Type} [FloatOps F]

/-- The mean square. -/
def meanVec (X : Vec F S1024x1024 .f32) : Vec F S1024x1 .f32 :=
  Host.divf (broadcastInDim S1024x1 ![0] bcast_S1024_S1024x1_0 (Host.reduceAdd (mulf X X) (constant S_ .f32 0x00000000#32) reducesTo_S1024x1024_S1024_d1 h_S_)) (broadcastInDim S1024x1 ![] bcast_S_S1024x1 (constant S_ .f32 0x44800000#32))

/-- The norm, modulated. -/
def normVec (X : Vec F S1024x1024 .f32) (M : Vec F S1024x1 .f32) (mod : Vec F S8x6144 .f32) (w : Vec F S1024 .f32) : Vec F S1024x1024 .f32 :=
  addf (mulf (mulf (mulf X (broadcastInDim S1024x1024 ![0, 1] bcast_S1024x1_S1024x1024_0_1 (Host.rsqrt (addf M (broadcastInDim S1024x1 ![] bcast_S_S1024x1 (constant S_ .f32 0x358637BD#32)))))) (broadcastInDim S1024x1024 ![0, 1] bcast_S1x1024_S1024x1024_0_1 (broadcastInDim S1x1024 ![1] bcast_S1024_S1x1024_1 w))) (broadcastInDim S1024x1024 ![0, 1] bcast_S1x1024_S1024x1024_0_1 (broadcastInDim S1x1024 ![1] bcast_S1024_S1x1024_1 (addf (broadcastInDim S1024 ![] bcast_S_S1024 (constant S_ .f32 0x3F800000#32)) (shapeCast _ (extractStridedSlice S1x1024 ![4, 1024] mod slices_S8x6144_S1x1024_4_1024) shapeCasts_S1x1024_S1024))))) (broadcastInDim S1024x1024 ![0, 1] bcast_S1x1024_S1024x1024_0_1 (broadcastInDim S1x1024 ![1] bcast_S1024_S1x1024_1 (shapeCast _ (extractStridedSlice S1x1024 ![4, 0] mod slices_S8x6144_S1x1024_4_0) shapeCasts_S1x1024_S1024)))

/-- The projection to the columns of keys, values and the recurrence's input. -/
def projVec (H : Vec F S1024x1024 .f32) (w : Vec F S1024x5632 .f32) : Vec F S1024x2048 .f32 :=
  Host.dotGeneral dot_S1024x1024_S1024x2048_S1024x2048_1_0_0_1_n_n none H (extractStridedSlice S1024x2048 ![0, 512] w slices_S1024x5632_S1024x2048_0_512)

/-- The keys' columns, by heads. -/
def kVec (Z : Vec F S1024x2048 .f32) : Vec F S1024x8x64 .f32 :=
  shapeCast _ (extractStridedSlice S1024x512 ![0, 0] Z slices_S1024x2048_S1024x512_0_0) shapeCasts_S1024x512_S1024x8x64

/-- The values' columns. -/
def vVec (Z : Vec F S1024x2048 .f32) : Vec F S1024x512 .f32 :=
  extractStridedSlice S1024x512 ![0, 512] Z slices_S1024x2048_S1024x512_0_512

/-- The mean square of a head. -/
def headMeanVec (Q : Vec F S1024x8x64 .f32) : Vec F S1024x8x1 .f32 :=
  Host.divf (broadcastInDim S1024x8x1 ![0, 1] bcast_S1024x8_S1024x8x1_0_1 (Host.reduceAdd (mulf Q Q) (constant S_ .f32 0x00000000#32) reducesTo_S1024x8x64_S1024x8_d2 h_S_)) (broadcastInDim S1024x8x1 ![] bcast_S_S1024x8x1 (constant S_ .f32 0x42800000#32))

/-- The norm of a head. -/
def headNormVec (Q : Vec F S1024x8x64 .f32) (M : Vec F S1024x8x1 .f32) (w : Vec F S64 .f32) : Vec F S1024x8x64 .f32 :=
  mulf (mulf Q (broadcastInDim S1024x8x64 ![0, 1, 2] bcast_S1024x8x1_S1024x8x64_0_1_2 (Host.rsqrt (addf M (broadcastInDim S1024x8x1 ![] bcast_S_S1024x8x1 (constant S_ .f32 0x358637BD#32)))))) (broadcastInDim S1024x8x64 ![0, 1, 2] bcast_S1x1x64_S1024x8x64_0_1_2 (broadcastInDim S1x1x64 ![2] bcast_S64_S1x1x64_2 w))

/-- The heads side by side. -/
def flatVec (K : Vec F S1024x8x64 .f32) : Vec F S1024x512 .f32 := shapeCast _ K shapeCasts_S1024x8x64_S1024x512

/-- Keys and values side by side. -/
def kvVec (K V : Vec F S1024x512 .f32) : Vec F S1024x1024 .bf16 :=
  truncf .bf16 (concatenate S1024x1024 1 [⟨S1024x512, (K : (⟨S1024x512, .f32⟩ : BufTy).Contents (Elt F))⟩, ⟨S1024x512, (V : (⟨S1024x512, .f32⟩ : BufTy).Contents (Elt F))⟩] concatenates_S1024x512_S1024x512_S1024x1024_d1) bitsLt_bf16_f32

/-- The recurrence's input. -/
def xrVec (Z : Vec F S1024x2048 .f32) : Vec F S1024x1024 .f32 :=
  extractStridedSlice S1024x1024 ![0, 1024] Z slices_S1024x2048_S1024x1024_0_1024

end Parts

/-! ## The parts at an index -/

theorem mean_read (X : Vec Ideal S1024x1024 .f32) (r : Fin 1024) :
    meanVec X (ix2 r 0) = Ideal.div (∑ k : Fin 1024, X (ix2 r k) * X (ix2 r k)) (Ideal.ofBits .f32 0x44800000#32) := by
  pointwise [meanVec]

theorem norm_read (X : Vec Ideal S1024x1024 .f32) (M : Vec Ideal S1024x1 .f32) (mod : Vec Ideal S8x6144 .f32)
    (w : Vec Ideal S1024 .f32) (r : Fin 1024) (ch : Fin 1024) :
    normVec X M mod w (ix2 r ch) = X (ix2 r ch) * Ideal.rsqrt (M (ix2 r 0) + Ideal.ofBits .f32 0x358637BD#32) * w (ix1 ch) *
      (1 + mod (ix2 4 ⟨1024 + ch.val, by omega⟩)) + mod (ix2 4 ⟨ch.val, by omega⟩) := by
  pointwise [normVec]

theorem proj_read (H : Vec Ideal S1024x1024 .f32) (w : Vec Ideal S1024x5632 .f32) (r : Fin 1024) (j : Fin 2048) :
    projVec H w (ix2 r j) = ∑ k : Fin 1024, H (ix2 r k) * w (ix2 k ⟨512 + j.val, by omega⟩) := by
  pointwise [projVec]

theorem k_read (Z : Vec Ideal S1024x2048 .f32) (r : Fin 1024) (h : Fin 8) (d : Fin 64) :
    kVec Z (ix3 r h d) = Z (ix2 r ⟨64 * h.val + d.val, by omega⟩) := by
  pointwise [kVec]
  exact congrArg Z (congrArg (ix2 r) (Fin.ext (by show h.val * 64 + d.val = 64 * h.val + d.val; omega)))

theorem v_read (Z : Vec Ideal S1024x2048 .f32) (r : Fin 1024) (j : Fin 512) :
    vVec Z (ix2 r j) = Z (ix2 r ⟨512 + j.val, by omega⟩) := by
  pointwise [vVec]

theorem headMean_read (Q : Vec Ideal S1024x8x64 .f32) (r : Fin 1024) (h : Fin 8) :
    headMeanVec Q (ix3 r h 0) = Ideal.div (∑ d : Fin 64, Q (ix3 r h d) * Q (ix3 r h d)) (Ideal.ofBits .f32 0x42800000#32) := by
  pointwise [headMeanVec]

theorem headNorm_read (Q : Vec Ideal S1024x8x64 .f32) (M : Vec Ideal S1024x8x1 .f32) (w : Vec Ideal S64 .f32) (r : Fin 1024)
    (h : Fin 8) (d : Fin 64) :
    headNormVec Q M w (ix3 r h d) =
      Q (ix3 r h d) * Ideal.rsqrt (M (ix3 r h 0) + Ideal.ofBits .f32 0x358637BD#32) * w (ix1 d) := by
  pointwise [headNormVec]

theorem flat_read (K : Vec Ideal S1024x8x64 .f32) (r : Fin 1024) (j : Fin 512) :
    flatVec K (ix2 r j) = K (ix3 r ⟨j.val / 64, by omega⟩ ⟨j.val % 64, by omega⟩) := by
  pointwise [flatVec]

theorem kv_read_k (K V : Vec Ideal S1024x512 .f32) (r : Fin 1024) (j : Fin 512) :
    kvVec K V (ix2 r ⟨j.val, by omega⟩) = K (ix2 r j) := by
  pointwise [kvVec]

theorem kv_read_v (K V : Vec Ideal S1024x512 .f32) (r : Fin 1024) (j : Fin 512) :
    kvVec K V (ix2 r ⟨512 + j.val, by omega⟩) = V (ix2 r j) := by
  pointwise [kvVec]

theorem xr_read (Z : Vec Ideal S1024x2048 .f32) (r : Fin 1024) (ch : Fin 1024) :
    xrVec Z (ix2 r ch) = Z (ix2 r ⟨1024 + ch.val, by omega⟩) := by
  pointwise [xrVec]

variable (m : (ℓ : Loc nD τ sig) → Buf (Elt Ideal) ℓ)

/-- The arguments a core finds. -/
def args (c : Dev nD) : Args where
  x r k := m ((c : Thread nD τ).loc main_arg0) (ix2 r k)
  mod b j := m ((c : Thread nD τ).loc main_arg1) (ix2 b j)
  w ch := m ((c : Thread nD τ).loc main_arg2) (ix1 ch)
  win k j := m ((c : Thread nD τ).loc main_arg3) (ix2 k j)
  kw d := m ((c : Thread nD τ).loc main_arg4) (ix1 d)

variable (c : Dev nD)

/-! ## The program's vectors, of a core's arguments -/

/-- The tokens' modulated norm. -/
def normedTokens : Vec Ideal S1024x1024 .f32 :=
  normVec (m (c.tc.loc main_arg0)) (meanVec (m (c.tc.loc main_arg0))) (m (c.tc.loc main_arg1)) (m (c.tc.loc main_arg2))

/-- Its projection. -/
def proj : Vec Ideal S1024x2048 .f32 := projVec (normedTokens m c) (m (c.tc.loc main_arg3))

theorem out0_eq : (res_main_v45 m c : S1024x1024.Idx → EReal) =
    kvVec (flatVec (headNormVec (kVec (proj m c)) (headMeanVec (kVec (proj m c))) (m (c.tc.loc main_arg4)))) (vVec (proj m c)) := rfl

/-- The modulated norm, of the tokens' values. -/
theorem norm_of (X : Args) (r : Fin 1024) (ch : Fin 1024)
    {T : Vec Ideal S1024x1024 .f32} {mod : Vec Ideal S8x6144 .f32} {w : Vec Ideal S1024 .f32}
    (hT : ∀ k, T (ix2 r k) = X.x r k) (hm : ∀ i j, mod (ix2 i j) = X.mod i j) (hw : ∀ k, w (ix1 k) = X.w k) :
    normVec T (meanVec T) mod w (ix2 r ch) = X.h r ch := by
  rw [norm_read, mean_read]
  unfold Args.h Cert.Merge.normed Args.modOf
  have h0 : (⟨1024 * (0 : Fin 6).val + ch.val, by have := ch.isLt; show 1024 * 0 + ch.val < 6144; omega⟩ : Fin 6144) = ⟨ch.val, by omega⟩ :=
    Fin.ext (by show 1024 * 0 + ch.val = ch.val; omega)
  simp only [hT, hm, hw, h0]
  rfl

theorem normed_args (r : Fin 1024) (ch : Fin 1024) : normedTokens m c (ix2 r ch) = (args m c).h r ch :=
  norm_of (args m c) r ch (fun _ => rfl) (fun _ _ => rfl) (fun _ => rfl)

theorem proj_args (r : Fin 1024) (j : Fin 2048) : proj m c (ix2 r j) = (args m c).z r ⟨512 + j.val, by omega⟩ := by
  unfold proj
  rw [proj_read]
  exact Finset.sum_congr rfl fun k _ => congrArg (· * _) (normed_args m c r k)

/-! ## The results -/

/-- A head's norm, of the head's values before it. -/
theorem headNorm_of {z : Fin 512 → EReal} {w : Fin 64 → EReal} (r : Fin 1024) (j : Fin 512)
    {Q : Vec Ideal S1024x8x64 .f32} {W : Vec Ideal S64 .f32}
    (hQ : ∀ (h : Fin 8) (d : Fin 64), Q (ix3 r h d) = z ⟨64 * h.val + d.val, by omega⟩) (hW : ∀ d, W (ix1 d) = w d) :
    headNormVec Q (headMeanVec Q) W (ix3 r ⟨j.val / 64, by omega⟩ ⟨j.val % 64, by omega⟩) = headNorm w z j := by
  rw [headNorm_read, headMean_read]
  unfold headNorm headScale headMean
  have hj : (⟨64 * (j.val / 64) + j.val % 64, by omega⟩ : Fin 512) = j := Fin.ext (by show 64 * (j.val / 64) + j.val % 64 = j.val; omega)
  simp only [hQ, hW, hj]

/-- The rows, of the keys and the values. -/
theorem kv_of (X : Args) (r : Fin 1024) (j : Fin 1024) {K V : Vec Ideal S1024x512 .f32}
    (hK : ∀ j : Fin 512, K (ix2 r j) = X.k r j) (hV : ∀ j : Fin 512, V (ix2 r j) = X.v r j) :
    kvVec K V (ix2 r j) = X.kv r j := by
  unfold Args.kv
  split
  · rename_i h
    exact (kv_read_k K V r ⟨j.val, h⟩).trans (hK _)
  · rename_i h
    have e : j = (⟨512 + (j.val - 512), by omega⟩ : Fin 1024) := Fin.ext (by show j.val = 512 + (j.val - 512); omega)
    exact (congrArg (fun i => kvVec K V (ix2 r i)) e).trans ((kv_read_v K V r ⟨j.val - 512, by omega⟩).trans (hV _))

theorem out0_args (r : Fin 1024) (j : Fin 1024) : (res_main_v45 m c : S1024x1024.Idx → EReal) (ix2 r j) = (args m c).kv r j := by
  rw [out0_eq]
  refine kv_of (args m c) r j (fun j => ?_) (fun j => ?_)
  · rw [flat_read]
    exact headNorm_of r j (fun h d => (k_read _ r h d).trans (proj_args m c r _)) (fun _ => rfl)
  · rw [v_read]
    refine (proj_args m c r _).trans (congrArg ((args m c).z r) (Fin.ext ?_))
    show 512 + (512 + j.val) = 1024 + j.val
    omega

theorem out1_args (r : Fin 1024) (ch : Fin 1024) : xrVec (proj m c) (ix2 r ch) = (args m c).xr r ch := by
  refine (xr_read _ r ch).trans ((proj_args m c r _).trans (congrArg ((args m c).z r) (Fin.ext ?_)))
  show 512 + (1024 + ch.val) = 1536 + ch.val
  omega

end Cert.Reference4Ideal.Hand
-- ==== Proof.Ctx.Finite.lean ====
/-
  What the precondition of the context's input projection says: its arguments are finite where it compares them.
-/
module

public import proofs.«01_k».proof.Proof.Ctx.Spec
public import proofs.«01_k».proof.Proof.Inproj.Finite
public import proofs.«01_k».proof.Proof.Gen.Pre_finite_ctx
public import Idealize.ShloMosaic.Lib.Pointwise
public import Idealize.ShloMosaic.Lib.Tactic

@[expose] public section

set_option maxRecDepth 16384

noncomputable section

namespace Cert.Pre_finite_ctx.Hand

open Cert.Pre_finite.Hand (number_of_mask)
open Idealize.ShloMosaic Cert.Pre_finite_ctx Cert.Pre_finite_ctx.Gen Cert.Ctx

variable (a0 : FVec Ideal S1024x1024 .f32) (a1 : FVec Ideal S8x6144 .f32) (a2 : FVec Ideal S1024 .f32)
  (a3 : FVec Ideal S1024x5632 .f32) (a4 : FVec Ideal S64 .f32)

theorem number_x (h : (fn a0 a1 a2 a3 a4).1 = fun _ => 1#1) (r : Fin 1024) (k : Fin 1024) :
    ∃ a : ℝ, (a0 (ix2 r k) : EReal) = (a : EReal) := by
  have e := congrFun h (ix2 r k)
  exact number_of_mask e

/-- The row of the modulation that the mask reads. -/
theorem row_read (j : Fin 2048) :
    (shapeCast S2048 (extractStridedSlice S1x2048 ![4, 0] a1 slices_S8x6144_S1x2048_4_0) shapeCasts_S1x2048_S2048 : S2048.Idx → EReal) (ix1 j) =
      a1 (ix2 4 ⟨j.val, by omega⟩) := by
  pointwise

theorem number_mod (h : (fn a0 a1 a2 a3 a4).2.1 = fun _ => 1#1) (j : Fin 6144) (hj : j.val < 2048) :
    ∃ a : ℝ, (a1 (ix2 4 j) : EReal) = (a : EReal) := by
  have e := congrFun h (ix1 ⟨j.val, hj⟩ : S2048.Idx)
  exact row_read a1 ⟨j.val, hj⟩ ▸ number_of_mask e

theorem number_w (h : (fn a0 a1 a2 a3 a4).2.2.1 = fun _ => 1#1) (k : Fin 1024) :
    ∃ a : ℝ, (a2 (ix1 k) : EReal) = (a : EReal) := by
  have e := congrFun h (ix1 k)
  exact number_of_mask e

theorem number_win (h : (fn a0 a1 a2 a3 a4).2.2.2 = fun _ => 1#1) (k : Fin 1024) (j : Fin 512) :
    ∃ a : ℝ, (a3 (ix2 k ⟨512 + j.val, by omega⟩) : EReal) = (a : EReal) := by
  have e := congrFun h (ix2 k j : S1024x512.Idx)
  have hs : (extractStridedSlice S1024x512 ![0, 512] a3 slices_S1024x5632_S1024x512_0_512 : S1024x512.Idx → EReal)
      (ix2 k j) = a3 (ix2 k ⟨512 + j.val, by omega⟩) := by
    rw [Pointwise.extractStridedSlice_apply]
    congr 1
    funext a
    apply Fin.ext
    match a with
    | ⟨0, _⟩ => show 0 + k.val = k.val; omega
    | ⟨1, _⟩ => show 512 + j.val = 512 + j.val; omega
  exact hs ▸ number_of_mask e

end Cert.Pre_finite_ctx.Hand
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Pre_finite
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Pre_finite_ctx
public import proofs.«01_k».proof.Proof.Points
public import proofs.«01_k».proof.Proof.Reference
public import proofs.«01_k».proof.Proof.Merge.Points
public import proofs.«01_k».proof.Proof.Merge.Reference
public import proofs.«01_k».proof.Proof.Inproj.Points
public import proofs.«01_k».proof.Proof.Inproj.Reference
public import proofs.«01_k».proof.Proof.Inproj.Finite
public import proofs.«01_k».proof.Proof.Ctx.Points
public import proofs.«01_k».proof.Proof.Ctx.Reference
public import proofs.«01_k».proof.Proof.Ctx.Finite
public import Idealize.ShloMosaic.Adequacy
public import Idealize.ShloMosaic.Lib.Quiescent
public import Idealize.ShloMosaic.Init

@[expose] public section

noncomputable section

namespace Cert.Proof

open Idealize.ShloMosaic Idealize.SL.Sem Cert.Kernel

/-- Memories that agree on the arguments hand both programs the same arguments. -/
theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.ReferenceIdeal.Hand.args m' c = Cert.KernelIdeal.Hand.args m c := by
  unfold Cert.ReferenceIdeal.Hand.args Cert.KernelIdeal.Hand.args
  rw [h0, h1, h2, h3, h4, h5, h6, h7, h8]

/-- Where the arguments agree, the reference's array is the kernel's. -/
theorem result_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (h : Cert.ReferenceIdeal.Hand.args m' c = Cert.KernelIdeal.Hand.args m c) :
    Cert.ReferenceIdeal.Value.out_main_v62 (Cert.ReferenceIdeal.Hand.atTrip m' c 4352) = Cert.KernelIdeal.Hand.resultArr m c := by
  funext i
  have hi : i = (ix2 (i 0) (i 1) : Cert.ReferenceIdeal.S16384x1024.Idx) := eq_ix2 i
  rw [hi]
  refine (Cert.ReferenceIdeal.Hand.out_at m' c (i 0) (i 1)).trans ?_
  rw [h]
  rfl

/-- The same of the merge's arguments. -/
theorem args_agree2 (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ)
    (c : Dev Cert.Kernel2Ideal.nD)
    (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (h1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
    (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3))
    (h4 : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4))
    (h5 : m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5))
    (h6 : m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6))
    (h7 : m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7))
    (h8 : m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8))
    (h9 : m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9))
    (h10 : m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10))
    (h11 : m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) :
    Cert.Reference2Ideal.Hand.args m' c = Cert.Kernel2Ideal.Hand.args m c := by
  unfold Cert.Reference2Ideal.Hand.args Cert.Kernel2Ideal.Hand.args
  rw [h0, h1, h2, h3, h4, h5, h6, h7, h8, h9, h10, h11]

/-- Where the arguments agree, the reference's latent stream is the kernel's. -/
theorem x1_agree (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ)
    (c : Dev Cert.Kernel2Ideal.nD) (h : Cert.Reference2Ideal.Hand.args m' c = Cert.Kernel2Ideal.Hand.args m c) :
    (shapeCast Cert.Reference2Ideal.S16384x1024 (Cert.Reference2Ideal.Hand.stream m' c) Cert.Reference2Ideal.Gen.shapeCasts_S4x4096x1024_S16384x1024
      : Cert.Reference2Ideal.S16384x1024.Idx → EReal) = Cert.Kernel2Ideal.Hand.x1Arr m c := by
  funext i
  have hi : i = (ix2 (i 0) (i 1) : Cert.Reference2Ideal.S16384x1024.Idx) := eq_ix2 i
  rw [hi]
  refine (Cert.Reference2Ideal.Hand.out0_args m' c (i 0) (i 1)).trans ?_
  rw [h]
  rfl

/-- The same of its norm. -/
theorem h2_agree (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ)
    (c : Dev Cert.Kernel2Ideal.nD) (h : Cert.Reference2Ideal.Hand.args m' c = Cert.Kernel2Ideal.Hand.args m c) :
    (Cert.Reference2Ideal.Value.res_main_v50 m' c : Cert.Reference2Ideal.S16384x1024.Idx → EReal) = Cert.Kernel2Ideal.Hand.h2Arr m c := by
  funext i
  have hi : i = (ix2 (i 0) (i 1) : Cert.Reference2Ideal.S16384x1024.Idx) := eq_ix2 i
  rw [hi]
  refine (Cert.Reference2Ideal.Hand.out1_args m' c (i 0) (i 1)).trans ?_
  rw [h]
  rfl

/-- The same of the scores. -/
theorem st_agree (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ)
    (c : Dev Cert.Kernel2Ideal.nD) (h : Cert.Reference2Ideal.Hand.args m' c = Cert.Kernel2Ideal.Hand.args m c) :
    (Cert.Reference2Ideal.Value.res_main_v52 m' c : Cert.Reference2Ideal.S16x128x16384.Idx → EReal) = Cert.Kernel2Ideal.Hand.stArr m c := by
  funext i
  have hi : i = (ix3 (i 0) (i 1) (i 2) : Cert.Reference2Ideal.S16x128x16384.Idx) := eq_ix3 i
  rw [hi]
  refine (Cert.Reference2Ideal.Hand.out2_args m' c (i 0) (i 1) (i 2)).trans ?_
  rw [h]
  rfl

/-- The same of the input projection's arguments. -/
theorem args_agree3 (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ)
    (c : Dev Cert.Kernel3Ideal.nD)
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
    (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1))
    (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2))
    (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3))
    (h4 : m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4))
    (h5 : m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) :
    Cert.Reference3Ideal.Hand.args m' c = Cert.Kernel3Ideal.Hand.args m c := by
  unfold Cert.Reference3Ideal.Hand.args Cert.Kernel3Ideal.Hand.args
  rw [h0, h1, h2, h3, h4, h5]

/-- The precondition makes the arguments finite where the claim needs it. -/
theorem args_finite (m : (ℓ : Loc Cert.Kernel3Ideal.nD Cert.Kernel3Ideal.τ Cert.Kernel3Ideal.sig) → Buf (Elt Ideal) ℓ) (c : Dev Cert.Kernel3Ideal.nD)
    (h : @Cert.Pre_Kernel3Ideal_finite Cert.Pre_finite.Gen.facts m) : (Cert.Kernel3Ideal.Hand.args m c).Finite where
  x r k := Cert.Pre_finite.Hand.number_x _ _ _ _ _ _ (h c).1 r k
  mod b j hb hj := Cert.Pre_finite.Hand.number_mod _ _ _ _ _ _ (h c).2.1 b j hb hj
  w k := Cert.Pre_finite.Hand.number_w _ _ _ _ _ _ (h c).2.2.1 k
  win k j hj := Cert.Pre_finite.Hand.number_win _ _ _ _ _ _ (h c).2.2.2 k j hj

/-- Where the arguments agree, the reference and the kernel have the same array of the queries, keys and values. -/
theorem qkv_agree (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ)
    (c : Dev Cert.Kernel3Ideal.nD) (h : Cert.Reference3Ideal.Hand.args m' c = Cert.Kernel3Ideal.Hand.args m c) :
    (Cert.Reference3Ideal.Value.res_main_v69 m' c : Cert.Reference3Ideal.S16384x1536.Idx → EReal) = Cert.Kernel3Ideal.Hand.qkvArr m c := by
  funext i
  have hi : i = (ix2 (i 0) (i 1) : Cert.Reference3Ideal.S16384x1536.Idx) := eq_ix2 i
  rw [hi]
  refine (Cert.Reference3Ideal.Hand.out0_args m' c (i 0) (i 1)).trans ?_
  rw [h]
  rfl

/-- Where the arguments agree, the reference and the kernel have the same array of the recurrence's input. -/
theorem xr_agree (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ)
    (c : Dev Cert.Kernel3Ideal.nD) (h : Cert.Reference3Ideal.Hand.args m' c = Cert.Kernel3Ideal.Hand.args m c) :
    (Cert.Reference3Ideal.Hand.xrVec (Cert.Reference3Ideal.Hand.proj m' c) : Cert.Reference3Ideal.S16384x1024.Idx → EReal) = Cert.Kernel3Ideal.Hand.xrArr m c := by
  funext i
  have hi : i = (ix2 (i 0) (i 1) : Cert.Reference3Ideal.S16384x1024.Idx) := eq_ix2 i
  rw [hi]
  refine (Cert.Reference3Ideal.Hand.out1_args m' c (i 0) (i 1)).trans ?_
  rw [h]
  rfl

/-- Where the arguments agree, the reference and the kernel have the same array of the recurrence's output gate. -/
theorem gy_agree (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ)
    (c : Dev Cert.Kernel3Ideal.nD) (h : Cert.Reference3Ideal.Hand.args m' c = Cert.Kernel3Ideal.Hand.args m c) :
    (Cert.Reference3Ideal.Value.res_main_v86 m' c : Cert.Reference3Ideal.S16384x1024.Idx → EReal) = Cert.Kernel3Ideal.Hand.gyArr m c := by
  funext i
  have hi : i = (ix2 (i 0) (i 1) : Cert.Reference3Ideal.S16384x1024.Idx) := eq_ix2 i
  rw [hi]
  refine (Cert.Reference3Ideal.Hand.out2_args m' c (i 0) (i 1)).trans ?_
  rw [h]
  rfl

/-- Where the arguments agree, the reference and the kernel have the same array of the attention branch's gate. -/
theorem sga_agree (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ)
    (c : Dev Cert.Kernel3Ideal.nD) (h : Cert.Reference3Ideal.Hand.args m' c = Cert.Kernel3Ideal.Hand.args m c) :
    (Cert.Reference3Ideal.Hand.sgaVec (Cert.Reference3Ideal.Hand.proj m' c) : Cert.Reference3Ideal.S16384x1024.Idx → EReal) = Cert.Kernel3Ideal.Hand.sgaArr m c := by
  funext i
  have hi : i = (ix2 (i 0) (i 1) : Cert.Reference3Ideal.S16384x1024.Idx) := eq_ix2 i
  rw [hi]
  refine (Cert.Reference3Ideal.Hand.out3_args m' c (i 0) (i 1)).trans ?_
  rw [h]
  rfl

/-- Where the arguments agree, the reference and the kernel have the same array of the recurrence branch's gate. -/
theorem sgb_agree (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ)
    (c : Dev Cert.Kernel3Ideal.nD) (h : Cert.Reference3Ideal.Hand.args m' c = Cert.Kernel3Ideal.Hand.args m c) :
    (Cert.Reference3Ideal.Hand.sgbVec (Cert.Reference3Ideal.Hand.proj m' c) : Cert.Reference3Ideal.S16384x1024.Idx → EReal) = Cert.Kernel3Ideal.Hand.sgbArr m c := by
  funext i
  have hi : i = (ix2 (i 0) (i 1) : Cert.Reference3Ideal.S16384x1024.Idx) := eq_ix2 i
  rw [hi]
  refine (Cert.Reference3Ideal.Hand.out4_args m' c (i 0) (i 1)).trans ?_
  rw [h]
  rfl

/-- The same of the context's input projection's arguments. -/
theorem args_agree4 (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ)
    (c : Dev Cert.Kernel4Ideal.nD)
    (h0 : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0))
    (h1 : m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1))
    (h2 : m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2))
    (h3 : m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3))
    (h4 : m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) :
    Cert.Reference4Ideal.Hand.args m' c = Cert.Kernel4Ideal.Hand.args m c := by
  unfold Cert.Reference4Ideal.Hand.args Cert.Kernel4Ideal.Hand.args
  rw [h0, h1, h2, h3, h4]

/-- The context's precondition makes its arguments finite where the claim needs it. -/
theorem args_finite4 (m : (ℓ : Loc Cert.Kernel4Ideal.nD Cert.Kernel4Ideal.τ Cert.Kernel4Ideal.sig) → Buf (Elt Ideal) ℓ) (c : Dev Cert.Kernel4Ideal.nD)
    (h : @Cert.Pre_Kernel4Ideal_finite_ctx Cert.Pre_finite_ctx.Gen.facts m) : (Cert.Kernel4Ideal.Hand.args m c).Finite where
  x r k := Cert.Pre_finite_ctx.Hand.number_x _ _ _ _ _ (h c).1 r k
  mod j hj := Cert.Pre_finite_ctx.Hand.number_mod _ _ _ _ _ (h c).2.1 j hj
  w k := Cert.Pre_finite_ctx.Hand.number_w _ _ _ _ _ (h c).2.2.1 k
  win k j := Cert.Pre_finite_ctx.Hand.number_win _ _ _ _ _ (h c).2.2.2 k j

/-- Where the arguments agree, the reference and the kernel have the same array of the context's keys and values. -/
theorem kv_agree (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ)
    (c : Dev Cert.Kernel4Ideal.nD) (h : Cert.Reference4Ideal.Hand.args m' c = Cert.Kernel4Ideal.Hand.args m c) :
    (Cert.Reference4Ideal.Value.res_main_v45 m' c : Cert.Reference4Ideal.S1024x1024.Idx → EReal) = Cert.Kernel4Ideal.Hand.kvArr m c := by
  funext i
  have hi : i = (ix2 (i 0) (i 1) : Cert.Reference4Ideal.S1024x1024.Idx) := eq_ix2 i
  rw [hi]
  refine (Cert.Reference4Ideal.Hand.out0_args m' c (i 0) (i 1)).trans ?_
  rw [h]
  rfl

/-- Where the arguments agree, the reference and the kernel have the same array of the recurrence's input at the context. -/
theorem xrc_agree (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ)
    (c : Dev Cert.Kernel4Ideal.nD) (h : Cert.Reference4Ideal.Hand.args m' c = Cert.Kernel4Ideal.Hand.args m c) :
    (Cert.Reference4Ideal.Hand.xrVec (Cert.Reference4Ideal.Hand.proj m' c) : Cert.Reference4Ideal.S1024x1024.Idx → EReal) = Cert.Kernel4Ideal.Hand.xrArr m c := by
  funext i
  have hi : i = (ix2 (i 0) (i 1) : Cert.Reference4Ideal.S1024x1024.Idx) := eq_ix2 i
  rw [hi]
  refine (Cert.Reference4Ideal.Hand.out1_args m' c (i 0) (i 1)).trans ?_
  rw [h]
  rfl

/-- The five claims about the recurrence, the five about the merge, the seven about the input projection and the seven
    about the context's. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Pre_finite.Gen.facts, Cert.Pre_finite_ctx.Gen.facts,
  fun m ρ _ => Cert.Kernel.Gen.frame m ρ,
  fun m ρ _ => Cert.KernelIdeal.Gen.frame m ρ,
  fun m ρ _ => (θ_run _ _ _).mono (fun r h => ⟨fun c => (h c).2, sem_eq_zero_of_no_sems rfl r.2⟩) (Cert.ReferenceIdeal.Value.run m ρ),
  fun m ρ _ => Cert.Kernel2.Gen.frame m ρ,
  fun m ρ _ => Cert.Kernel2Ideal.Gen.frame m ρ,
  fun m ρ _ => (θ_run _ _ _).mono (fun r h => ⟨fun c => (h c).2.2.2, sem_eq_zero_of_no_sems rfl r.2⟩) (Cert.Reference2Ideal.Value.run m ρ),
  fun m ρ _ => Cert.Kernel3.Gen.frame m ρ,
  fun m ρ _ => Cert.Kernel3Ideal.Gen.frame m ρ,
  fun m ρ _ => Cert.Kernel3Ideal.Gen.frame m ρ,
  fun m ρ _ => (θ_run _ _ _).mono (fun r h => ⟨fun c => (h c).2.2.2.2.2, sem_eq_zero_of_no_sems rfl r.2⟩) (Cert.Reference3Ideal.Value.run m ρ),
  fun m ρ _ => (θ_run _ _ _).mono (fun r h => ⟨fun c => (h c).2.2.2.2.2, sem_eq_zero_of_no_sems rfl r.2⟩) (Cert.Reference3Ideal.Value.run m ρ),
  fun m ρ _ => Cert.Kernel4.Gen.frame m ρ,
  fun m ρ _ => Cert.Kernel4Ideal.Gen.frame m ρ,
  fun m ρ _ => Cert.Kernel4Ideal.Gen.frame m ρ,
  fun m ρ _ => (θ_run _ _ _).mono (fun r h => ⟨fun c => (h c).2.2, sem_eq_zero_of_no_sems rfl r.2⟩) (Cert.Reference4Ideal.Value.run m ρ),
  fun m ρ _ => (θ_run _ _ _).mono (fun r h => ⟨fun c => (h c).2.2, sem_eq_zero_of_no_sems rfl r.2⟩) (Cert.Reference4Ideal.Value.run m ρ),
  trivial,
  fun m ρ m' ρ' _ hag => ⟨fun c => Cert.KernelIdeal.Hand.resultArr m c,
    (θ_run _ _ _).mono (fun _ h c => by
      obtain ⟨hv, ha⟩ := h c
      exact ⟨hv.trans (Cert.KernelIdeal.Hand.final m c), ha⟩) (Cert.KernelIdeal.Value.run_blocks m ρ),
    (θ_run _ _ _).mono (fun _ h c => by
      obtain ⟨hv, ha⟩ := h c
      obtain ⟨h0, h1, h2, h3, h4, h5, h6, h7, h8⟩ := hag c
      exact ⟨hv.trans (result_agree m m' c (args_agree m m' c h0 h1 h2 h3 h4 h5 h6 h7 h8)), ha⟩)
      (Cert.ReferenceIdeal.Value.run m' ρ')⟩,
  trivial,
  fun m ρ m' ρ' _ hag => ⟨fun c => Cert.Kernel2Ideal.Hand.x1Arr m c, fun c => Cert.Kernel2Ideal.Hand.h2Arr m c,
    fun c => Cert.Kernel2Ideal.Hand.stArr m c,
    (θ_run _ _ _).mono (fun _ h c => by
      obtain ⟨hx, hh, hs, ha⟩ := h c
      exact ⟨hx.trans (Cert.Kernel2Ideal.Hand.final12 m c), hh.trans (Cert.Kernel2Ideal.Hand.final13 m c),
        hs.trans (Cert.Kernel2Ideal.Hand.final14 m c), ha⟩) (Cert.Kernel2Ideal.Value.run_blocks m ρ),
    (θ_run _ _ _).mono (fun _ h c => by
      obtain ⟨hx, hh, hs, ha⟩ := h c
      obtain ⟨h0, h1, h2, h3, h4, h5, h6, h7, h8, h9, h10, h11⟩ := hag c
      have he := args_agree2 m m' c h0 h1 h2 h3 h4 h5 h6 h7 h8 h9 h10 h11
      exact ⟨hx.trans (x1_agree m m' c he), hh.trans (h2_agree m m' c he), hs.trans (st_agree m m' c he), ha⟩)
      (Cert.Reference2Ideal.Value.run m' ρ')⟩,
  trivial,
  fun m ρ m' ρ' hp hag => ⟨fun c => Cert.Kernel3Ideal.Hand.qkvArr m c, fun c => Cert.Kernel3Ideal.Hand.xrArr m c, fun c => Cert.Kernel3Ideal.Hand.gyArr m c,
    fun c => Cert.Kernel3Ideal.Hand.sgaArr m c, fun c => Cert.Kernel3Ideal.Hand.sgbArr m c,
    (θ_run _ _ _).mono (fun _ h c => by
      obtain ⟨hq, hx, hy, ha, hb, hargs⟩ := h c
      exact ⟨hq.trans (Cert.Kernel3Ideal.Hand.final7 m c (args_finite m c hp)), hx.trans (Cert.Kernel3Ideal.Hand.final8 m c), hy.trans (Cert.Kernel3Ideal.Hand.final9 m c),
        ha.trans (Cert.Kernel3Ideal.Hand.final10 m c), hb.trans (Cert.Kernel3Ideal.Hand.final11 m c), hargs⟩) (Cert.Kernel3Ideal.Value.run_blocks m ρ),
    (θ_run _ _ _).mono (fun _ h c => by
      obtain ⟨hq, hx, hy, ha, hb, hargs⟩ := h c
      obtain ⟨h0, h1, h2, h3, h4, h5⟩ := hag c
      have he := args_agree3 m m' c h0 h1 h2 h3 h4 h5
      exact ⟨hq.trans (qkv_agree m m' c he), hx.trans (xr_agree m m' c he), hy.trans (gy_agree m m' c he),
        ha.trans (sga_agree m m' c he), hb.trans (sgb_agree m m' c he), hargs⟩) (Cert.Reference3Ideal.Value.run m' ρ')⟩,
  trivial,
  fun m ρ m' ρ' hp hag => ⟨fun c => Cert.Kernel4Ideal.Hand.kvArr m c, fun c => Cert.Kernel4Ideal.Hand.xrArr m c,
    (θ_run _ _ _).mono (fun _ h c => by
      obtain ⟨hk, hx, hargs⟩ := h c
      exact ⟨hk.trans (Cert.Kernel4Ideal.Hand.final6 m c (args_finite4 m c hp)), hx.trans (Cert.Kernel4Ideal.Hand.final7 m c), hargs⟩)
      (Cert.Kernel4Ideal.Value.run_blocks m ρ),
    (θ_run _ _ _).mono (fun _ h c => by
      obtain ⟨hk, hx, hargs⟩ := h c
      obtain ⟨h0, h1, h2, h3, h4⟩ := hag c
      have he := args_agree4 m m' c h0 h1 h2 h3 h4
      exact ⟨hk.trans (kv_agree m m' c he), hx.trans (xrc_agree m m' c he), hargs⟩) (Cert.Reference4Ideal.Value.run m' ρ')⟩⟩

end Cert.Proof

end
